-- ==== Defs.lean ====
def Pre_Kernel [hPre_well_formed : Cert.Pre_well_formed.Facts] (m : (ℓ : Loc Cert.Kernel.nD Cert.Kernel.τ Cert.Kernel.sig) → Buf (Elt Bits) ℓ) : Prop :=
  ∀ c : Dev Cert.Kernel.nD,
    (Cert.Pre_well_formed.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_well_formed : Cert.Pre_well_formed.Facts] (m : (ℓ : Loc Cert.KernelIdeal.nD Cert.KernelIdeal.τ Cert.KernelIdeal.sig) → Buf (Elt Ideal) ℓ) : Prop :=
  ∀ c : Dev Cert.KernelIdeal.nD,
    (Cert.Pre_well_formed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_well_formed [hPre_well_formed : Cert.Pre_well_formed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_well_formed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] [hPre_well_formed : Cert.Pre_well_formed.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_well_formed : Cert.Pre_well_formed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_well_formed [hReferenceIdeal : Cert.ReferenceIdeal.Facts] [hPre_well_formed : Cert.Pre_well_formed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_well_formed m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_well_formed : Cert.Pre_well_formed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_v7) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_v24) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_well_formed : Cert.Pre_well_formed.Facts),
    quiescent_Kernel (hKernel := hKernel) (hPre_well_formed := hPre_well_formed)
    ∧ quiescent_KernelIdeal (hKernelIdeal := hKernelIdeal) (hPre_well_formed := hPre_well_formed)
    ∧ quiescent_ReferenceIdeal (hReferenceIdeal := hReferenceIdeal)
    ∧ quiescent_ReferenceIdeal_pre_well_formed (hReferenceIdeal := hReferenceIdeal) (hPre_well_formed := hPre_well_formed)
    ∧ preserves_Kernel_KernelIdeal
    ∧ algebraic_KernelIdeal_ReferenceIdeal (hKernelIdeal := hKernelIdeal) (hReferenceIdeal := hReferenceIdeal) (hPre_well_formed := hPre_well_formed)
-- ==== Pre_well_formed.lean ====
abbrev S40x64x96 : Shape := ⟨3, ![40, 64, 96]⟩
abbrev S32768x96 : Shape := ⟨2, ![32768, 96]⟩
abbrev S32768 : Shape := ⟨1, ![32768]⟩
abbrev S1000x135 : Shape := ⟨2, ![1000, 135]⟩
abbrev S1000 : Shape := ⟨1, ![1000]⟩
abbrev S135 : Shape := ⟨1, ![135]⟩
abbrev S1x135 : Shape := ⟨2, ![1, 135]⟩
abbrev S1000x1 : Shape := ⟨2, ![1000, 1]⟩
abbrev S_ : Shape := ⟨0, ![]⟩

class Facts : Prop where
  bcast_S135_S1x135_1 : S135.BroadcastsInDim S1x135 (![1] : Fin 1 → Fin S1x135.rank)
  bcast_S1000_S1000x1_0 : S1000.BroadcastsInDim S1000x1 (![0] : Fin 1 → Fin S1000x1.rank)
  bcast_S1x135_S1000x135_0_1 : S1x135.BroadcastsInDim S1000x135 (![0, 1] : Fin 2 → Fin S1000x135.rank)
  bcast_S1000x1_S1000x135_0_1 : S1000x1.BroadcastsInDim S1000x135 (![0, 1] : Fin 2 → Fin S1000x135.rank)
  bcast_S_S1000x135 : S_.BroadcastsInDim S1000x135 (![] : Fin 0 → Fin S1000x135.rank)
  reducesTo_S1000x135_S_d0_1 : S1000x135.ReducesTo [0, 1] S_
  h_S_ : 0 < S_.numel
  bcast_S_S32768 : S_.BroadcastsInDim S32768 (![] : Fin 0 → Fin S32768.rank)
  reducesTo_S32768_S_d0 : S32768.ReducesTo [0] S_

variable [Facts]

def fn_part1 {F : FTy → Type} [FloatOps F] (main_v13 : IVec S_ 1) (main_v18 : IVec S32768 1) : IVec S_ 1 :=
  let main_c_3 : IVec S_ 1 := constantI S_ 1 1#1
  let main_v19 : IVec S_ 1 := (fun x v => Host.reduce IntOp.andi x v reducesTo_S32768_S_d0 h_S_) main_v18 main_c_3
  let main_v20 : IVec S_ 1 := andi main_v13 main_v19
  main_v20

def fn {F : FTy → Type} [FloatOps F] (main_arg0 : FVec F S40x64x96 .bf16) (main_arg1 : FVec F S32768x96 .fp8e4m3) (main_arg2 : FVec F S32768 .f32) (main_arg3 : IVec S1000x135 32) (main_arg4 : IVec S1000 32) : IVec S_ 1 :=
  let main_v0 : IVec S135 32 := iotaInDim S135 32 0
  let main_v1 : IVec S1x135 32 := broadcastInDim S1x135 ![1] bcast_S135_S1x135_1 main_v0
  let main_v2 : IVec S1000x1 32 := broadcastInDim S1000x1 ![0] bcast_S1000_S1000x1_0 main_arg4
  let main_v3 : IVec S1000x135 32 := broadcastInDim S1000x135 ![0, 1] bcast_S1x135_S1000x135_0_1 main_v1
  let main_v4 : IVec S1000x135 32 := broadcastInDim S1000x135 ![0, 1] bcast_S1000x1_S1000x135_0_1 main_v2
  let main_v5 : IVec S1000x135 1 := cmpi .slt main_v3 main_v4
  let main_c : IVec S_ 32 := constantI S_ 32 0#32
  let main_v6 : IVec S1000x135 32 := broadcastInDim S1000x135 ![] bcast_S_S1000x135 main_c
  let main_v7 : IVec S1000x135 1 := cmpi .sge main_arg3 main_v6
  let main_c_0 : IVec S_ 32 := constantI S_ 32 32768#32
  let main_v8 : IVec S1000x135 32 := broadcastInDim S1000x135 ![] bcast_S_S1000x135 main_c_0
  let main_v9 : IVec S1000x135 1 := cmpi .slt main_arg3 main_v8
  let main_v10 : IVec S1000x135 1 := andi main_v7 main_v9
  let main_v11 : IVec S1000x135 1 := noti main_v5
  let main_v12 : IVec S1000x135 1 := ori main_v10 main_v11
  let main_c_1 : IVec S_ 1 := constantI S_ 1 1#1
  let main_v13 : IVec S_ 1 := (fun x v => Host.reduce IntOp.andi x v reducesTo_S1000x135_S_d0_1 h_S_) main_v12 main_c_1
  let main_cst : FVec F S_ .f32 := constant S_ .f32 0x00000000#32
  let main_v14 : FVec F S32768 .f32 := broadcastInDim S32768 ![] bcast_S_S32768 main_cst
  let main_v15 : IVec S32768 1 := cmpf .oge main_arg2 main_v14
  let main_cst_2 : FVec F S_ .f32 := constant S_ .f32 0x7F800000#32
  let main_v16 : FVec F S32768 .f32 := broadcastInDim S32768 ![] bcast_S_S32768 main_cst_2
  let main_v17 : IVec S32768 1 := cmpf .olt main_arg2 main_v16
  let main_v18 : IVec S32768 1 := andi main_v15 main_v17
  fn_part1 (F := F) main_v13 main_v18
-- ==== Kernel.lean ====
abbrev S40x64x96 : Shape := ⟨3, ![40, 64, 96]⟩
abbrev S32768x96 : Shape := ⟨2, ![32768, 96]⟩
abbrev S32768 : Shape := ⟨1, ![32768]⟩
abbrev S1000x135 : Shape := ⟨2, ![1000, 135]⟩
abbrev S1000 : Shape := ⟨1, ![1000]⟩
abbrev S2560x96 : Shape := ⟨2, ![2560, 96]⟩
abbrev S96x2560 : Shape := ⟨2, ![96, 2560]⟩
abbrev S_ : Shape := ⟨0, ![]⟩
abbrev S128x2560 : Shape := ⟨2, ![128, 2560]⟩
abbrev S125x8x135 : Shape := ⟨3, ![125, 8, 135]⟩
abbrev S125x1x8 : Shape := ⟨3, ![125, 1, 8]⟩
abbrev S32768x1 : Shape := ⟨2, ![32768, 1]⟩
abbrev S125x8x2560 : Shape := ⟨3, ![125, 8, 2560]⟩
abbrev S1x8x135 : Shape := ⟨3, ![1, 8, 135]⟩
abbrev S1x1x8 : Shape := ⟨3, ![1, 1, 8]⟩
abbrev S1x8x2560 : Shape := ⟨3, ![1, 8, 2560]⟩
abbrev S32776x1x128 : Shape := ⟨3, ![32776, 1, 128]⟩
abbrev S144x1x128 : Shape := ⟨3, ![144, 1, 128]⟩
abbrev S256x96 : Shape := ⟨2, ![256, 96]⟩
abbrev S256x32 : Shape := ⟨2, ![256, 32]⟩
abbrev S256x128 : Shape := ⟨2, ![256, 128]⟩
abbrev S256x1 : Shape := ⟨2, ![256, 1]⟩
abbrev S256x1x128 : Shape := ⟨3, ![256, 1, 128]⟩
abbrev S128 : Shape := ⟨1, ![128]⟩
abbrev S1x1x128 : Shape := ⟨3, ![1, 1, 128]⟩
abbrev S1x1x1 : Shape := ⟨3, ![1, 1, 1]⟩
abbrev S144x128 : Shape := ⟨2, ![144, 128]⟩
abbrev S144x2560 : Shape := ⟨2, ![144, 2560]⟩
abbrev S2560 : Shape := ⟨1, ![2560]⟩
abbrev S1x2560 : Shape := ⟨2, ![1, 2560]⟩
abbrev S1x1x2560 : Shape := ⟨3, ![1, 1, 2560]⟩
abbrev S1000x40x64 : Shape := ⟨3, ![1000, 40, 64]⟩
abbrev S1000x40 : Shape := ⟨2, ![1000, 40]⟩
abbrev S40x1000 : Shape := ⟨2, ![40, 1000]⟩

abbrev nBuf : Space → Nat
  | .hbm => 18
  | .vmem => 7
  | .smem => 4
  | _ => 0

abbrev bufTy : (tb : Table) → Fin (tcTables nBuf tb) → BufTy
  | .hbm, ⟨0, _⟩ => ⟨S40x64x96, .bf16⟩
  | .hbm, ⟨1, _⟩ => ⟨S32768x96, .fp8e4m3⟩
  | .hbm, ⟨2, _⟩ => ⟨S32768, .f32⟩
  | .hbm, ⟨3, _⟩ => ⟨S1000x135, .i32⟩
  | .hbm, ⟨4, _⟩ => ⟨S1000, .i32⟩
  | .hbm, ⟨5, _⟩ => ⟨S2560x96, .bf16⟩
  | .hbm, ⟨6, _⟩ => ⟨S96x2560, .bf16⟩
  | .hbm, ⟨7, _⟩ => ⟨S_, .i32⟩
  | .hbm, ⟨8, _⟩ => ⟨S_, .bf16⟩
  | .hbm, ⟨9, _⟩ => ⟨S128x2560, .bf16⟩
  | .hbm, ⟨10, _⟩ => ⟨S125x8x135, .i32⟩
  | .hbm, ⟨11, _⟩ => ⟨S125x1x8, .i32⟩
  | .hbm, ⟨12, _⟩ => ⟨S32768x1, .f32⟩
  | .hbm, ⟨13, _⟩ => ⟨S125x8x2560, .f32⟩
  | .hbm, ⟨14, _⟩ => ⟨S1000x40x64, .f32⟩
  | .hbm, ⟨15, _⟩ => ⟨S_, .f32⟩
  | .hbm, ⟨16, _⟩ => ⟨S1000x40, .f32⟩
  | .hbm, ⟨17, _⟩ => ⟨S40x1000, .f32⟩
  | .local _ .vmem, ⟨0, _⟩ => ⟨S32768x96, .fp8e4m3⟩
  | .local _ .vmem, ⟨1, _⟩ => ⟨S32768x1, .f32⟩
  | .local _ .vmem, ⟨2, _⟩ => ⟨S128x2560, .bf16⟩
  | .local _ .vmem, ⟨3, _⟩ => ⟨S1x8x2560, .f32⟩
  | .local _ .vmem, ⟨4, _⟩ => ⟨S1x8x2560, .f32⟩
  | .local _ .vmem, ⟨5, _⟩ => ⟨S32776x1x128, .f32⟩
  | .local _ .vmem, ⟨6, _⟩ => ⟨S144x1x128, .f32⟩
  | .local _ .smem, ⟨0, _⟩ => ⟨S1x8x135, .i32⟩
  | .local _ .smem, ⟨1, _⟩ => ⟨S1x8x135, .i32⟩
  | .local _ .smem, ⟨2, _⟩ => ⟨S1x1x8, .i32⟩
  | .local _ .smem, ⟨3, _⟩ => ⟨S1x1x8, .i32⟩
  | _, _ => ⟨S40x64x96, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_call0_v0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev cc0_stg2_0 : Ref sig .tc := ⟨.vmem, 0, rfl⟩
abbrev cc0_stg3_0 : Ref sig .tc := ⟨.vmem, 1, rfl⟩
abbrev cc0_stg4_0 : Ref sig .tc := ⟨.vmem, 2, rfl⟩
abbrev cc0_stg5_0 : Ref sig .tc := ⟨.vmem, 3, rfl⟩
abbrev cc0_stg5_1 : Ref sig .tc := ⟨.vmem, 4, rfl⟩
abbrev cc0_scratch0 : Ref sig .tc := ⟨.vmem, 5, rfl⟩
abbrev cc0_scratch1 : Ref sig .tc := ⟨.vmem, 6, rfl⟩
abbrev cc0_stg0_0 : Ref sig .tc := ⟨.smem, 0, rfl⟩
abbrev cc0_stg0_1 : Ref sig .tc := ⟨.smem, 1, rfl⟩
abbrev cc0_stg1_0 : Ref sig .tc := ⟨.smem, 2, rfl⟩
abbrev cc0_stg1_1 : Ref sig .tc := ⟨.smem, 3, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![125], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_3 : BitVec 32 := 0#32
  let c128_i32 : BitVec 32 := 128#32
  let v4 : BitVec 32 := Scalar.addi c0_i32_3 c128_i32
  let c1_i32_4 : BitVec 32 := 1#32
  ⟨c0_i32_3, v4, c1_i32_4⟩
def k0_mult1 (k0_t1 : Fin k0_t1_loop.trips) : BitVec 32 :=
  let c0_i32_3 : BitVec 32 := 0#32
  let c1_i32_4 : BitVec 32 := 1#32
  let arg9 : BitVec 32 := Scf.iv c0_i32_3 c1_i32_4 k0_t1
  let c256_i32 : BitVec 32 := 256#32
  let v9 : BitVec 32 := Scalar.muli arg9 c256_i32
  v9
def k0_off1 (k0_t1 : Fin k0_t1_loop.trips) : Fin 2 → Nat :=
  let c0_i32_3 : BitVec 32 := 0#32
  let c1_i32_4 : BitVec 32 := 1#32
  let arg9 : BitVec 32 := Scf.iv c0_i32_3 c1_i32_4 k0_t1
  let c256_i32 : BitVec 32 := 256#32
  let v9 : BitVec 32 := Scalar.muli arg9 c256_i32
  let v10 : BitVec 32 := v9
  let v11 : Index := Scalar.indexCast v10
  let c0_7 : Index := 0#32
  ![v11.toNat, 0]
def k0_off2 (k0_t1 : Fin k0_t1_loop.trips) : Fin 2 → Nat :=
  let c0_i32_3 : BitVec 32 := 0#32
  let c1_i32_4 : BitVec 32 := 1#32
  let arg9 : BitVec 32 := Scf.iv c0_i32_3 c1_i32_4 k0_t1
  let c256_i32 : BitVec 32 := 256#32
  let v9 : BitVec 32 := Scalar.muli arg9 c256_i32
  let v10 : BitVec 32 := v9
  let v17 : Index := Scalar.indexCast v10
  let c0_9 : Index := 0#32
  ![v17.toNat, 0]
def k0_off3 (k0_t1 : Fin k0_t1_loop.trips) : Fin 3 → Nat :=
  let c0_i32_3 : BitVec 32 := 0#32
  let c1_i32_4 : BitVec 32 := 1#32
  let arg9 : BitVec 32 := Scf.iv c0_i32_3 c1_i32_4 k0_t1
  let c256_i32 : BitVec 32 := 256#32
  let v9 : BitVec 32 := Scalar.muli arg9 c256_i32
  let v10 : BitVec 32 := v9
  let v22 : Index := Scalar.indexCast v10
  let c0_10 : Index := 0#32
  let c0_11 : Index := 0#32
  ![v22.toNat, 0, 0]
@[reducible] def k0_t2_loop : Scf.Loop 32 :=
  let c0_i32_1 : BitVec 32 := 0#32
  let c8_i32 : BitVec 32 := 8#32
  let v3 : BitVec 32 := Scalar.addi c0_i32_1 c8_i32
  let c1_i32 : BitVec 32 := 1#32
  ⟨c0_i32_1, v3, c1_i32⟩
def k0_off4 (k0_t2 : Fin k0_t2_loop.trips) : Fin 3 → Nat :=
  let c0 : Index := 0#32
  let c0_3 : Index := 0#32
  let c0_i32_1 : BitVec 32 := 0#32
  let c1_i32 : BitVec 32 := 1#32
  let arg9 : BitVec 32 := Scf.iv c0_i32_1 c1_i32 k0_t2
  let v4 : Index := Scalar.indexCast arg9
  ![0, 0, v4.toNat]
def k0_off5 (k0_t2 : Fin k0_t2_loop.trips) : Fin 3 → Nat :=
  let c0_5 : Index := 0#32
  let c0_i32_1 : BitVec 32 := 0#32
  let c1_i32 : BitVec 32 := 1#32
  let arg9 : BitVec 32 := Scf.iv c0_i32_1 c1_i32 k0_t2
  let v7 : Index := Scalar.indexCast arg9
  let c0_6 : Index := 0#32
  ![0, v7.toNat, 0]
def k0_off6 (v5 : BitVec 32) (v8 : BitVec 32) : Fin 3 → Nat :=
  let c0_i32_4 : BitVec 32 := 0#32
  let v6 : BitVec 1 := Scalar.cmpi .sgt v5 c0_i32_4
  let c32768_i32 : BitVec 32 := 32768#32
  let v9 : BitVec 32 := Scalar.select v6 v8 c32768_i32
  let v10 : Index := Scalar.indexCast v9
  let c0_7 : Index := 0#32
  let c0_8 : Index := 0#32
  ![v10.toNat, 0, 0]

def k0_chk1 (v5 : BitVec 32) (v8 : BitVec 32) : Prop :=
  (∀ a, (k0_off6 v5 v8) a + S1x1x128.size a ≤ S32776x1x128.size a)
theorem k0_off6_inb : ∀ (v5 : BitVec 32) (v8 : BitVec 32) (k0_hw1 : k0_chk1 v5 v8), ∀ a, (k0_off6 v5 v8) a + S1x1x128.size a ≤ S32776x1x128.size a := fun v5 v8 k0_hw1 => k0_hw1

def k0_off7 (k0_t2 : Fin k0_t2_loop.trips) : Fin 3 → Nat :=
  let c0_13 : Index := 0#32
  let c0_i32_1 : BitVec 32 := 0#32
  let c1_i32 : BitVec 32 := 1#32
  let arg9 : BitVec 32 := Scf.iv c0_i32_1 c1_i32 k0_t2
  let v17 : Index := Scalar.indexCast arg9
  let c1 : Index := 1#32
  ![0, v17.toNat, 1]
def k0_off8 (v5 : BitVec 32) (v18 : BitVec 32) : Fin 3 → Nat :=
  let c1_i32_12 : BitVec 32 := 1#32
  let v16 : BitVec 1 := Scalar.cmpi .sgt v5 c1_i32_12
  let c32768_i32_14 : BitVec 32 := 32768#32
  let v19 : BitVec 32 := Scalar.select v16 v18 c32768_i32_14
  let v20 : Index := Scalar.indexCast v19
  let c0_15 : Index := 0#32
  let c0_16 : Index := 0#32
  ![v20.toNat, 0, 0]

def k0_chk2 (v5 : BitVec 32) (v18 : BitVec 32) : Prop :=
  (∀ a, (k0_off8 v5 v18) a + S1x1x128.size a ≤ S32776x1x128.size a)
theorem k0_off8_inb : ∀ (v5 : BitVec 32) (v18 : BitVec 32) (k0_hw2 : k0_chk2 v5 v18), ∀ a, (k0_off8 v5 v18) a + S1x1x128.size a ≤ S32776x1x128.size a := fun v5 v18 k0_hw2 => k0_hw2

def k0_off9 (k0_t2 : Fin k0_t2_loop.trips) : Fin 3 → Nat :=
  let c0_20 : Index := 0#32
  let c0_i32_1 : BitVec 32 := 0#32
  let c1_i32 : BitVec 32 := 1#32
  let arg9 : BitVec 32 := Scf.iv c0_i32_1 c1_i32 k0_t2
  let v27 : Index := Scalar.indexCast arg9
  let c2 : Index := 2#32
  ![0, v27.toNat, 2]
def k0_off10 (v5 : BitVec 32) (v28 : BitVec 32) : Fin 3 → Nat :=
  let c2_i32 : BitVec 32 := 2#32
  let v26 : BitVec 1 := Scalar.cmpi .sgt v5 c2_i32
  let c32768_i32_21 : BitVec 32 := 32768#32
  let v29 : BitVec 32 := Scalar.select v26 v28 c32768_i32_21
  let v30 : Index := Scalar.indexCast v29
  let c0_22 : Index := 0#32
  let c0_23 : Index := 0#32
  ![v30.toNat, 0, 0]

def k0_chk3 (v5 : BitVec 32) (v28 : BitVec 32) : Prop :=
  (∀ a, (k0_off10 v5 v28) a + S1x1x128.size a ≤ S32776x1x128.size a)
theorem k0_off10_inb : ∀ (v5 : BitVec 32) (v28 : BitVec 32) (k0_hw3 : k0_chk3 v5 v28), ∀ a, (k0_off10 v5 v28) a + S1x1x128.size a ≤ S32776x1x128.size a := fun v5 v28 k0_hw3 => k0_hw3

def k0_off11 (k0_t2 : Fin k0_t2_loop.trips) : Fin 3 → Nat :=
  let c0_27 : Index := 0#32
  let c0_i32_1 : BitVec 32 := 0#32
  let c1_i32 : BitVec 32 := 1#32
  let arg9 : BitVec 32 := Scf.iv c0_i32_1 c1_i32 k0_t2
  let v37 : Index := Scalar.indexCast arg9
  let c3 : Index := 3#32
  ![0, v37.toNat, 3]
def k0_off12 (v5 : BitVec 32) (v38 : BitVec 32) : Fin 3 → Nat :=
  let c3_i32 : BitVec 32 := 3#32
  let v36 : BitVec 1 := Scalar.cmpi .sgt v5 c3_i32
  let c32768_i32_28 : BitVec 32 := 32768#32
  let v39 : BitVec 32 := Scalar.select v36 v38 c32768_i32_28
  let v40 : Index := Scalar.indexCast v39
  let c0_29 : Index := 0#32
  let c0_30 : Index := 0#32
  ![v40.toNat, 0, 0]

def k0_chk4 (v5 : BitVec 32) (v38 : BitVec 32) : Prop :=
  (∀ a, (k0_off12 v5 v38) a + S1x1x128.size a ≤ S32776x1x128.size a)
theorem k0_off12_inb : ∀ (v5 : BitVec 32) (v38 : BitVec 32) (k0_hw4 : k0_chk4 v5 v38), ∀ a, (k0_off12 v5 v38) a + S1x1x128.size a ≤ S32776x1x128.size a := fun v5 v38 k0_hw4 => k0_hw4

def k0_off13 (k0_t2 : Fin k0_t2_loop.trips) : Fin 3 → Nat :=
  let c0_34 : Index := 0#32
  let c0_i32_1 : BitVec 32 := 0#32
  let c1_i32 : BitVec 32 := 1#32
  let arg9 : BitVec 32 := Scf.iv c0_i32_1 c1_i32 k0_t2
  let v47 : Index := Scalar.indexCast arg9
  let c4 : Index := 4#32
  ![0, v47.toNat, 4]
def k0_off14 (v5 : BitVec 32) (v48 : BitVec 32) : Fin 3 → Nat :=
  let c4_i32 : BitVec 32 := 4#32
  let v46 : BitVec 1 := Scalar.cmpi .sgt v5 c4_i32
  let c32768_i32_35 : BitVec 32 := 32768#32
  let v49 : BitVec 32 := Scalar.select v46 v48 c32768_i32_35
  let v50 : Index := Scalar.indexCast v49
  let c0_36 : Index := 0#32
  let c0_37 : Index := 0#32
  ![v50.toNat, 0, 0]

def k0_chk5 (v5 : BitVec 32) (v48 : BitVec 32) : Prop :=
  (∀ a, (k0_off14 v5 v48) a + S1x1x128.size a ≤ S32776x1x128.size a)
theorem k0_off14_inb : ∀ (v5 : BitVec 32) (v48 : BitVec 32) (k0_hw5 : k0_chk5 v5 v48), ∀ a, (k0_off14 v5 v48) a + S1x1x128.size a ≤ S32776x1x128.size a := fun v5 v48 k0_hw5 => k0_hw5

def k0_off15 (k0_t2 : Fin k0_t2_loop.trips) : Fin 3 → Nat :=
  let c0_41 : Index := 0#32
  let c0_i32_1 : BitVec 32 := 0#32
  let c1_i32 : BitVec 32 := 1#32
  let arg9 : BitVec 32 := Scf.iv c0_i32_1 c1_i32 k0_t2
  let v57 : Index := Scalar.indexCast arg9
  let c5 : Index := 5#32
  ![0, v57.toNat, 5]
def k0_off16 (v5 : BitVec 32) (v58 : BitVec 32) : Fin 3 → Nat :=
  let c5_i32 : BitVec 32 := 5#32
  let v56 : BitVec 1 := Scalar.cmpi .sgt v5 c5_i32
  let c32768_i32_42 : BitVec 32 := 32768#32
  let v59 : BitVec 32 := Scalar.select v56 v58 c32768_i32_42
  let v60 : Index := Scalar.indexCast v59
  let c0_43 : Index := 0#32
  let c0_44 : Index := 0#32
  ![v60.toNat, 0, 0]

def k0_chk6 (v5 : BitVec 32) (v58 : BitVec 32) : Prop :=
  (∀ a, (k0_off16 v5 v58) a + S1x1x128.size a ≤ S32776x1x128.size a)
theorem k0_off16_inb : ∀ (v5 : BitVec 32) (v58 : BitVec 32) (k0_hw6 : k0_chk6 v5 v58), ∀ a, (k0_off16 v5 v58) a + S1x1x128.size a ≤ S32776x1x128.size a := fun v5 v58 k0_hw6 => k0_hw6

def k0_off17 (k0_t2 : Fin k0_t2_loop.trips) : Fin 3 → Nat :=
  let c0_48 : Index := 0#32
  let c0_i32_1 : BitVec 32 := 0#32
  let c1_i32 : BitVec 32 := 1#32
  let arg9 : BitVec 32 := Scf.iv c0_i32_1 c1_i32 k0_t2
  let v67 : Index := Scalar.indexCast arg9
  let c6 : Index := 6#32
  ![0, v67.toNat, 6]
def k0_off18 (v5 : BitVec 32) (v68 : BitVec 32) : Fin 3 → Nat :=
  let c6_i32 : BitVec 32 := 6#32
  let v66 : BitVec 1 := Scalar.cmpi .sgt v5 c6_i32
  let c32768_i32_49 : BitVec 32 := 32768#32
  let v69 : BitVec 32 := Scalar.select v66 v68 c32768_i32_49
  let v70 : Index := Scalar.indexCast v69
  let c0_50 : Index := 0#32
  let c0_51 : Index := 0#32
  ![v70.toNat, 0, 0]

def k0_chk7 (v5 : BitVec 32) (v68 : BitVec 32) : Prop :=
  (∀ a, (k0_off18 v5 v68) a + S1x1x128.size a ≤ S32776x1x128.size a)
theorem k0_off18_inb : ∀ (v5 : BitVec 32) (v68 : BitVec 32) (k0_hw7 : k0_chk7 v5 v68), ∀ a, (k0_off18 v5 v68) a + S1x1x128.size a ≤ S32776x1x128.size a := fun v5 v68 k0_hw7 => k0_hw7

def k0_off19 (k0_t2 : Fin k0_t2_loop.trips) : Fin 3 → Nat :=
  let c0_55 : Index := 0#32
  let c0_i32_1 : BitVec 32 := 0#32
  let c1_i32 : BitVec 32 := 1#32
  let arg9 : BitVec 32 := Scf.iv c0_i32_1 c1_i32 k0_t2
  let v77 : Index := Scalar.indexCast arg9
  let c7 : Index := 7#32
  ![0, v77.toNat, 7]
def k0_off20 (v5 : BitVec 32) (v78 : BitVec 32) : Fin 3 → Nat :=
  let c7_i32 : BitVec 32 := 7#32
  let v76 : BitVec 1 := Scalar.cmpi .sgt v5 c7_i32
  let c32768_i32_56 : BitVec 32 := 32768#32
  let v79 : BitVec 32 := Scalar.select v76 v78 c32768_i32_56
  let v80 : Index := Scalar.indexCast v79
  let c0_57 : Index := 0#32
  let c0_58 : Index := 0#32
  ![v80.toNat, 0, 0]

def k0_chk8 (v5 : BitVec 32) (v78 : BitVec 32) : Prop :=
  (∀ a, (k0_off20 v5 v78) a + S1x1x128.size a ≤ S32776x1x128.size a)
theorem k0_off20_inb : ∀ (v5 : BitVec 32) (v78 : BitVec 32) (k0_hw8 : k0_chk8 v5 v78), ∀ a, (k0_off20 v5 v78) a + S1x1x128.size a ≤ S32776x1x128.size a := fun v5 v78 k0_hw8 => k0_hw8

def k0_off21 (k0_t2 : Fin k0_t2_loop.trips) : Fin 3 → Nat :=
  let c0_63 : Index := 0#32
  let c0_i32_1 : BitVec 32 := 0#32
  let c1_i32 : BitVec 32 := 1#32
  let arg9 : BitVec 32 := Scf.iv c0_i32_1 c1_i32 k0_t2
  let v87 : Index := Scalar.indexCast arg9
  let c8 : Index := 8#32
  ![0, v87.toNat, 8]
def k0_off22 (v5 : BitVec 32) (v88 : BitVec 32) : Fin 3 → Nat :=
  let c8_i32_62 : BitVec 32 := 8#32
  let v86 : BitVec 1 := Scalar.cmpi .sgt v5 c8_i32_62
  let c32768_i32_64 : BitVec 32 := 32768#32
  let v89 : BitVec 32 := Scalar.select v86 v88 c32768_i32_64
  let v90 : Index := Scalar.indexCast v89
  let c0_65 : Index := 0#32
  let c0_66 : Index := 0#32
  ![v90.toNat, 0, 0]

def k0_chk9 (v5 : BitVec 32) (v88 : BitVec 32) : Prop :=
  (∀ a, (k0_off22 v5 v88) a + S1x1x128.size a ≤ S32776x1x128.size a)
theorem k0_off22_inb : ∀ (v5 : BitVec 32) (v88 : BitVec 32) (k0_hw9 : k0_chk9 v5 v88), ∀ a, (k0_off22 v5 v88) a + S1x1x128.size a ≤ S32776x1x128.size a := fun v5 v88 k0_hw9 => k0_hw9

def k0_off23 (k0_t2 : Fin k0_t2_loop.trips) : Fin 3 → Nat :=
  let c0_70 : Index := 0#32
  let c0_i32_1 : BitVec 32 := 0#32
  let c1_i32 : BitVec 32 := 1#32
  let arg9 : BitVec 32 := Scf.iv c0_i32_1 c1_i32 k0_t2
  let v97 : Index := Scalar.indexCast arg9
  let c9 : Index := 9#32
  ![0, v97.toNat, 9]
def k0_off24 (v5 : BitVec 32) (v98 : BitVec 32) : Fin 3 → Nat :=
  let c9_i32 : BitVec 32 := 9#32
  let v96 : BitVec 1 := Scalar.cmpi .sgt v5 c9_i32
  let c32768_i32_71 : BitVec 32 := 32768#32
  let v99 : BitVec 32 := Scalar.select v96 v98 c32768_i32_71
  let v100 : Index := Scalar.indexCast v99
  let c0_72 : Index := 0#32
  let c0_73 : Index := 0#32
  ![v100.toNat, 0, 0]

def k0_chk10 (v5 : BitVec 32) (v98 : BitVec 32) : Prop :=
  (∀ a, (k0_off24 v5 v98) a + S1x1x128.size a ≤ S32776x1x128.size a)
theorem k0_off24_inb : ∀ (v5 : BitVec 32) (v98 : BitVec 32) (k0_hw10 : k0_chk10 v5 v98), ∀ a, (k0_off24 v5 v98) a + S1x1x128.size a ≤ S32776x1x128.size a := fun v5 v98 k0_hw10 => k0_hw10

def k0_off25 (k0_t2 : Fin k0_t2_loop.trips) : Fin 3 → Nat :=
  let c0_77 : Index := 0#32
  let c0_i32_1 : BitVec 32 := 0#32
  let c1_i32 : BitVec 32 := 1#32
  let arg9 : BitVec 32 := Scf.iv c0_i32_1 c1_i32 k0_t2
  let v107 : Index := Scalar.indexCast arg9
  let c10 : Index := 10#32
  ![0, v107.toNat, 10]
def k0_off26 (v5 : BitVec 32) (v108 : BitVec 32) : Fin 3 → Nat :=
  let c10_i32 : BitVec 32 := 10#32
  let v106 : BitVec 1 := Scalar.cmpi .sgt v5 c10_i32
  let c32768_i32_78 : BitVec 32 := 32768#32
  let v109 : BitVec 32 := Scalar.select v106 v108 c32768_i32_78
  let v110 : Index := Scalar.indexCast v109
  let c0_79 : Index := 0#32
  let c0_80 : Index := 0#32
  ![v110.toNat, 0, 0]

def k0_chk11 (v5 : BitVec 32) (v108 : BitVec 32) : Prop :=
  (∀ a, (k0_off26 v5 v108) a + S1x1x128.size a ≤ S32776x1x128.size a)
theorem k0_off26_inb : ∀ (v5 : BitVec 32) (v108 : BitVec 32) (k0_hw11 : k0_chk11 v5 v108), ∀ a, (k0_off26 v5 v108) a + S1x1x128.size a ≤ S32776x1x128.size a := fun v5 v108 k0_hw11 => k0_hw11

def k0_off27 (k0_t2 : Fin k0_t2_loop.trips) : Fin 3 → Nat :=
  let c0_84 : Index := 0#32
  let c0_i32_1 : BitVec 32 := 0#32
  let c1_i32 : BitVec 32 := 1#32
  let arg9 : BitVec 32 := Scf.iv c0_i32_1 c1_i32 k0_t2
  let v117 : Index := Scalar.indexCast arg9
  let c11 : Index := 11#32
  ![0, v117.toNat, 11]
def k0_off28 (v5 : BitVec 32) (v118 : BitVec 32) : Fin 3 → Nat :=
  let c11_i32 : BitVec 32 := 11#32
  let v116 : BitVec 1 := Scalar.cmpi .sgt v5 c11_i32
  let c32768_i32_85 : BitVec 32 := 32768#32
  let v119 : BitVec 32 := Scalar.select v116 v118 c32768_i32_85
  let v120 : Index := Scalar.indexCast v119
  let c0_86 : Index := 0#32
  let c0_87 : Index := 0#32
  ![v120.toNat, 0, 0]

def k0_chk12 (v5 : BitVec 32) (v118 : BitVec 32) : Prop :=
  (∀ a, (k0_off28 v5 v118) a + S1x1x128.size a ≤ S32776x1x128.size a)
theorem k0_off28_inb : ∀ (v5 : BitVec 32) (v118 : BitVec 32) (k0_hw12 : k0_chk12 v5 v118), ∀ a, (k0_off28 v5 v118) a + S1x1x128.size a ≤ S32776x1x128.size a := fun v5 v118 k0_hw12 => k0_hw12

def k0_off29 (k0_t2 : Fin k0_t2_loop.trips) : Fin 3 → Nat :=
  let c0_91 : Index := 0#32
  let c0_i32_1 : BitVec 32 := 0#32
  let c1_i32 : BitVec 32 := 1#32
  let arg9 : BitVec 32 := Scf.iv c0_i32_1 c1_i32 k0_t2
  let v127 : Index := Scalar.indexCast arg9
  let c12 : Index := 12#32
  ![0, v127.toNat, 12]
def k0_off30 (v5 : BitVec 32) (v128 : BitVec 32) : Fin 3 → Nat :=
  let c12_i32 : BitVec 32 := 12#32
  let v126 : BitVec 1 := Scalar.cmpi .sgt v5 c12_i32
  let c32768_i32_92 : BitVec 32 := 32768#32
  let v129 : BitVec 32 := Scalar.select v126 v128 c32768_i32_92
  let v130 : Index := Scalar.indexCast v129
  let c0_93 : Index := 0#32
  let c0_94 : Index := 0#32
  ![v130.toNat, 0, 0]

def k0_chk13 (v5 : BitVec 32) (v128 : BitVec 32) : Prop :=
  (∀ a, (k0_off30 v5 v128) a + S1x1x128.size a ≤ S32776x1x128.size a)
theorem k0_off30_inb : ∀ (v5 : BitVec 32) (v128 : BitVec 32) (k0_hw13 : k0_chk13 v5 v128), ∀ a, (k0_off30 v5 v128) a + S1x1x128.size a ≤ S32776x1x128.size a := fun v5 v128 k0_hw13 => k0_hw13

def k0_off31 (k0_t2 : Fin k0_t2_loop.trips) : Fin 3 → Nat :=
  let c0_98 : Index := 0#32
  let c0_i32_1 : BitVec 32 := 0#32
  let c1_i32 : BitVec 32 := 1#32
  let arg9 : BitVec 32 := Scf.iv c0_i32_1 c1_i32 k0_t2
  let v137 : Index := Scalar.indexCast arg9
  let c13 : Index := 13#32
  ![0, v137.toNat, 13]
def k0_off32 (v5 : BitVec 32) (v138 : BitVec 32) : Fin 3 → Nat :=
  let c13_i32 : BitVec 32 := 13#32
  let v136 : BitVec 1 := Scalar.cmpi .sgt v5 c13_i32
  let c32768_i32_99 : BitVec 32 := 32768#32
  let v139 : BitVec 32 := Scalar.select v136 v138 c32768_i32_99
  let v140 : Index := Scalar.indexCast v139
  let c0_100 : Index := 0#32
  let c0_101 : Index := 0#32
  ![v140.toNat, 0, 0]

def k0_chk14 (v5 : BitVec 32) (v138 : BitVec 32) : Prop :=
  (∀ a, (k0_off32 v5 v138) a + S1x1x128.size a ≤ S32776x1x128.size a)
theorem k0_off32_inb : ∀ (v5 : BitVec 32) (v138 : BitVec 32) (k0_hw14 : k0_chk14 v5 v138), ∀ a, (k0_off32 v5 v138) a + S1x1x128.size a ≤ S32776x1x128.size a := fun v5 v138 k0_hw14 => k0_hw14

def k0_off33 (k0_t2 : Fin k0_t2_loop.trips) : Fin 3 → Nat :=
  let c0_105 : Index := 0#32
  let c0_i32_1 : BitVec 32 := 0#32
  let c1_i32 : BitVec 32 := 1#32
  let arg9 : BitVec 32 := Scf.iv c0_i32_1 c1_i32 k0_t2
  let v147 : Index := Scalar.indexCast arg9
  let c14 : Index := 14#32
  ![0, v147.toNat, 14]
def k0_off34 (v5 : BitVec 32) (v148 : BitVec 32) : Fin 3 → Nat :=
  let c14_i32 : BitVec 32 := 14#32
  let v146 : BitVec 1 := Scalar.cmpi .sgt v5 c14_i32
  let c32768_i32_106 : BitVec 32 := 32768#32
  let v149 : BitVec 32 := Scalar.select v146 v148 c32768_i32_106
  let v150 : Index := Scalar.indexCast v149
  let c0_107 : Index := 0#32
  let c0_108 : Index := 0#32
  ![v150.toNat, 0, 0]

def k0_chk15 (v5 : BitVec 32) (v148 : BitVec 32) : Prop :=
  (∀ a, (k0_off34 v5 v148) a + S1x1x128.size a ≤ S32776x1x128.size a)
theorem k0_off34_inb : ∀ (v5 : BitVec 32) (v148 : BitVec 32) (k0_hw15 : k0_chk15 v5 v148), ∀ a, (k0_off34 v5 v148) a + S1x1x128.size a ≤ S32776x1x128.size a := fun v5 v148 k0_hw15 => k0_hw15

def k0_off35 (k0_t2 : Fin k0_t2_loop.trips) : Fin 3 → Nat :=
  let c0_112 : Index := 0#32
  let c0_i32_1 : BitVec 32 := 0#32
  let c1_i32 : BitVec 32 := 1#32
  let arg9 : BitVec 32 := Scf.iv c0_i32_1 c1_i32 k0_t2
  let v157 : Index := Scalar.indexCast arg9
  let c15 : Index := 15#32
  ![0, v157.toNat, 15]
def k0_off36 (v5 : BitVec 32) (v158 : BitVec 32) : Fin 3 → Nat :=
  let c15_i32 : BitVec 32 := 15#32
  let v156 : BitVec 1 := Scalar.cmpi .sgt v5 c15_i32
  let c32768_i32_113 : BitVec 32 := 32768#32
  let v159 : BitVec 32 := Scalar.select v156 v158 c32768_i32_113
  let v160 : Index := Scalar.indexCast v159
  let c0_114 : Index := 0#32
  let c0_115 : Index := 0#32
  ![v160.toNat, 0, 0]

def k0_chk16 (v5 : BitVec 32) (v158 : BitVec 32) : Prop :=
  (∀ a, (k0_off36 v5 v158) a + S1x1x128.size a ≤ S32776x1x128.size a)
theorem k0_off36_inb : ∀ (v5 : BitVec 32) (v158 : BitVec 32) (k0_hw16 : k0_chk16 v5 v158), ∀ a, (k0_off36 v5 v158) a + S1x1x128.size a ≤ S32776x1x128.size a := fun v5 v158 k0_hw16 => k0_hw16

def k0_off37 (k0_t2 : Fin k0_t2_loop.trips) : Fin 3 → Nat :=
  let c0_119 : Index := 0#32
  let c0_i32_1 : BitVec 32 := 0#32
  let c1_i32 : BitVec 32 := 1#32
  let arg9 : BitVec 32 := Scf.iv c0_i32_1 c1_i32 k0_t2
  let v167 : Index := Scalar.indexCast arg9
  let c16 : Index := 16#32
  ![0, v167.toNat, 16]
def k0_off38 (v5 : BitVec 32) (v168 : BitVec 32) : Fin 3 → Nat :=
  let c16_i32 : BitVec 32 := 16#32
  let v166 : BitVec 1 := Scalar.cmpi .sgt v5 c16_i32
  let c32768_i32_120 : BitVec 32 := 32768#32
  let v169 : BitVec 32 := Scalar.select v166 v168 c32768_i32_120
  let v170 : Index := Scalar.indexCast v169
  let c0_121 : Index := 0#32
  let c0_122 : Index := 0#32
  ![v170.toNat, 0, 0]

def k0_chk17 (v5 : BitVec 32) (v168 : BitVec 32) : Prop :=
  (∀ a, (k0_off38 v5 v168) a + S1x1x128.size a ≤ S32776x1x128.size a)
theorem k0_off38_inb : ∀ (v5 : BitVec 32) (v168 : BitVec 32) (k0_hw17 : k0_chk17 v5 v168), ∀ a, (k0_off38 v5 v168) a + S1x1x128.size a ≤ S32776x1x128.size a := fun v5 v168 k0_hw17 => k0_hw17

def k0_off39 (k0_t2 : Fin k0_t2_loop.trips) : Fin 3 → Nat :=
  let c0_126 : Index := 0#32
  let c0_i32_1 : BitVec 32 := 0#32
  let c1_i32 : BitVec 32 := 1#32
  let arg9 : BitVec 32 := Scf.iv c0_i32_1 c1_i32 k0_t2
  let v177 : Index := Scalar.indexCast arg9
  let c17 : Index := 17#32
  ![0, v177.toNat, 17]
def k0_off40 (v5 : BitVec 32) (v178 : BitVec 32) : Fin 3 → Nat :=
  let c17_i32 : BitVec 32 := 17#32
  let v176 : BitVec 1 := Scalar.cmpi .sgt v5 c17_i32
  let c32768_i32_127 : BitVec 32 := 32768#32
  let v179 : BitVec 32 := Scalar.select v176 v178 c32768_i32_127
  let v180 : Index := Scalar.indexCast v179
  let c0_128 : Index := 0#32
  let c0_129 : Index := 0#32
  ![v180.toNat, 0, 0]

def k0_chk18 (v5 : BitVec 32) (v178 : BitVec 32) : Prop :=
  (∀ a, (k0_off40 v5 v178) a + S1x1x128.size a ≤ S32776x1x128.size a)
theorem k0_off40_inb : ∀ (v5 : BitVec 32) (v178 : BitVec 32) (k0_hw18 : k0_chk18 v5 v178), ∀ a, (k0_off40 v5 v178) a + S1x1x128.size a ≤ S32776x1x128.size a := fun v5 v178 k0_hw18 => k0_hw18

def k0_off41 (k0_t2 : Fin k0_t2_loop.trips) : Fin 3 → Nat :=
  let c0_133 : Index := 0#32
  let c0_i32_1 : BitVec 32 := 0#32
  let c1_i32 : BitVec 32 := 1#32
  let arg9 : BitVec 32 := Scf.iv c0_i32_1 c1_i32 k0_t2
  let v187 : Index := Scalar.indexCast arg9
  let c18 : Index := 18#32
  ![0, v187.toNat, 18]
def k0_off42 (v5 : BitVec 32) (v188 : BitVec 32) : Fin 3 → Nat :=
  let c18_i32 : BitVec 32 := 18#32
  let v186 : BitVec 1 := Scalar.cmpi .sgt v5 c18_i32
  let c32768_i32_134 : BitVec 32 := 32768#32
  let v189 : BitVec 32 := Scalar.select v186 v188 c32768_i32_134
  let v190 : Index := Scalar.indexCast v189
  let c0_135 : Index := 0#32
  let c0_136 : Index := 0#32
  ![v190.toNat, 0, 0]

def k0_chk19 (v5 : BitVec 32) (v188 : BitVec 32) : Prop :=
  (∀ a, (k0_off42 v5 v188) a + S1x1x128.size a ≤ S32776x1x128.size a)
theorem k0_off42_inb : ∀ (v5 : BitVec 32) (v188 : BitVec 32) (k0_hw19 : k0_chk19 v5 v188), ∀ a, (k0_off42 v5 v188) a + S1x1x128.size a ≤ S32776x1x128.size a := fun v5 v188 k0_hw19 => k0_hw19

def k0_off43 (k0_t2 : Fin k0_t2_loop.trips) : Fin 3 → Nat :=
  let c0_140 : Index := 0#32
  let c0_i32_1 : BitVec 32 := 0#32
  let c1_i32 : BitVec 32 := 1#32
  let arg9 : BitVec 32 := Scf.iv c0_i32_1 c1_i32 k0_t2
  let v197 : Index := Scalar.indexCast arg9
  let c19 : Index := 19#32
  ![0, v197.toNat, 19]
def k0_off44 (v5 : BitVec 32) (v198 : BitVec 32) : Fin 3 → Nat :=
  let c19_i32 : BitVec 32 := 19#32
  let v196 : BitVec 1 := Scalar.cmpi .sgt v5 c19_i32
  let c32768_i32_141 : BitVec 32 := 32768#32
  let v199 : BitVec 32 := Scalar.select v196 v198 c32768_i32_141
  let v200 : Index := Scalar.indexCast v199
  let c0_142 : Index := 0#32
  let c0_143 : Index := 0#32
  ![v200.toNat, 0, 0]

def k0_chk20 (v5 : BitVec 32) (v198 : BitVec 32) : Prop :=
  (∀ a, (k0_off44 v5 v198) a + S1x1x128.size a ≤ S32776x1x128.size a)
theorem k0_off44_inb : ∀ (v5 : BitVec 32) (v198 : BitVec 32) (k0_hw20 : k0_chk20 v5 v198), ∀ a, (k0_off44 v5 v198) a + S1x1x128.size a ≤ S32776x1x128.size a := fun v5 v198 k0_hw20 => k0_hw20

def k0_off45 (k0_t2 : Fin k0_t2_loop.trips) : Fin 3 → Nat :=
  let c0_147 : Index := 0#32
  let c0_i32_1 : BitVec 32 := 0#32
  let c1_i32 : BitVec 32 := 1#32
  let arg9 : BitVec 32 := Scf.iv c0_i32_1 c1_i32 k0_t2
  let v207 : Index := Scalar.indexCast arg9
  let c20 : Index := 20#32
  ![0, v207.toNat, 20]
def k0_off46 (v5 : BitVec 32) (v208 : BitVec 32) : Fin 3 → Nat :=
  let c20_i32 : BitVec 32 := 20#32
  let v206 : BitVec 1 := Scalar.cmpi .sgt v5 c20_i32
  let c32768_i32_148 : BitVec 32 := 32768#32
  let v209 : BitVec 32 := Scalar.select v206 v208 c32768_i32_148
  let v210 : Index := Scalar.indexCast v209
  let c0_149 : Index := 0#32
  let c0_150 : Index := 0#32
  ![v210.toNat, 0, 0]

def k0_chk21 (v5 : BitVec 32) (v208 : BitVec 32) : Prop :=
  (∀ a, (k0_off46 v5 v208) a + S1x1x128.size a ≤ S32776x1x128.size a)
theorem k0_off46_inb : ∀ (v5 : BitVec 32) (v208 : BitVec 32) (k0_hw21 : k0_chk21 v5 v208), ∀ a, (k0_off46 v5 v208) a + S1x1x128.size a ≤ S32776x1x128.size a := fun v5 v208 k0_hw21 => k0_hw21

def k0_off47 (k0_t2 : Fin k0_t2_loop.trips) : Fin 3 → Nat :=
  let c0_154 : Index := 0#32
  let c0_i32_1 : BitVec 32 := 0#32
  let c1_i32 : BitVec 32 := 1#32
  let arg9 : BitVec 32 := Scf.iv c0_i32_1 c1_i32 k0_t2
  let v217 : Index := Scalar.indexCast arg9
  let c21 : Index := 21#32
  ![0, v217.toNat, 21]
def k0_off48 (v5 : BitVec 32) (v218 : BitVec 32) : Fin 3 → Nat :=
  let c21_i32 : BitVec 32 := 21#32
  let v216 : BitVec 1 := Scalar.cmpi .sgt v5 c21_i32
  let c32768_i32_155 : BitVec 32 := 32768#32
  let v219 : BitVec 32 := Scalar.select v216 v218 c32768_i32_155
  let v220 : Index := Scalar.indexCast v219
  let c0_156 : Index := 0#32
  let c0_157 : Index := 0#32
  ![v220.toNat, 0, 0]

def k0_chk22 (v5 : BitVec 32) (v218 : BitVec 32) : Prop :=
  (∀ a, (k0_off48 v5 v218) a + S1x1x128.size a ≤ S32776x1x128.size a)
theorem k0_off48_inb : ∀ (v5 : BitVec 32) (v218 : BitVec 32) (k0_hw22 : k0_chk22 v5 v218), ∀ a, (k0_off48 v5 v218) a + S1x1x128.size a ≤ S32776x1x128.size a := fun v5 v218 k0_hw22 => k0_hw22

def k0_off49 (k0_t2 : Fin k0_t2_loop.trips) : Fin 3 → Nat :=
  let c0_161 : Index := 0#32
  let c0_i32_1 : BitVec 32 := 0#32
  let c1_i32 : BitVec 32 := 1#32
  let arg9 : BitVec 32 := Scf.iv c0_i32_1 c1_i32 k0_t2
  let v227 : Index := Scalar.indexCast arg9
  let c22 : Index := 22#32
  ![0, v227.toNat, 22]
def k0_off50 (v5 : BitVec 32) (v228 : BitVec 32) : Fin 3 → Nat :=
  let c22_i32 : BitVec 32 := 22#32
  let v226 : BitVec 1 := Scalar.cmpi .sgt v5 c22_i32
  let c32768_i32_162 : BitVec 32 := 32768#32
  let v229 : BitVec 32 := Scalar.select v226 v228 c32768_i32_162
  let v230 : Index := Scalar.indexCast v229
  let c0_163 : Index := 0#32
  let c0_164 : Index := 0#32
  ![v230.toNat, 0, 0]

def k0_chk23 (v5 : BitVec 32) (v228 : BitVec 32) : Prop :=
  (∀ a, (k0_off50 v5 v228) a + S1x1x128.size a ≤ S32776x1x128.size a)
theorem k0_off50_inb : ∀ (v5 : BitVec 32) (v228 : BitVec 32) (k0_hw23 : k0_chk23 v5 v228), ∀ a, (k0_off50 v5 v228) a + S1x1x128.size a ≤ S32776x1x128.size a := fun v5 v228 k0_hw23 => k0_hw23

def k0_off51 (k0_t2 : Fin k0_t2_loop.trips) : Fin 3 → Nat :=
  let c0_168 : Index := 0#32
  let c0_i32_1 : BitVec 32 := 0#32
  let c1_i32 : BitVec 32 := 1#32
  let arg9 : BitVec 32 := Scf.iv c0_i32_1 c1_i32 k0_t2
  let v237 : Index := Scalar.indexCast arg9
  let c23 : Index := 23#32
  ![0, v237.toNat, 23]
def k0_off52 (v5 : BitVec 32) (v238 : BitVec 32) : Fin 3 → Nat :=
  let c23_i32 : BitVec 32 := 23#32
  let v236 : BitVec 1 := Scalar.cmpi .sgt v5 c23_i32
  let c32768_i32_169 : BitVec 32 := 32768#32
  let v239 : BitVec 32 := Scalar.select v236 v238 c32768_i32_169
  let v240 : Index := Scalar.indexCast v239
  let c0_170 : Index := 0#32
  let c0_171 : Index := 0#32
  ![v240.toNat, 0, 0]

def k0_chk24 (v5 : BitVec 32) (v238 : BitVec 32) : Prop :=
  (∀ a, (k0_off52 v5 v238) a + S1x1x128.size a ≤ S32776x1x128.size a)
theorem k0_off52_inb : ∀ (v5 : BitVec 32) (v238 : BitVec 32) (k0_hw24 : k0_chk24 v5 v238), ∀ a, (k0_off52 v5 v238) a + S1x1x128.size a ≤ S32776x1x128.size a := fun v5 v238 k0_hw24 => k0_hw24

def k0_off53 (k0_t2 : Fin k0_t2_loop.trips) : Fin 3 → Nat :=
  let c0_175 : Index := 0#32
  let c0_i32_1 : BitVec 32 := 0#32
  let c1_i32 : BitVec 32 := 1#32
  let arg9 : BitVec 32 := Scf.iv c0_i32_1 c1_i32 k0_t2
  let v247 : Index := Scalar.indexCast arg9
  let c24 : Index := 24#32
  ![0, v247.toNat, 24]
def k0_off54 (v5 : BitVec 32) (v248 : BitVec 32) : Fin 3 → Nat :=
  let c24_i32 : BitVec 32 := 24#32
  let v246 : BitVec 1 := Scalar.cmpi .sgt v5 c24_i32
  let c32768_i32_176 : BitVec 32 := 32768#32
  let v249 : BitVec 32 := Scalar.select v246 v248 c32768_i32_176
  let v250 : Index := Scalar.indexCast v249
  let c0_177 : Index := 0#32
  let c0_178 : Index := 0#32
  ![v250.toNat, 0, 0]

def k0_chk25 (v5 : BitVec 32) (v248 : BitVec 32) : Prop :=
  (∀ a, (k0_off54 v5 v248) a + S1x1x128.size a ≤ S32776x1x128.size a)
theorem k0_off54_inb : ∀ (v5 : BitVec 32) (v248 : BitVec 32) (k0_hw25 : k0_chk25 v5 v248), ∀ a, (k0_off54 v5 v248) a + S1x1x128.size a ≤ S32776x1x128.size a := fun v5 v248 k0_hw25 => k0_hw25

def k0_off55 (k0_t2 : Fin k0_t2_loop.trips) : Fin 3 → Nat :=
  let c0_182 : Index := 0#32
  let c0_i32_1 : BitVec 32 := 0#32
  let c1_i32 : BitVec 32 := 1#32
  let arg9 : BitVec 32 := Scf.iv c0_i32_1 c1_i32 k0_t2
  let v257 : Index := Scalar.indexCast arg9
  let c25 : Index := 25#32
  ![0, v257.toNat, 25]
def k0_off56 (v5 : BitVec 32) (v258 : BitVec 32) : Fin 3 → Nat :=
  let c25_i32 : BitVec 32 := 25#32
  let v256 : BitVec 1 := Scalar.cmpi .sgt v5 c25_i32
  let c32768_i32_183 : BitVec 32 := 32768#32
  let v259 : BitVec 32 := Scalar.select v256 v258 c32768_i32_183
  let v260 : Index := Scalar.indexCast v259
  let c0_184 : Index := 0#32
  let c0_185 : Index := 0#32
  ![v260.toNat, 0, 0]

def k0_chk26 (v5 : BitVec 32) (v258 : BitVec 32) : Prop :=
  (∀ a, (k0_off56 v5 v258) a + S1x1x128.size a ≤ S32776x1x128.size a)
theorem k0_off56_inb : ∀ (v5 : BitVec 32) (v258 : BitVec 32) (k0_hw26 : k0_chk26 v5 v258), ∀ a, (k0_off56 v5 v258) a + S1x1x128.size a ≤ S32776x1x128.size a := fun v5 v258 k0_hw26 => k0_hw26

def k0_off57 (k0_t2 : Fin k0_t2_loop.trips) : Fin 3 → Nat :=
  let c0_189 : Index := 0#32
  let c0_i32_1 : BitVec 32 := 0#32
  let c1_i32 : BitVec 32 := 1#32
  let arg9 : BitVec 32 := Scf.iv c0_i32_1 c1_i32 k0_t2
  let v267 : Index := Scalar.indexCast arg9
  let c26 : Index := 26#32
  ![0, v267.toNat, 26]
def k0_off58 (v5 : BitVec 32) (v268 : BitVec 32) : Fin 3 → Nat :=
  let c26_i32 : BitVec 32 := 26#32
  let v266 : BitVec 1 := Scalar.cmpi .sgt v5 c26_i32
  let c32768_i32_190 : BitVec 32 := 32768#32
  let v269 : BitVec 32 := Scalar.select v266 v268 c32768_i32_190
  let v270 : Index := Scalar.indexCast v269
  let c0_191 : Index := 0#32
  let c0_192 : Index := 0#32
  ![v270.toNat, 0, 0]

def k0_chk27 (v5 : BitVec 32) (v268 : BitVec 32) : Prop :=
  (∀ a, (k0_off58 v5 v268) a + S1x1x128.size a ≤ S32776x1x128.size a)
theorem k0_off58_inb : ∀ (v5 : BitVec 32) (v268 : BitVec 32) (k0_hw27 : k0_chk27 v5 v268), ∀ a, (k0_off58 v5 v268) a + S1x1x128.size a ≤ S32776x1x128.size a := fun v5 v268 k0_hw27 => k0_hw27

def k0_off59 (k0_t2 : Fin k0_t2_loop.trips) : Fin 3 → Nat :=
  let c0_196 : Index := 0#32
  let c0_i32_1 : BitVec 32 := 0#32
  let c1_i32 : BitVec 32 := 1#32
  let arg9 : BitVec 32 := Scf.iv c0_i32_1 c1_i32 k0_t2
  let v277 : Index := Scalar.indexCast arg9
  let c27 : Index := 27#32
  ![0, v277.toNat, 27]
def k0_off60 (v5 : BitVec 32) (v278 : BitVec 32) : Fin 3 → Nat :=
  let c27_i32 : BitVec 32 := 27#32
  let v276 : BitVec 1 := Scalar.cmpi .sgt v5 c27_i32
  let c32768_i32_197 : BitVec 32 := 32768#32
  let v279 : BitVec 32 := Scalar.select v276 v278 c32768_i32_197
  let v280 : Index := Scalar.indexCast v279
  let c0_198 : Index := 0#32
  let c0_199 : Index := 0#32
  ![v280.toNat, 0, 0]

def k0_chk28 (v5 : BitVec 32) (v278 : BitVec 32) : Prop :=
  (∀ a, (k0_off60 v5 v278) a + S1x1x128.size a ≤ S32776x1x128.size a)
theorem k0_off60_inb : ∀ (v5 : BitVec 32) (v278 : BitVec 32) (k0_hw28 : k0_chk28 v5 v278), ∀ a, (k0_off60 v5 v278) a + S1x1x128.size a ≤ S32776x1x128.size a := fun v5 v278 k0_hw28 => k0_hw28

def k0_off61 (k0_t2 : Fin k0_t2_loop.trips) : Fin 3 → Nat :=
  let c0_203 : Index := 0#32
  let c0_i32_1 : BitVec 32 := 0#32
  let c1_i32 : BitVec 32 := 1#32
  let arg9 : BitVec 32 := Scf.iv c0_i32_1 c1_i32 k0_t2
  let v287 : Index := Scalar.indexCast arg9
  let c28 : Index := 28#32
  ![0, v287.toNat, 28]
def k0_off62 (v5 : BitVec 32) (v288 : BitVec 32) : Fin 3 → Nat :=
  let c28_i32 : BitVec 32 := 28#32
  let v286 : BitVec 1 := Scalar.cmpi .sgt v5 c28_i32
  let c32768_i32_204 : BitVec 32 := 32768#32
  let v289 : BitVec 32 := Scalar.select v286 v288 c32768_i32_204
  let v290 : Index := Scalar.indexCast v289
  let c0_205 : Index := 0#32
  let c0_206 : Index := 0#32
  ![v290.toNat, 0, 0]

def k0_chk29 (v5 : BitVec 32) (v288 : BitVec 32) : Prop :=
  (∀ a, (k0_off62 v5 v288) a + S1x1x128.size a ≤ S32776x1x128.size a)
theorem k0_off62_inb : ∀ (v5 : BitVec 32) (v288 : BitVec 32) (k0_hw29 : k0_chk29 v5 v288), ∀ a, (k0_off62 v5 v288) a + S1x1x128.size a ≤ S32776x1x128.size a := fun v5 v288 k0_hw29 => k0_hw29

def k0_off63 (k0_t2 : Fin k0_t2_loop.trips) : Fin 3 → Nat :=
  let c0_210 : Index := 0#32
  let c0_i32_1 : BitVec 32 := 0#32
  let c1_i32 : BitVec 32 := 1#32
  let arg9 : BitVec 32 := Scf.iv c0_i32_1 c1_i32 k0_t2
  let v297 : Index := Scalar.indexCast arg9
  let c29 : Index := 29#32
  ![0, v297.toNat, 29]
def k0_off64 (v5 : BitVec 32) (v298 : BitVec 32) : Fin 3 → Nat :=
  let c29_i32 : BitVec 32 := 29#32
  let v296 : BitVec 1 := Scalar.cmpi .sgt v5 c29_i32
  let c32768_i32_211 : BitVec 32 := 32768#32
  let v299 : BitVec 32 := Scalar.select v296 v298 c32768_i32_211
  let v300 : Index := Scalar.indexCast v299
  let c0_212 : Index := 0#32
  let c0_213 : Index := 0#32
  ![v300.toNat, 0, 0]

def k0_chk30 (v5 : BitVec 32) (v298 : BitVec 32) : Prop :=
  (∀ a, (k0_off64 v5 v298) a + S1x1x128.size a ≤ S32776x1x128.size a)
theorem k0_off64_inb : ∀ (v5 : BitVec 32) (v298 : BitVec 32) (k0_hw30 : k0_chk30 v5 v298), ∀ a, (k0_off64 v5 v298) a + S1x1x128.size a ≤ S32776x1x128.size a := fun v5 v298 k0_hw30 => k0_hw30

def k0_off65 (k0_t2 : Fin k0_t2_loop.trips) : Fin 3 → Nat :=
  let c0_217 : Index := 0#32
  let c0_i32_1 : BitVec 32 := 0#32
  let c1_i32 : BitVec 32 := 1#32
  let arg9 : BitVec 32 := Scf.iv c0_i32_1 c1_i32 k0_t2
  let v307 : Index := Scalar.indexCast arg9
  let c30 : Index := 30#32
  ![0, v307.toNat, 30]
def k0_off66 (v5 : BitVec 32) (v308 : BitVec 32) : Fin 3 → Nat :=
  let c30_i32 : BitVec 32 := 30#32
  let v306 : BitVec 1 := Scalar.cmpi .sgt v5 c30_i32
  let c32768_i32_218 : BitVec 32 := 32768#32
  let v309 : BitVec 32 := Scalar.select v306 v308 c32768_i32_218
  let v310 : Index := Scalar.indexCast v309
  let c0_219 : Index := 0#32
  let c0_220 : Index := 0#32
  ![v310.toNat, 0, 0]

def k0_chk31 (v5 : BitVec 32) (v308 : BitVec 32) : Prop :=
  (∀ a, (k0_off66 v5 v308) a + S1x1x128.size a ≤ S32776x1x128.size a)
theorem k0_off66_inb : ∀ (v5 : BitVec 32) (v308 : BitVec 32) (k0_hw31 : k0_chk31 v5 v308), ∀ a, (k0_off66 v5 v308) a + S1x1x128.size a ≤ S32776x1x128.size a := fun v5 v308 k0_hw31 => k0_hw31

def k0_off67 (k0_t2 : Fin k0_t2_loop.trips) : Fin 3 → Nat :=
  let c0_224 : Index := 0#32
  let c0_i32_1 : BitVec 32 := 0#32
  let c1_i32 : BitVec 32 := 1#32
  let arg9 : BitVec 32 := Scf.iv c0_i32_1 c1_i32 k0_t2
  let v317 : Index := Scalar.indexCast arg9
  let c31 : Index := 31#32
  ![0, v317.toNat, 31]
def k0_off68 (v5 : BitVec 32) (v318 : BitVec 32) : Fin 3 → Nat :=
  let c31_i32 : BitVec 32 := 31#32
  let v316 : BitVec 1 := Scalar.cmpi .sgt v5 c31_i32
  let c32768_i32_225 : BitVec 32 := 32768#32
  let v319 : BitVec 32 := Scalar.select v316 v318 c32768_i32_225
  let v320 : Index := Scalar.indexCast v319
  let c0_226 : Index := 0#32
  let c0_227 : Index := 0#32
  ![v320.toNat, 0, 0]

def k0_chk32 (v5 : BitVec 32) (v318 : BitVec 32) : Prop :=
  (∀ a, (k0_off68 v5 v318) a + S1x1x128.size a ≤ S32776x1x128.size a)
theorem k0_off68_inb : ∀ (v5 : BitVec 32) (v318 : BitVec 32) (k0_hw32 : k0_chk32 v5 v318), ∀ a, (k0_off68 v5 v318) a + S1x1x128.size a ≤ S32776x1x128.size a := fun v5 v318 k0_hw32 => k0_hw32

def k0_off69 (k0_t2 : Fin k0_t2_loop.trips) : Fin 3 → Nat :=
  let c0_231 : Index := 0#32
  let c0_i32_1 : BitVec 32 := 0#32
  let c1_i32 : BitVec 32 := 1#32
  let arg9 : BitVec 32 := Scf.iv c0_i32_1 c1_i32 k0_t2
  let v327 : Index := Scalar.indexCast arg9
  let c32 : Index := 32#32
  ![0, v327.toNat, 32]
def k0_off70 (v5 : BitVec 32) (v328 : BitVec 32) : Fin 3 → Nat :=
  let c32_i32 : BitVec 32 := 32#32
  let v326 : BitVec 1 := Scalar.cmpi .sgt v5 c32_i32
  let c32768_i32_232 : BitVec 32 := 32768#32
  let v329 : BitVec 32 := Scalar.select v326 v328 c32768_i32_232
  let v330 : Index := Scalar.indexCast v329
  let c0_233 : Index := 0#32
  let c0_234 : Index := 0#32
  ![v330.toNat, 0, 0]

def k0_chk33 (v5 : BitVec 32) (v328 : BitVec 32) : Prop :=
  (∀ a, (k0_off70 v5 v328) a + S1x1x128.size a ≤ S32776x1x128.size a)
theorem k0_off70_inb : ∀ (v5 : BitVec 32) (v328 : BitVec 32) (k0_hw33 : k0_chk33 v5 v328), ∀ a, (k0_off70 v5 v328) a + S1x1x128.size a ≤ S32776x1x128.size a := fun v5 v328 k0_hw33 => k0_hw33

def k0_off71 (k0_t2 : Fin k0_t2_loop.trips) : Fin 3 → Nat :=
  let c0_238 : Index := 0#32
  let c0_i32_1 : BitVec 32 := 0#32
  let c1_i32 : BitVec 32 := 1#32
  let arg9 : BitVec 32 := Scf.iv c0_i32_1 c1_i32 k0_t2
  let v337 : Index := Scalar.indexCast arg9
  let c33 : Index := 33#32
  ![0, v337.toNat, 33]
def k0_off72 (v5 : BitVec 32) (v338 : BitVec 32) : Fin 3 → Nat :=
  let c33_i32 : BitVec 32 := 33#32
  let v336 : BitVec 1 := Scalar.cmpi .sgt v5 c33_i32
  let c32768_i32_239 : BitVec 32 := 32768#32
  let v339 : BitVec 32 := Scalar.select v336 v338 c32768_i32_239
  let v340 : Index := Scalar.indexCast v339
  let c0_240 : Index := 0#32
  let c0_241 : Index := 0#32
  ![v340.toNat, 0, 0]

def k0_chk34 (v5 : BitVec 32) (v338 : BitVec 32) : Prop :=
  (∀ a, (k0_off72 v5 v338) a + S1x1x128.size a ≤ S32776x1x128.size a)
theorem k0_off72_inb : ∀ (v5 : BitVec 32) (v338 : BitVec 32) (k0_hw34 : k0_chk34 v5 v338), ∀ a, (k0_off72 v5 v338) a + S1x1x128.size a ≤ S32776x1x128.size a := fun v5 v338 k0_hw34 => k0_hw34

def k0_off73 (k0_t2 : Fin k0_t2_loop.trips) : Fin 3 → Nat :=
  let c0_245 : Index := 0#32
  let c0_i32_1 : BitVec 32 := 0#32
  let c1_i32 : BitVec 32 := 1#32
  let arg9 : BitVec 32 := Scf.iv c0_i32_1 c1_i32 k0_t2
  let v347 : Index := Scalar.indexCast arg9
  let c34 : Index := 34#32
  ![0, v347.toNat, 34]
def k0_off74 (v5 : BitVec 32) (v348 : BitVec 32) : Fin 3 → Nat :=
  let c34_i32 : BitVec 32 := 34#32
  let v346 : BitVec 1 := Scalar.cmpi .sgt v5 c34_i32
  let c32768_i32_246 : BitVec 32 := 32768#32
  let v349 : BitVec 32 := Scalar.select v346 v348 c32768_i32_246
  let v350 : Index := Scalar.indexCast v349
  let c0_247 : Index := 0#32
  let c0_248 : Index := 0#32
  ![v350.toNat, 0, 0]

def k0_chk35 (v5 : BitVec 32) (v348 : BitVec 32) : Prop :=
  (∀ a, (k0_off74 v5 v348) a + S1x1x128.size a ≤ S32776x1x128.size a)
theorem k0_off74_inb : ∀ (v5 : BitVec 32) (v348 : BitVec 32) (k0_hw35 : k0_chk35 v5 v348), ∀ a, (k0_off74 v5 v348) a + S1x1x128.size a ≤ S32776x1x128.size a := fun v5 v348 k0_hw35 => k0_hw35

def k0_off75 (k0_t2 : Fin k0_t2_loop.trips) : Fin 3 → Nat :=
  let c0_252 : Index := 0#32
  let c0_i32_1 : BitVec 32 := 0#32
  let c1_i32 : BitVec 32 := 1#32
  let arg9 : BitVec 32 := Scf.iv c0_i32_1 c1_i32 k0_t2
  let v357 : Index := Scalar.indexCast arg9
  let c35 : Index := 35#32
  ![0, v357.toNat, 35]
def k0_off76 (v5 : BitVec 32) (v358 : BitVec 32) : Fin 3 → Nat :=
  let c35_i32 : BitVec 32 := 35#32
  let v356 : BitVec 1 := Scalar.cmpi .sgt v5 c35_i32
  let c32768_i32_253 : BitVec 32 := 32768#32
  let v359 : BitVec 32 := Scalar.select v356 v358 c32768_i32_253
  let v360 : Index := Scalar.indexCast v359
  let c0_254 : Index := 0#32
  let c0_255 : Index := 0#32
  ![v360.toNat, 0, 0]

def k0_chk36 (v5 : BitVec 32) (v358 : BitVec 32) : Prop :=
  (∀ a, (k0_off76 v5 v358) a + S1x1x128.size a ≤ S32776x1x128.size a)
theorem k0_off76_inb : ∀ (v5 : BitVec 32) (v358 : BitVec 32) (k0_hw36 : k0_chk36 v5 v358), ∀ a, (k0_off76 v5 v358) a + S1x1x128.size a ≤ S32776x1x128.size a := fun v5 v358 k0_hw36 => k0_hw36

def k0_off77 (k0_t2 : Fin k0_t2_loop.trips) : Fin 3 → Nat :=
  let c0_259 : Index := 0#32
  let c0_i32_1 : BitVec 32 := 0#32
  let c1_i32 : BitVec 32 := 1#32
  let arg9 : BitVec 32 := Scf.iv c0_i32_1 c1_i32 k0_t2
  let v367 : Index := Scalar.indexCast arg9
  let c36 : Index := 36#32
  ![0, v367.toNat, 36]
def k0_off78 (v5 : BitVec 32) (v368 : BitVec 32) : Fin 3 → Nat :=
  let c36_i32 : BitVec 32 := 36#32
  let v366 : BitVec 1 := Scalar.cmpi .sgt v5 c36_i32
  let c32768_i32_260 : BitVec 32 := 32768#32
  let v369 : BitVec 32 := Scalar.select v366 v368 c32768_i32_260
  let v370 : Index := Scalar.indexCast v369
  let c0_261 : Index := 0#32
  let c0_262 : Index := 0#32
  ![v370.toNat, 0, 0]

def k0_chk37 (v5 : BitVec 32) (v368 : BitVec 32) : Prop :=
  (∀ a, (k0_off78 v5 v368) a + S1x1x128.size a ≤ S32776x1x128.size a)
theorem k0_off78_inb : ∀ (v5 : BitVec 32) (v368 : BitVec 32) (k0_hw37 : k0_chk37 v5 v368), ∀ a, (k0_off78 v5 v368) a + S1x1x128.size a ≤ S32776x1x128.size a := fun v5 v368 k0_hw37 => k0_hw37

def k0_off79 (k0_t2 : Fin k0_t2_loop.trips) : Fin 3 → Nat :=
  let c0_266 : Index := 0#32
  let c0_i32_1 : BitVec 32 := 0#32
  let c1_i32 : BitVec 32 := 1#32
  let arg9 : BitVec 32 := Scf.iv c0_i32_1 c1_i32 k0_t2
  let v377 : Index := Scalar.indexCast arg9
  let c37 : Index := 37#32
  ![0, v377.toNat, 37]
def k0_off80 (v5 : BitVec 32) (v378 : BitVec 32) : Fin 3 → Nat :=
  let c37_i32 : BitVec 32 := 37#32
  let v376 : BitVec 1 := Scalar.cmpi .sgt v5 c37_i32
  let c32768_i32_267 : BitVec 32 := 32768#32
  let v379 : BitVec 32 := Scalar.select v376 v378 c32768_i32_267
  let v380 : Index := Scalar.indexCast v379
  let c0_268 : Index := 0#32
  let c0_269 : Index := 0#32
  ![v380.toNat, 0, 0]

def k0_chk38 (v5 : BitVec 32) (v378 : BitVec 32) : Prop :=
  (∀ a, (k0_off80 v5 v378) a + S1x1x128.size a ≤ S32776x1x128.size a)
theorem k0_off80_inb : ∀ (v5 : BitVec 32) (v378 : BitVec 32) (k0_hw38 : k0_chk38 v5 v378), ∀ a, (k0_off80 v5 v378) a + S1x1x128.size a ≤ S32776x1x128.size a := fun v5 v378 k0_hw38 => k0_hw38

def k0_off81 (k0_t2 : Fin k0_t2_loop.trips) : Fin 3 → Nat :=
  let c0_273 : Index := 0#32
  let c0_i32_1 : BitVec 32 := 0#32
  let c1_i32 : BitVec 32 := 1#32
  let arg9 : BitVec 32 := Scf.iv c0_i32_1 c1_i32 k0_t2
  let v387 : Index := Scalar.indexCast arg9
  let c38 : Index := 38#32
  ![0, v387.toNat, 38]
def k0_off82 (v5 : BitVec 32) (v388 : BitVec 32) : Fin 3 → Nat :=
  let c38_i32 : BitVec 32 := 38#32
  let v386 : BitVec 1 := Scalar.cmpi .sgt v5 c38_i32
  let c32768_i32_274 : BitVec 32 := 32768#32
  let v389 : BitVec 32 := Scalar.select v386 v388 c32768_i32_274
  let v390 : Index := Scalar.indexCast v389
  let c0_275 : Index := 0#32
  let c0_276 : Index := 0#32
  ![v390.toNat, 0, 0]

def k0_chk39 (v5 : BitVec 32) (v388 : BitVec 32) : Prop :=
  (∀ a, (k0_off82 v5 v388) a + S1x1x128.size a ≤ S32776x1x128.size a)
theorem k0_off82_inb : ∀ (v5 : BitVec 32) (v388 : BitVec 32) (k0_hw39 : k0_chk39 v5 v388), ∀ a, (k0_off82 v5 v388) a + S1x1x128.size a ≤ S32776x1x128.size a := fun v5 v388 k0_hw39 => k0_hw39

def k0_off83 (k0_t2 : Fin k0_t2_loop.trips) : Fin 3 → Nat :=
  let c0_280 : Index := 0#32
  let c0_i32_1 : BitVec 32 := 0#32
  let c1_i32 : BitVec 32 := 1#32
  let arg9 : BitVec 32 := Scf.iv c0_i32_1 c1_i32 k0_t2
  let v397 : Index := Scalar.indexCast arg9
  let c39 : Index := 39#32
  ![0, v397.toNat, 39]
def k0_off84 (v5 : BitVec 32) (v398 : BitVec 32) : Fin 3 → Nat :=
  let c39_i32 : BitVec 32 := 39#32
  let v396 : BitVec 1 := Scalar.cmpi .sgt v5 c39_i32
  let c32768_i32_281 : BitVec 32 := 32768#32
  let v399 : BitVec 32 := Scalar.select v396 v398 c32768_i32_281
  let v400 : Index := Scalar.indexCast v399
  let c0_282 : Index := 0#32
  let c0_283 : Index := 0#32
  ![v400.toNat, 0, 0]

def k0_chk40 (v5 : BitVec 32) (v398 : BitVec 32) : Prop :=
  (∀ a, (k0_off84 v5 v398) a + S1x1x128.size a ≤ S32776x1x128.size a)
theorem k0_off84_inb : ∀ (v5 : BitVec 32) (v398 : BitVec 32) (k0_hw40 : k0_chk40 v5 v398), ∀ a, (k0_off84 v5 v398) a + S1x1x128.size a ≤ S32776x1x128.size a := fun v5 v398 k0_hw40 => k0_hw40

def k0_off85 (k0_t2 : Fin k0_t2_loop.trips) : Fin 3 → Nat :=
  let c0_287 : Index := 0#32
  let c0_i32_1 : BitVec 32 := 0#32
  let c1_i32 : BitVec 32 := 1#32
  let arg9 : BitVec 32 := Scf.iv c0_i32_1 c1_i32 k0_t2
  let v407 : Index := Scalar.indexCast arg9
  let c40 : Index := 40#32
  ![0, v407.toNat, 40]
def k0_off86 (v5 : BitVec 32) (v408 : BitVec 32) : Fin 3 → Nat :=
  let c40_i32 : BitVec 32 := 40#32
  let v406 : BitVec 1 := Scalar.cmpi .sgt v5 c40_i32
  let c32768_i32_288 : BitVec 32 := 32768#32
  let v409 : BitVec 32 := Scalar.select v406 v408 c32768_i32_288
  let v410 : Index := Scalar.indexCast v409
  let c0_289 : Index := 0#32
  let c0_290 : Index := 0#32
  ![v410.toNat, 0, 0]

def k0_chk41 (v5 : BitVec 32) (v408 : BitVec 32) : Prop :=
  (∀ a, (k0_off86 v5 v408) a + S1x1x128.size a ≤ S32776x1x128.size a)
theorem k0_off86_inb : ∀ (v5 : BitVec 32) (v408 : BitVec 32) (k0_hw41 : k0_chk41 v5 v408), ∀ a, (k0_off86 v5 v408) a + S1x1x128.size a ≤ S32776x1x128.size a := fun v5 v408 k0_hw41 => k0_hw41

def k0_off87 (k0_t2 : Fin k0_t2_loop.trips) : Fin 3 → Nat :=
  let c0_294 : Index := 0#32
  let c0_i32_1 : BitVec 32 := 0#32
  let c1_i32 : BitVec 32 := 1#32
  let arg9 : BitVec 32 := Scf.iv c0_i32_1 c1_i32 k0_t2
  let v417 : Index := Scalar.indexCast arg9
  let c41 : Index := 41#32
  ![0, v417.toNat, 41]
def k0_off88 (v5 : BitVec 32) (v418 : BitVec 32) : Fin 3 → Nat :=
  let c41_i32 : BitVec 32 := 41#32
  let v416 : BitVec 1 := Scalar.cmpi .sgt v5 c41_i32
  let c32768_i32_295 : BitVec 32 := 32768#32
  let v419 : BitVec 32 := Scalar.select v416 v418 c32768_i32_295
  let v420 : Index := Scalar.indexCast v419
  let c0_296 : Index := 0#32
  let c0_297 : Index := 0#32
  ![v420.toNat, 0, 0]

def k0_chk42 (v5 : BitVec 32) (v418 : BitVec 32) : Prop :=
  (∀ a, (k0_off88 v5 v418) a + S1x1x128.size a ≤ S32776x1x128.size a)
theorem k0_off88_inb : ∀ (v5 : BitVec 32) (v418 : BitVec 32) (k0_hw42 : k0_chk42 v5 v418), ∀ a, (k0_off88 v5 v418) a + S1x1x128.size a ≤ S32776x1x128.size a := fun v5 v418 k0_hw42 => k0_hw42

def k0_off89 (k0_t2 : Fin k0_t2_loop.trips) : Fin 3 → Nat :=
  let c0_301 : Index := 0#32
  let c0_i32_1 : BitVec 32 := 0#32
  let c1_i32 : BitVec 32 := 1#32
  let arg9 : BitVec 32 := Scf.iv c0_i32_1 c1_i32 k0_t2
  let v427 : Index := Scalar.indexCast arg9
  let c42 : Index := 42#32
  ![0, v427.toNat, 42]
def k0_off90 (v5 : BitVec 32) (v428 : BitVec 32) : Fin 3 → Nat :=
  let c42_i32 : BitVec 32 := 42#32
  let v426 : BitVec 1 := Scalar.cmpi .sgt v5 c42_i32
  let c32768_i32_302 : BitVec 32 := 32768#32
  let v429 : BitVec 32 := Scalar.select v426 v428 c32768_i32_302
  let v430 : Index := Scalar.indexCast v429
  let c0_303 : Index := 0#32
  let c0_304 : Index := 0#32
  ![v430.toNat, 0, 0]

def k0_chk43 (v5 : BitVec 32) (v428 : BitVec 32) : Prop :=
  (∀ a, (k0_off90 v5 v428) a + S1x1x128.size a ≤ S32776x1x128.size a)
theorem k0_off90_inb : ∀ (v5 : BitVec 32) (v428 : BitVec 32) (k0_hw43 : k0_chk43 v5 v428), ∀ a, (k0_off90 v5 v428) a + S1x1x128.size a ≤ S32776x1x128.size a := fun v5 v428 k0_hw43 => k0_hw43

def k0_off91 (k0_t2 : Fin k0_t2_loop.trips) : Fin 3 → Nat :=
  let c0_308 : Index := 0#32
  let c0_i32_1 : BitVec 32 := 0#32
  let c1_i32 : BitVec 32 := 1#32
  let arg9 : BitVec 32 := Scf.iv c0_i32_1 c1_i32 k0_t2
  let v437 : Index := Scalar.indexCast arg9
  let c43 : Index := 43#32
  ![0, v437.toNat, 43]
def k0_off92 (v5 : BitVec 32) (v438 : BitVec 32) : Fin 3 → Nat :=
  let c43_i32 : BitVec 32 := 43#32
  let v436 : BitVec 1 := Scalar.cmpi .sgt v5 c43_i32
  let c32768_i32_309 : BitVec 32 := 32768#32
  let v439 : BitVec 32 := Scalar.select v436 v438 c32768_i32_309
  let v440 : Index := Scalar.indexCast v439
  let c0_310 : Index := 0#32
  let c0_311 : Index := 0#32
  ![v440.toNat, 0, 0]

def k0_chk44 (v5 : BitVec 32) (v438 : BitVec 32) : Prop :=
  (∀ a, (k0_off92 v5 v438) a + S1x1x128.size a ≤ S32776x1x128.size a)
theorem k0_off92_inb : ∀ (v5 : BitVec 32) (v438 : BitVec 32) (k0_hw44 : k0_chk44 v5 v438), ∀ a, (k0_off92 v5 v438) a + S1x1x128.size a ≤ S32776x1x128.size a := fun v5 v438 k0_hw44 => k0_hw44

def k0_off93 (k0_t2 : Fin k0_t2_loop.trips) : Fin 3 → Nat :=
  let c0_315 : Index := 0#32
  let c0_i32_1 : BitVec 32 := 0#32
  let c1_i32 : BitVec 32 := 1#32
  let arg9 : BitVec 32 := Scf.iv c0_i32_1 c1_i32 k0_t2
  let v447 : Index := Scalar.indexCast arg9
  let c44 : Index := 44#32
  ![0, v447.toNat, 44]
def k0_off94 (v5 : BitVec 32) (v448 : BitVec 32) : Fin 3 → Nat :=
  let c44_i32 : BitVec 32 := 44#32
  let v446 : BitVec 1 := Scalar.cmpi .sgt v5 c44_i32
  let c32768_i32_316 : BitVec 32 := 32768#32
  let v449 : BitVec 32 := Scalar.select v446 v448 c32768_i32_316
  let v450 : Index := Scalar.indexCast v449
  let c0_317 : Index := 0#32
  let c0_318 : Index := 0#32
  ![v450.toNat, 0, 0]

def k0_chk45 (v5 : BitVec 32) (v448 : BitVec 32) : Prop :=
  (∀ a, (k0_off94 v5 v448) a + S1x1x128.size a ≤ S32776x1x128.size a)
theorem k0_off94_inb : ∀ (v5 : BitVec 32) (v448 : BitVec 32) (k0_hw45 : k0_chk45 v5 v448), ∀ a, (k0_off94 v5 v448) a + S1x1x128.size a ≤ S32776x1x128.size a := fun v5 v448 k0_hw45 => k0_hw45

def k0_off95 (k0_t2 : Fin k0_t2_loop.trips) : Fin 3 → Nat :=
  let c0_322 : Index := 0#32
  let c0_i32_1 : BitVec 32 := 0#32
  let c1_i32 : BitVec 32 := 1#32
  let arg9 : BitVec 32 := Scf.iv c0_i32_1 c1_i32 k0_t2
  let v457 : Index := Scalar.indexCast arg9
  let c45 : Index := 45#32
  ![0, v457.toNat, 45]
def k0_off96 (v5 : BitVec 32) (v458 : BitVec 32) : Fin 3 → Nat :=
  let c45_i32 : BitVec 32 := 45#32
  let v456 : BitVec 1 := Scalar.cmpi .sgt v5 c45_i32
  let c32768_i32_323 : BitVec 32 := 32768#32
  let v459 : BitVec 32 := Scalar.select v456 v458 c32768_i32_323
  let v460 : Index := Scalar.indexCast v459
  let c0_324 : Index := 0#32
  let c0_325 : Index := 0#32
  ![v460.toNat, 0, 0]

def k0_chk46 (v5 : BitVec 32) (v458 : BitVec 32) : Prop :=
  (∀ a, (k0_off96 v5 v458) a + S1x1x128.size a ≤ S32776x1x128.size a)
theorem k0_off96_inb : ∀ (v5 : BitVec 32) (v458 : BitVec 32) (k0_hw46 : k0_chk46 v5 v458), ∀ a, (k0_off96 v5 v458) a + S1x1x128.size a ≤ S32776x1x128.size a := fun v5 v458 k0_hw46 => k0_hw46

def k0_off97 (k0_t2 : Fin k0_t2_loop.trips) : Fin 3 → Nat :=
  let c0_329 : Index := 0#32
  let c0_i32_1 : BitVec 32 := 0#32
  let c1_i32 : BitVec 32 := 1#32
  let arg9 : BitVec 32 := Scf.iv c0_i32_1 c1_i32 k0_t2
  let v467 : Index := Scalar.indexCast arg9
  let c46 : Index := 46#32
  ![0, v467.toNat, 46]
def k0_off98 (v5 : BitVec 32) (v468 : BitVec 32) : Fin 3 → Nat :=
  let c46_i32 : BitVec 32 := 46#32
  let v466 : BitVec 1 := Scalar.cmpi .sgt v5 c46_i32
  let c32768_i32_330 : BitVec 32 := 32768#32
  let v469 : BitVec 32 := Scalar.select v466 v468 c32768_i32_330
  let v470 : Index := Scalar.indexCast v469
  let c0_331 : Index := 0#32
  let c0_332 : Index := 0#32
  ![v470.toNat, 0, 0]

def k0_chk47 (v5 : BitVec 32) (v468 : BitVec 32) : Prop :=
  (∀ a, (k0_off98 v5 v468) a + S1x1x128.size a ≤ S32776x1x128.size a)
theorem k0_off98_inb : ∀ (v5 : BitVec 32) (v468 : BitVec 32) (k0_hw47 : k0_chk47 v5 v468), ∀ a, (k0_off98 v5 v468) a + S1x1x128.size a ≤ S32776x1x128.size a := fun v5 v468 k0_hw47 => k0_hw47

def k0_off99 (k0_t2 : Fin k0_t2_loop.trips) : Fin 3 → Nat :=
  let c0_336 : Index := 0#32
  let c0_i32_1 : BitVec 32 := 0#32
  let c1_i32 : BitVec 32 := 1#32
  let arg9 : BitVec 32 := Scf.iv c0_i32_1 c1_i32 k0_t2
  let v477 : Index := Scalar.indexCast arg9
  let c47 : Index := 47#32
  ![0, v477.toNat, 47]
def k0_off100 (v5 : BitVec 32) (v478 : BitVec 32) : Fin 3 → Nat :=
  let c47_i32 : BitVec 32 := 47#32
  let v476 : BitVec 1 := Scalar.cmpi .sgt v5 c47_i32
  let c32768_i32_337 : BitVec 32 := 32768#32
  let v479 : BitVec 32 := Scalar.select v476 v478 c32768_i32_337
  let v480 : Index := Scalar.indexCast v479
  let c0_338 : Index := 0#32
  let c0_339 : Index := 0#32
  ![v480.toNat, 0, 0]

def k0_chk48 (v5 : BitVec 32) (v478 : BitVec 32) : Prop :=
  (∀ a, (k0_off100 v5 v478) a + S1x1x128.size a ≤ S32776x1x128.size a)
theorem k0_off100_inb : ∀ (v5 : BitVec 32) (v478 : BitVec 32) (k0_hw48 : k0_chk48 v5 v478), ∀ a, (k0_off100 v5 v478) a + S1x1x128.size a ≤ S32776x1x128.size a := fun v5 v478 k0_hw48 => k0_hw48

def k0_off101 (k0_t2 : Fin k0_t2_loop.trips) : Fin 3 → Nat :=
  let c0_343 : Index := 0#32
  let c0_i32_1 : BitVec 32 := 0#32
  let c1_i32 : BitVec 32 := 1#32
  let arg9 : BitVec 32 := Scf.iv c0_i32_1 c1_i32 k0_t2
  let v487 : Index := Scalar.indexCast arg9
  let c48 : Index := 48#32
  ![0, v487.toNat, 48]
def k0_off102 (v5 : BitVec 32) (v488 : BitVec 32) : Fin 3 → Nat :=
  let c48_i32 : BitVec 32 := 48#32
  let v486 : BitVec 1 := Scalar.cmpi .sgt v5 c48_i32
  let c32768_i32_344 : BitVec 32 := 32768#32
  let v489 : BitVec 32 := Scalar.select v486 v488 c32768_i32_344
  let v490 : Index := Scalar.indexCast v489
  let c0_345 : Index := 0#32
  let c0_346 : Index := 0#32
  ![v490.toNat, 0, 0]

def k0_chk49 (v5 : BitVec 32) (v488 : BitVec 32) : Prop :=
  (∀ a, (k0_off102 v5 v488) a + S1x1x128.size a ≤ S32776x1x128.size a)
theorem k0_off102_inb : ∀ (v5 : BitVec 32) (v488 : BitVec 32) (k0_hw49 : k0_chk49 v5 v488), ∀ a, (k0_off102 v5 v488) a + S1x1x128.size a ≤ S32776x1x128.size a := fun v5 v488 k0_hw49 => k0_hw49

def k0_off103 (k0_t2 : Fin k0_t2_loop.trips) : Fin 3 → Nat :=
  let c0_350 : Index := 0#32
  let c0_i32_1 : BitVec 32 := 0#32
  let c1_i32 : BitVec 32 := 1#32
  let arg9 : BitVec 32 := Scf.iv c0_i32_1 c1_i32 k0_t2
  let v497 : Index := Scalar.indexCast arg9
  let c49 : Index := 49#32
  ![0, v497.toNat, 49]
def k0_off104 (v5 : BitVec 32) (v498 : BitVec 32) : Fin 3 → Nat :=
  let c49_i32 : BitVec 32 := 49#32
  let v496 : BitVec 1 := Scalar.cmpi .sgt v5 c49_i32
  let c32768_i32_351 : BitVec 32 := 32768#32
  let v499 : BitVec 32 := Scalar.select v496 v498 c32768_i32_351
  let v500 : Index := Scalar.indexCast v499
  let c0_352 : Index := 0#32
  let c0_353 : Index := 0#32
  ![v500.toNat, 0, 0]

def k0_chk50 (v5 : BitVec 32) (v498 : BitVec 32) : Prop :=
  (∀ a, (k0_off104 v5 v498) a + S1x1x128.size a ≤ S32776x1x128.size a)
theorem k0_off104_inb : ∀ (v5 : BitVec 32) (v498 : BitVec 32) (k0_hw50 : k0_chk50 v5 v498), ∀ a, (k0_off104 v5 v498) a + S1x1x128.size a ≤ S32776x1x128.size a := fun v5 v498 k0_hw50 => k0_hw50

def k0_off105 (k0_t2 : Fin k0_t2_loop.trips) : Fin 3 → Nat :=
  let c0_357 : Index := 0#32
  let c0_i32_1 : BitVec 32 := 0#32
  let c1_i32 : BitVec 32 := 1#32
  let arg9 : BitVec 32 := Scf.iv c0_i32_1 c1_i32 k0_t2
  let v507 : Index := Scalar.indexCast arg9
  let c50 : Index := 50#32
  ![0, v507.toNat, 50]
def k0_off106 (v5 : BitVec 32) (v508 : BitVec 32) : Fin 3 → Nat :=
  let c50_i32 : BitVec 32 := 50#32
  let v506 : BitVec 1 := Scalar.cmpi .sgt v5 c50_i32
  let c32768_i32_358 : BitVec 32 := 32768#32
  let v509 : BitVec 32 := Scalar.select v506 v508 c32768_i32_358
  let v510 : Index := Scalar.indexCast v509
  let c0_359 : Index := 0#32
  let c0_360 : Index := 0#32
  ![v510.toNat, 0, 0]

def k0_chk51 (v5 : BitVec 32) (v508 : BitVec 32) : Prop :=
  (∀ a, (k0_off106 v5 v508) a + S1x1x128.size a ≤ S32776x1x128.size a)
theorem k0_off106_inb : ∀ (v5 : BitVec 32) (v508 : BitVec 32) (k0_hw51 : k0_chk51 v5 v508), ∀ a, (k0_off106 v5 v508) a + S1x1x128.size a ≤ S32776x1x128.size a := fun v5 v508 k0_hw51 => k0_hw51

def k0_off107 (k0_t2 : Fin k0_t2_loop.trips) : Fin 3 → Nat :=
  let c0_364 : Index := 0#32
  let c0_i32_1 : BitVec 32 := 0#32
  let c1_i32 : BitVec 32 := 1#32
  let arg9 : BitVec 32 := Scf.iv c0_i32_1 c1_i32 k0_t2
  let v517 : Index := Scalar.indexCast arg9
  let c51 : Index := 51#32
  ![0, v517.toNat, 51]
def k0_off108 (v5 : BitVec 32) (v518 : BitVec 32) : Fin 3 → Nat :=
  let c51_i32 : BitVec 32 := 51#32
  let v516 : BitVec 1 := Scalar.cmpi .sgt v5 c51_i32
  let c32768_i32_365 : BitVec 32 := 32768#32
  let v519 : BitVec 32 := Scalar.select v516 v518 c32768_i32_365
  let v520 : Index := Scalar.indexCast v519
  let c0_366 : Index := 0#32
  let c0_367 : Index := 0#32
  ![v520.toNat, 0, 0]

def k0_chk52 (v5 : BitVec 32) (v518 : BitVec 32) : Prop :=
  (∀ a, (k0_off108 v5 v518) a + S1x1x128.size a ≤ S32776x1x128.size a)
theorem k0_off108_inb : ∀ (v5 : BitVec 32) (v518 : BitVec 32) (k0_hw52 : k0_chk52 v5 v518), ∀ a, (k0_off108 v5 v518) a + S1x1x128.size a ≤ S32776x1x128.size a := fun v5 v518 k0_hw52 => k0_hw52

def k0_off109 (k0_t2 : Fin k0_t2_loop.trips) : Fin 3 → Nat :=
  let c0_371 : Index := 0#32
  let c0_i32_1 : BitVec 32 := 0#32
  let c1_i32 : BitVec 32 := 1#32
  let arg9 : BitVec 32 := Scf.iv c0_i32_1 c1_i32 k0_t2
  let v527 : Index := Scalar.indexCast arg9
  let c52 : Index := 52#32
  ![0, v527.toNat, 52]
def k0_off110 (v5 : BitVec 32) (v528 : BitVec 32) : Fin 3 → Nat :=
  let c52_i32 : BitVec 32 := 52#32
  let v526 : BitVec 1 := Scalar.cmpi .sgt v5 c52_i32
  let c32768_i32_372 : BitVec 32 := 32768#32
  let v529 : BitVec 32 := Scalar.select v526 v528 c32768_i32_372
  let v530 : Index := Scalar.indexCast v529
  let c0_373 : Index := 0#32
  let c0_374 : Index := 0#32
  ![v530.toNat, 0, 0]

def k0_chk53 (v5 : BitVec 32) (v528 : BitVec 32) : Prop :=
  (∀ a, (k0_off110 v5 v528) a + S1x1x128.size a ≤ S32776x1x128.size a)
theorem k0_off110_inb : ∀ (v5 : BitVec 32) (v528 : BitVec 32) (k0_hw53 : k0_chk53 v5 v528), ∀ a, (k0_off110 v5 v528) a + S1x1x128.size a ≤ S32776x1x128.size a := fun v5 v528 k0_hw53 => k0_hw53

def k0_off111 (k0_t2 : Fin k0_t2_loop.trips) : Fin 3 → Nat :=
  let c0_378 : Index := 0#32
  let c0_i32_1 : BitVec 32 := 0#32
  let c1_i32 : BitVec 32 := 1#32
  let arg9 : BitVec 32 := Scf.iv c0_i32_1 c1_i32 k0_t2
  let v537 : Index := Scalar.indexCast arg9
  let c53 : Index := 53#32
  ![0, v537.toNat, 53]
def k0_off112 (v5 : BitVec 32) (v538 : BitVec 32) : Fin 3 → Nat :=
  let c53_i32 : BitVec 32 := 53#32
  let v536 : BitVec 1 := Scalar.cmpi .sgt v5 c53_i32
  let c32768_i32_379 : BitVec 32 := 32768#32
  let v539 : BitVec 32 := Scalar.select v536 v538 c32768_i32_379
  let v540 : Index := Scalar.indexCast v539
  let c0_380 : Index := 0#32
  let c0_381 : Index := 0#32
  ![v540.toNat, 0, 0]

def k0_chk54 (v5 : BitVec 32) (v538 : BitVec 32) : Prop :=
  (∀ a, (k0_off112 v5 v538) a + S1x1x128.size a ≤ S32776x1x128.size a)
theorem k0_off112_inb : ∀ (v5 : BitVec 32) (v538 : BitVec 32) (k0_hw54 : k0_chk54 v5 v538), ∀ a, (k0_off112 v5 v538) a + S1x1x128.size a ≤ S32776x1x128.size a := fun v5 v538 k0_hw54 => k0_hw54

def k0_off113 (k0_t2 : Fin k0_t2_loop.trips) : Fin 3 → Nat :=
  let c0_385 : Index := 0#32
  let c0_i32_1 : BitVec 32 := 0#32
  let c1_i32 : BitVec 32 := 1#32
  let arg9 : BitVec 32 := Scf.iv c0_i32_1 c1_i32 k0_t2
  let v547 : Index := Scalar.indexCast arg9
  let c54 : Index := 54#32
  ![0, v547.toNat, 54]
def k0_off114 (v5 : BitVec 32) (v548 : BitVec 32) : Fin 3 → Nat :=
  let c54_i32 : BitVec 32 := 54#32
  let v546 : BitVec 1 := Scalar.cmpi .sgt v5 c54_i32
  let c32768_i32_386 : BitVec 32 := 32768#32
  let v549 : BitVec 32 := Scalar.select v546 v548 c32768_i32_386
  let v550 : Index := Scalar.indexCast v549
  let c0_387 : Index := 0#32
  let c0_388 : Index := 0#32
  ![v550.toNat, 0, 0]

def k0_chk55 (v5 : BitVec 32) (v548 : BitVec 32) : Prop :=
  (∀ a, (k0_off114 v5 v548) a + S1x1x128.size a ≤ S32776x1x128.size a)
theorem k0_off114_inb : ∀ (v5 : BitVec 32) (v548 : BitVec 32) (k0_hw55 : k0_chk55 v5 v548), ∀ a, (k0_off114 v5 v548) a + S1x1x128.size a ≤ S32776x1x128.size a := fun v5 v548 k0_hw55 => k0_hw55

def k0_off115 (k0_t2 : Fin k0_t2_loop.trips) : Fin 3 → Nat :=
  let c0_392 : Index := 0#32
  let c0_i32_1 : BitVec 32 := 0#32
  let c1_i32 : BitVec 32 := 1#32
  let arg9 : BitVec 32 := Scf.iv c0_i32_1 c1_i32 k0_t2
  let v557 : Index := Scalar.indexCast arg9
  let c55 : Index := 55#32
  ![0, v557.toNat, 55]
def k0_off116 (v5 : BitVec 32) (v558 : BitVec 32) : Fin 3 → Nat :=
  let c55_i32 : BitVec 32 := 55#32
  let v556 : BitVec 1 := Scalar.cmpi .sgt v5 c55_i32
  let c32768_i32_393 : BitVec 32 := 32768#32
  let v559 : BitVec 32 := Scalar.select v556 v558 c32768_i32_393
  let v560 : Index := Scalar.indexCast v559
  let c0_394 : Index := 0#32
  let c0_395 : Index := 0#32
  ![v560.toNat, 0, 0]

def k0_chk56 (v5 : BitVec 32) (v558 : BitVec 32) : Prop :=
  (∀ a, (k0_off116 v5 v558) a + S1x1x128.size a ≤ S32776x1x128.size a)
theorem k0_off116_inb : ∀ (v5 : BitVec 32) (v558 : BitVec 32) (k0_hw56 : k0_chk56 v5 v558), ∀ a, (k0_off116 v5 v558) a + S1x1x128.size a ≤ S32776x1x128.size a := fun v5 v558 k0_hw56 => k0_hw56

def k0_off117 (k0_t2 : Fin k0_t2_loop.trips) : Fin 3 → Nat :=
  let c0_399 : Index := 0#32
  let c0_i32_1 : BitVec 32 := 0#32
  let c1_i32 : BitVec 32 := 1#32
  let arg9 : BitVec 32 := Scf.iv c0_i32_1 c1_i32 k0_t2
  let v567 : Index := Scalar.indexCast arg9
  let c56 : Index := 56#32
  ![0, v567.toNat, 56]
def k0_off118 (v5 : BitVec 32) (v568 : BitVec 32) : Fin 3 → Nat :=
  let c56_i32 : BitVec 32 := 56#32
  let v566 : BitVec 1 := Scalar.cmpi .sgt v5 c56_i32
  let c32768_i32_400 : BitVec 32 := 32768#32
  let v569 : BitVec 32 := Scalar.select v566 v568 c32768_i32_400
  let v570 : Index := Scalar.indexCast v569
  let c0_401 : Index := 0#32
  let c0_402 : Index := 0#32
  ![v570.toNat, 0, 0]

def k0_chk57 (v5 : BitVec 32) (v568 : BitVec 32) : Prop :=
  (∀ a, (k0_off118 v5 v568) a + S1x1x128.size a ≤ S32776x1x128.size a)
theorem k0_off118_inb : ∀ (v5 : BitVec 32) (v568 : BitVec 32) (k0_hw57 : k0_chk57 v5 v568), ∀ a, (k0_off118 v5 v568) a + S1x1x128.size a ≤ S32776x1x128.size a := fun v5 v568 k0_hw57 => k0_hw57

def k0_off119 (k0_t2 : Fin k0_t2_loop.trips) : Fin 3 → Nat :=
  let c0_406 : Index := 0#32
  let c0_i32_1 : BitVec 32 := 0#32
  let c1_i32 : BitVec 32 := 1#32
  let arg9 : BitVec 32 := Scf.iv c0_i32_1 c1_i32 k0_t2
  let v577 : Index := Scalar.indexCast arg9
  let c57 : Index := 57#32
  ![0, v577.toNat, 57]
def k0_off120 (v5 : BitVec 32) (v578 : BitVec 32) : Fin 3 → Nat :=
  let c57_i32 : BitVec 32 := 57#32
  let v576 : BitVec 1 := Scalar.cmpi .sgt v5 c57_i32
  let c32768_i32_407 : BitVec 32 := 32768#32
  let v579 : BitVec 32 := Scalar.select v576 v578 c32768_i32_407
  let v580 : Index := Scalar.indexCast v579
  let c0_408 : Index := 0#32
  let c0_409 : Index := 0#32
  ![v580.toNat, 0, 0]

def k0_chk58 (v5 : BitVec 32) (v578 : BitVec 32) : Prop :=
  (∀ a, (k0_off120 v5 v578) a + S1x1x128.size a ≤ S32776x1x128.size a)
theorem k0_off120_inb : ∀ (v5 : BitVec 32) (v578 : BitVec 32) (k0_hw58 : k0_chk58 v5 v578), ∀ a, (k0_off120 v5 v578) a + S1x1x128.size a ≤ S32776x1x128.size a := fun v5 v578 k0_hw58 => k0_hw58

def k0_off121 (k0_t2 : Fin k0_t2_loop.trips) : Fin 3 → Nat :=
  let c0_413 : Index := 0#32
  let c0_i32_1 : BitVec 32 := 0#32
  let c1_i32 : BitVec 32 := 1#32
  let arg9 : BitVec 32 := Scf.iv c0_i32_1 c1_i32 k0_t2
  let v587 : Index := Scalar.indexCast arg9
  let c58 : Index := 58#32
  ![0, v587.toNat, 58]
def k0_off122 (v5 : BitVec 32) (v588 : BitVec 32) : Fin 3 → Nat :=
  let c58_i32 : BitVec 32 := 58#32
  let v586 : BitVec 1 := Scalar.cmpi .sgt v5 c58_i32
  let c32768_i32_414 : BitVec 32 := 32768#32
  let v589 : BitVec 32 := Scalar.select v586 v588 c32768_i32_414
  let v590 : Index := Scalar.indexCast v589
  let c0_415 : Index := 0#32
  let c0_416 : Index := 0#32
  ![v590.toNat, 0, 0]

def k0_chk59 (v5 : BitVec 32) (v588 : BitVec 32) : Prop :=
  (∀ a, (k0_off122 v5 v588) a + S1x1x128.size a ≤ S32776x1x128.size a)
theorem k0_off122_inb : ∀ (v5 : BitVec 32) (v588 : BitVec 32) (k0_hw59 : k0_chk59 v5 v588), ∀ a, (k0_off122 v5 v588) a + S1x1x128.size a ≤ S32776x1x128.size a := fun v5 v588 k0_hw59 => k0_hw59

def k0_off123 (k0_t2 : Fin k0_t2_loop.trips) : Fin 3 → Nat :=
  let c0_420 : Index := 0#32
  let c0_i32_1 : BitVec 32 := 0#32
  let c1_i32 : BitVec 32 := 1#32
  let arg9 : BitVec 32 := Scf.iv c0_i32_1 c1_i32 k0_t2
  let v597 : Index := Scalar.indexCast arg9
  let c59 : Index := 59#32
  ![0, v597.toNat, 59]
def k0_off124 (v5 : BitVec 32) (v598 : BitVec 32) : Fin 3 → Nat :=
  let c59_i32 : BitVec 32 := 59#32
  let v596 : BitVec 1 := Scalar.cmpi .sgt v5 c59_i32
  let c32768_i32_421 : BitVec 32 := 32768#32
  let v599 : BitVec 32 := Scalar.select v596 v598 c32768_i32_421
  let v600 : Index := Scalar.indexCast v599
  let c0_422 : Index := 0#32
  let c0_423 : Index := 0#32
  ![v600.toNat, 0, 0]

def k0_chk60 (v5 : BitVec 32) (v598 : BitVec 32) : Prop :=
  (∀ a, (k0_off124 v5 v598) a + S1x1x128.size a ≤ S32776x1x128.size a)
theorem k0_off124_inb : ∀ (v5 : BitVec 32) (v598 : BitVec 32) (k0_hw60 : k0_chk60 v5 v598), ∀ a, (k0_off124 v5 v598) a + S1x1x128.size a ≤ S32776x1x128.size a := fun v5 v598 k0_hw60 => k0_hw60

def k0_off125 (k0_t2 : Fin k0_t2_loop.trips) : Fin 3 → Nat :=
  let c0_427 : Index := 0#32
  let c0_i32_1 : BitVec 32 := 0#32
  let c1_i32 : BitVec 32 := 1#32
  let arg9 : BitVec 32 := Scf.iv c0_i32_1 c1_i32 k0_t2
  let v607 : Index := Scalar.indexCast arg9
  let c60 : Index := 60#32
  ![0, v607.toNat, 60]
def k0_off126 (v5 : BitVec 32) (v608 : BitVec 32) : Fin 3 → Nat :=
  let c60_i32 : BitVec 32 := 60#32
  let v606 : BitVec 1 := Scalar.cmpi .sgt v5 c60_i32
  let c32768_i32_428 : BitVec 32 := 32768#32
  let v609 : BitVec 32 := Scalar.select v606 v608 c32768_i32_428
  let v610 : Index := Scalar.indexCast v609
  let c0_429 : Index := 0#32
  let c0_430 : Index := 0#32
  ![v610.toNat, 0, 0]

def k0_chk61 (v5 : BitVec 32) (v608 : BitVec 32) : Prop :=
  (∀ a, (k0_off126 v5 v608) a + S1x1x128.size a ≤ S32776x1x128.size a)
theorem k0_off126_inb : ∀ (v5 : BitVec 32) (v608 : BitVec 32) (k0_hw61 : k0_chk61 v5 v608), ∀ a, (k0_off126 v5 v608) a + S1x1x128.size a ≤ S32776x1x128.size a := fun v5 v608 k0_hw61 => k0_hw61

def k0_off127 (k0_t2 : Fin k0_t2_loop.trips) : Fin 3 → Nat :=
  let c0_434 : Index := 0#32
  let c0_i32_1 : BitVec 32 := 0#32
  let c1_i32 : BitVec 32 := 1#32
  let arg9 : BitVec 32 := Scf.iv c0_i32_1 c1_i32 k0_t2
  let v617 : Index := Scalar.indexCast arg9
  let c61 : Index := 61#32
  ![0, v617.toNat, 61]
def k0_off128 (v5 : BitVec 32) (v618 : BitVec 32) : Fin 3 → Nat :=
  let c61_i32 : BitVec 32 := 61#32
  let v616 : BitVec 1 := Scalar.cmpi .sgt v5 c61_i32
  let c32768_i32_435 : BitVec 32 := 32768#32
  let v619 : BitVec 32 := Scalar.select v616 v618 c32768_i32_435
  let v620 : Index := Scalar.indexCast v619
  let c0_436 : Index := 0#32
  let c0_437 : Index := 0#32
  ![v620.toNat, 0, 0]

def k0_chk62 (v5 : BitVec 32) (v618 : BitVec 32) : Prop :=
  (∀ a, (k0_off128 v5 v618) a + S1x1x128.size a ≤ S32776x1x128.size a)
theorem k0_off128_inb : ∀ (v5 : BitVec 32) (v618 : BitVec 32) (k0_hw62 : k0_chk62 v5 v618), ∀ a, (k0_off128 v5 v618) a + S1x1x128.size a ≤ S32776x1x128.size a := fun v5 v618 k0_hw62 => k0_hw62

def k0_off129 (k0_t2 : Fin k0_t2_loop.trips) : Fin 3 → Nat :=
  let c0_441 : Index := 0#32
  let c0_i32_1 : BitVec 32 := 0#32
  let c1_i32 : BitVec 32 := 1#32
  let arg9 : BitVec 32 := Scf.iv c0_i32_1 c1_i32 k0_t2
  let v627 : Index := Scalar.indexCast arg9
  let c62 : Index := 62#32
  ![0, v627.toNat, 62]
def k0_off130 (v5 : BitVec 32) (v628 : BitVec 32) : Fin 3 → Nat :=
  let c62_i32 : BitVec 32 := 62#32
  let v626 : BitVec 1 := Scalar.cmpi .sgt v5 c62_i32
  let c32768_i32_442 : BitVec 32 := 32768#32
  let v629 : BitVec 32 := Scalar.select v626 v628 c32768_i32_442
  let v630 : Index := Scalar.indexCast v629
  let c0_443 : Index := 0#32
  let c0_444 : Index := 0#32
  ![v630.toNat, 0, 0]

def k0_chk63 (v5 : BitVec 32) (v628 : BitVec 32) : Prop :=
  (∀ a, (k0_off130 v5 v628) a + S1x1x128.size a ≤ S32776x1x128.size a)
theorem k0_off130_inb : ∀ (v5 : BitVec 32) (v628 : BitVec 32) (k0_hw63 : k0_chk63 v5 v628), ∀ a, (k0_off130 v5 v628) a + S1x1x128.size a ≤ S32776x1x128.size a := fun v5 v628 k0_hw63 => k0_hw63

def k0_off131 (k0_t2 : Fin k0_t2_loop.trips) : Fin 3 → Nat :=
  let c0_448 : Index := 0#32
  let c0_i32_1 : BitVec 32 := 0#32
  let c1_i32 : BitVec 32 := 1#32
  let arg9 : BitVec 32 := Scf.iv c0_i32_1 c1_i32 k0_t2
  let v637 : Index := Scalar.indexCast arg9
  let c63 : Index := 63#32
  ![0, v637.toNat, 63]
def k0_off132 (v5 : BitVec 32) (v638 : BitVec 32) : Fin 3 → Nat :=
  let c63_i32 : BitVec 32 := 63#32
  let v636 : BitVec 1 := Scalar.cmpi .sgt v5 c63_i32
  let c32768_i32_449 : BitVec 32 := 32768#32
  let v639 : BitVec 32 := Scalar.select v636 v638 c32768_i32_449
  let v640 : Index := Scalar.indexCast v639
  let c0_450 : Index := 0#32
  let c0_451 : Index := 0#32
  ![v640.toNat, 0, 0]

def k0_chk64 (v5 : BitVec 32) (v638 : BitVec 32) : Prop :=
  (∀ a, (k0_off132 v5 v638) a + S1x1x128.size a ≤ S32776x1x128.size a)
theorem k0_off132_inb : ∀ (v5 : BitVec 32) (v638 : BitVec 32) (k0_hw64 : k0_chk64 v5 v638), ∀ a, (k0_off132 v5 v638) a + S1x1x128.size a ≤ S32776x1x128.size a := fun v5 v638 k0_hw64 => k0_hw64

def k0_off133 (k0_t2 : Fin k0_t2_loop.trips) : Fin 3 → Nat :=
  let c0_455 : Index := 0#32
  let c0_i32_1 : BitVec 32 := 0#32
  let c1_i32 : BitVec 32 := 1#32
  let arg9 : BitVec 32 := Scf.iv c0_i32_1 c1_i32 k0_t2
  let v647 : Index := Scalar.indexCast arg9
  let c64 : Index := 64#32
  ![0, v647.toNat, 64]
def k0_off134 (v5 : BitVec 32) (v648 : BitVec 32) : Fin 3 → Nat :=
  let c64_i32 : BitVec 32 := 64#32
  let v646 : BitVec 1 := Scalar.cmpi .sgt v5 c64_i32
  let c32768_i32_456 : BitVec 32 := 32768#32
  let v649 : BitVec 32 := Scalar.select v646 v648 c32768_i32_456
  let v650 : Index := Scalar.indexCast v649
  let c0_457 : Index := 0#32
  let c0_458 : Index := 0#32
  ![v650.toNat, 0, 0]

def k0_chk65 (v5 : BitVec 32) (v648 : BitVec 32) : Prop :=
  (∀ a, (k0_off134 v5 v648) a + S1x1x128.size a ≤ S32776x1x128.size a)
theorem k0_off134_inb : ∀ (v5 : BitVec 32) (v648 : BitVec 32) (k0_hw65 : k0_chk65 v5 v648), ∀ a, (k0_off134 v5 v648) a + S1x1x128.size a ≤ S32776x1x128.size a := fun v5 v648 k0_hw65 => k0_hw65

def k0_off135 (k0_t2 : Fin k0_t2_loop.trips) : Fin 3 → Nat :=
  let c0_462 : Index := 0#32
  let c0_i32_1 : BitVec 32 := 0#32
  let c1_i32 : BitVec 32 := 1#32
  let arg9 : BitVec 32 := Scf.iv c0_i32_1 c1_i32 k0_t2
  let v657 : Index := Scalar.indexCast arg9
  let c65 : Index := 65#32
  ![0, v657.toNat, 65]
def k0_off136 (v5 : BitVec 32) (v658 : BitVec 32) : Fin 3 → Nat :=
  let c65_i32 : BitVec 32 := 65#32
  let v656 : BitVec 1 := Scalar.cmpi .sgt v5 c65_i32
  let c32768_i32_463 : BitVec 32 := 32768#32
  let v659 : BitVec 32 := Scalar.select v656 v658 c32768_i32_463
  let v660 : Index := Scalar.indexCast v659
  let c0_464 : Index := 0#32
  let c0_465 : Index := 0#32
  ![v660.toNat, 0, 0]

def k0_chk66 (v5 : BitVec 32) (v658 : BitVec 32) : Prop :=
  (∀ a, (k0_off136 v5 v658) a + S1x1x128.size a ≤ S32776x1x128.size a)
theorem k0_off136_inb : ∀ (v5 : BitVec 32) (v658 : BitVec 32) (k0_hw66 : k0_chk66 v5 v658), ∀ a, (k0_off136 v5 v658) a + S1x1x128.size a ≤ S32776x1x128.size a := fun v5 v658 k0_hw66 => k0_hw66

def k0_off137 (k0_t2 : Fin k0_t2_loop.trips) : Fin 3 → Nat :=
  let c0_469 : Index := 0#32
  let c0_i32_1 : BitVec 32 := 0#32
  let c1_i32 : BitVec 32 := 1#32
  let arg9 : BitVec 32 := Scf.iv c0_i32_1 c1_i32 k0_t2
  let v667 : Index := Scalar.indexCast arg9
  let c66 : Index := 66#32
  ![0, v667.toNat, 66]
def k0_off138 (v5 : BitVec 32) (v668 : BitVec 32) : Fin 3 → Nat :=
  let c66_i32 : BitVec 32 := 66#32
  let v666 : BitVec 1 := Scalar.cmpi .sgt v5 c66_i32
  let c32768_i32_470 : BitVec 32 := 32768#32
  let v669 : BitVec 32 := Scalar.select v666 v668 c32768_i32_470
  let v670 : Index := Scalar.indexCast v669
  let c0_471 : Index := 0#32
  let c0_472 : Index := 0#32
  ![v670.toNat, 0, 0]

def k0_chk67 (v5 : BitVec 32) (v668 : BitVec 32) : Prop :=
  (∀ a, (k0_off138 v5 v668) a + S1x1x128.size a ≤ S32776x1x128.size a)
theorem k0_off138_inb : ∀ (v5 : BitVec 32) (v668 : BitVec 32) (k0_hw67 : k0_chk67 v5 v668), ∀ a, (k0_off138 v5 v668) a + S1x1x128.size a ≤ S32776x1x128.size a := fun v5 v668 k0_hw67 => k0_hw67

def k0_off139 (k0_t2 : Fin k0_t2_loop.trips) : Fin 3 → Nat :=
  let c0_476 : Index := 0#32
  let c0_i32_1 : BitVec 32 := 0#32
  let c1_i32 : BitVec 32 := 1#32
  let arg9 : BitVec 32 := Scf.iv c0_i32_1 c1_i32 k0_t2
  let v677 : Index := Scalar.indexCast arg9
  let c67 : Index := 67#32
  ![0, v677.toNat, 67]
def k0_off140 (v5 : BitVec 32) (v678 : BitVec 32) : Fin 3 → Nat :=
  let c67_i32 : BitVec 32 := 67#32
  let v676 : BitVec 1 := Scalar.cmpi .sgt v5 c67_i32
  let c32768_i32_477 : BitVec 32 := 32768#32
  let v679 : BitVec 32 := Scalar.select v676 v678 c32768_i32_477
  let v680 : Index := Scalar.indexCast v679
  let c0_478 : Index := 0#32
  let c0_479 : Index := 0#32
  ![v680.toNat, 0, 0]

def k0_chk68 (v5 : BitVec 32) (v678 : BitVec 32) : Prop :=
  (∀ a, (k0_off140 v5 v678) a + S1x1x128.size a ≤ S32776x1x128.size a)
theorem k0_off140_inb : ∀ (v5 : BitVec 32) (v678 : BitVec 32) (k0_hw68 : k0_chk68 v5 v678), ∀ a, (k0_off140 v5 v678) a + S1x1x128.size a ≤ S32776x1x128.size a := fun v5 v678 k0_hw68 => k0_hw68

def k0_off141 (k0_t2 : Fin k0_t2_loop.trips) : Fin 3 → Nat :=
  let c0_483 : Index := 0#32
  let c0_i32_1 : BitVec 32 := 0#32
  let c1_i32 : BitVec 32 := 1#32
  let arg9 : BitVec 32 := Scf.iv c0_i32_1 c1_i32 k0_t2
  let v687 : Index := Scalar.indexCast arg9
  let c68 : Index := 68#32
  ![0, v687.toNat, 68]
def k0_off142 (v5 : BitVec 32) (v688 : BitVec 32) : Fin 3 → Nat :=
  let c68_i32 : BitVec 32 := 68#32
  let v686 : BitVec 1 := Scalar.cmpi .sgt v5 c68_i32
  let c32768_i32_484 : BitVec 32 := 32768#32
  let v689 : BitVec 32 := Scalar.select v686 v688 c32768_i32_484
  let v690 : Index := Scalar.indexCast v689
  let c0_485 : Index := 0#32
  let c0_486 : Index := 0#32
  ![v690.toNat, 0, 0]

def k0_chk69 (v5 : BitVec 32) (v688 : BitVec 32) : Prop :=
  (∀ a, (k0_off142 v5 v688) a + S1x1x128.size a ≤ S32776x1x128.size a)
theorem k0_off142_inb : ∀ (v5 : BitVec 32) (v688 : BitVec 32) (k0_hw69 : k0_chk69 v5 v688), ∀ a, (k0_off142 v5 v688) a + S1x1x128.size a ≤ S32776x1x128.size a := fun v5 v688 k0_hw69 => k0_hw69

def k0_off143 (k0_t2 : Fin k0_t2_loop.trips) : Fin 3 → Nat :=
  let c0_490 : Index := 0#32
  let c0_i32_1 : BitVec 32 := 0#32
  let c1_i32 : BitVec 32 := 1#32
  let arg9 : BitVec 32 := Scf.iv c0_i32_1 c1_i32 k0_t2
  let v697 : Index := Scalar.indexCast arg9
  let c69 : Index := 69#32
  ![0, v697.toNat, 69]
def k0_off144 (v5 : BitVec 32) (v698 : BitVec 32) : Fin 3 → Nat :=
  let c69_i32 : BitVec 32 := 69#32
  let v696 : BitVec 1 := Scalar.cmpi .sgt v5 c69_i32
  let c32768_i32_491 : BitVec 32 := 32768#32
  let v699 : BitVec 32 := Scalar.select v696 v698 c32768_i32_491
  let v700 : Index := Scalar.indexCast v699
  let c0_492 : Index := 0#32
  let c0_493 : Index := 0#32
  ![v700.toNat, 0, 0]

def k0_chk70 (v5 : BitVec 32) (v698 : BitVec 32) : Prop :=
  (∀ a, (k0_off144 v5 v698) a + S1x1x128.size a ≤ S32776x1x128.size a)
theorem k0_off144_inb : ∀ (v5 : BitVec 32) (v698 : BitVec 32) (k0_hw70 : k0_chk70 v5 v698), ∀ a, (k0_off144 v5 v698) a + S1x1x128.size a ≤ S32776x1x128.size a := fun v5 v698 k0_hw70 => k0_hw70

def k0_off145 (k0_t2 : Fin k0_t2_loop.trips) : Fin 3 → Nat :=
  let c0_497 : Index := 0#32
  let c0_i32_1 : BitVec 32 := 0#32
  let c1_i32 : BitVec 32 := 1#32
  let arg9 : BitVec 32 := Scf.iv c0_i32_1 c1_i32 k0_t2
  let v707 : Index := Scalar.indexCast arg9
  let c70 : Index := 70#32
  ![0, v707.toNat, 70]
def k0_off146 (v5 : BitVec 32) (v708 : BitVec 32) : Fin 3 → Nat :=
  let c70_i32 : BitVec 32 := 70#32
  let v706 : BitVec 1 := Scalar.cmpi .sgt v5 c70_i32
  let c32768_i32_498 : BitVec 32 := 32768#32
  let v709 : BitVec 32 := Scalar.select v706 v708 c32768_i32_498
  let v710 : Index := Scalar.indexCast v709
  let c0_499 : Index := 0#32
  let c0_500 : Index := 0#32
  ![v710.toNat, 0, 0]

def k0_chk71 (v5 : BitVec 32) (v708 : BitVec 32) : Prop :=
  (∀ a, (k0_off146 v5 v708) a + S1x1x128.size a ≤ S32776x1x128.size a)
theorem k0_off146_inb : ∀ (v5 : BitVec 32) (v708 : BitVec 32) (k0_hw71 : k0_chk71 v5 v708), ∀ a, (k0_off146 v5 v708) a + S1x1x128.size a ≤ S32776x1x128.size a := fun v5 v708 k0_hw71 => k0_hw71

def k0_off147 (k0_t2 : Fin k0_t2_loop.trips) : Fin 3 → Nat :=
  let c0_504 : Index := 0#32
  let c0_i32_1 : BitVec 32 := 0#32
  let c1_i32 : BitVec 32 := 1#32
  let arg9 : BitVec 32 := Scf.iv c0_i32_1 c1_i32 k0_t2
  let v717 : Index := Scalar.indexCast arg9
  let c71 : Index := 71#32
  ![0, v717.toNat, 71]
def k0_off148 (v5 : BitVec 32) (v718 : BitVec 32) : Fin 3 → Nat :=
  let c71_i32 : BitVec 32 := 71#32
  let v716 : BitVec 1 := Scalar.cmpi .sgt v5 c71_i32
  let c32768_i32_505 : BitVec 32 := 32768#32
  let v719 : BitVec 32 := Scalar.select v716 v718 c32768_i32_505
  let v720 : Index := Scalar.indexCast v719
  let c0_506 : Index := 0#32
  let c0_507 : Index := 0#32
  ![v720.toNat, 0, 0]

def k0_chk72 (v5 : BitVec 32) (v718 : BitVec 32) : Prop :=
  (∀ a, (k0_off148 v5 v718) a + S1x1x128.size a ≤ S32776x1x128.size a)
theorem k0_off148_inb : ∀ (v5 : BitVec 32) (v718 : BitVec 32) (k0_hw72 : k0_chk72 v5 v718), ∀ a, (k0_off148 v5 v718) a + S1x1x128.size a ≤ S32776x1x128.size a := fun v5 v718 k0_hw72 => k0_hw72

def k0_off149 (k0_t2 : Fin k0_t2_loop.trips) : Fin 3 → Nat :=
  let c0_511 : Index := 0#32
  let c0_i32_1 : BitVec 32 := 0#32
  let c1_i32 : BitVec 32 := 1#32
  let arg9 : BitVec 32 := Scf.iv c0_i32_1 c1_i32 k0_t2
  let v727 : Index := Scalar.indexCast arg9
  let c72 : Index := 72#32
  ![0, v727.toNat, 72]
def k0_off150 (v5 : BitVec 32) (v728 : BitVec 32) : Fin 3 → Nat :=
  let c72_i32 : BitVec 32 := 72#32
  let v726 : BitVec 1 := Scalar.cmpi .sgt v5 c72_i32
  let c32768_i32_512 : BitVec 32 := 32768#32
  let v729 : BitVec 32 := Scalar.select v726 v728 c32768_i32_512
  let v730 : Index := Scalar.indexCast v729
  let c0_513 : Index := 0#32
  let c0_514 : Index := 0#32
  ![v730.toNat, 0, 0]

def k0_chk73 (v5 : BitVec 32) (v728 : BitVec 32) : Prop :=
  (∀ a, (k0_off150 v5 v728) a + S1x1x128.size a ≤ S32776x1x128.size a)
theorem k0_off150_inb : ∀ (v5 : BitVec 32) (v728 : BitVec 32) (k0_hw73 : k0_chk73 v5 v728), ∀ a, (k0_off150 v5 v728) a + S1x1x128.size a ≤ S32776x1x128.size a := fun v5 v728 k0_hw73 => k0_hw73

def k0_off151 (k0_t2 : Fin k0_t2_loop.trips) : Fin 3 → Nat :=
  let c0_518 : Index := 0#32
  let c0_i32_1 : BitVec 32 := 0#32
  let c1_i32 : BitVec 32 := 1#32
  let arg9 : BitVec 32 := Scf.iv c0_i32_1 c1_i32 k0_t2
  let v737 : Index := Scalar.indexCast arg9
  let c73 : Index := 73#32
  ![0, v737.toNat, 73]
def k0_off152 (v5 : BitVec 32) (v738 : BitVec 32) : Fin 3 → Nat :=
  let c73_i32 : BitVec 32 := 73#32
  let v736 : BitVec 1 := Scalar.cmpi .sgt v5 c73_i32
  let c32768_i32_519 : BitVec 32 := 32768#32
  let v739 : BitVec 32 := Scalar.select v736 v738 c32768_i32_519
  let v740 : Index := Scalar.indexCast v739
  let c0_520 : Index := 0#32
  let c0_521 : Index := 0#32
  ![v740.toNat, 0, 0]

def k0_chk74 (v5 : BitVec 32) (v738 : BitVec 32) : Prop :=
  (∀ a, (k0_off152 v5 v738) a + S1x1x128.size a ≤ S32776x1x128.size a)
theorem k0_off152_inb : ∀ (v5 : BitVec 32) (v738 : BitVec 32) (k0_hw74 : k0_chk74 v5 v738), ∀ a, (k0_off152 v5 v738) a + S1x1x128.size a ≤ S32776x1x128.size a := fun v5 v738 k0_hw74 => k0_hw74

def k0_off153 (k0_t2 : Fin k0_t2_loop.trips) : Fin 3 → Nat :=
  let c0_525 : Index := 0#32
  let c0_i32_1 : BitVec 32 := 0#32
  let c1_i32 : BitVec 32 := 1#32
  let arg9 : BitVec 32 := Scf.iv c0_i32_1 c1_i32 k0_t2
  let v747 : Index := Scalar.indexCast arg9
  let c74 : Index := 74#32
  ![0, v747.toNat, 74]
def k0_off154 (v5 : BitVec 32) (v748 : BitVec 32) : Fin 3 → Nat :=
  let c74_i32 : BitVec 32 := 74#32
  let v746 : BitVec 1 := Scalar.cmpi .sgt v5 c74_i32
  let c32768_i32_526 : BitVec 32 := 32768#32
  let v749 : BitVec 32 := Scalar.select v746 v748 c32768_i32_526
  let v750 : Index := Scalar.indexCast v749
  let c0_527 : Index := 0#32
  let c0_528 : Index := 0#32
  ![v750.toNat, 0, 0]

def k0_chk75 (v5 : BitVec 32) (v748 : BitVec 32) : Prop :=
  (∀ a, (k0_off154 v5 v748) a + S1x1x128.size a ≤ S32776x1x128.size a)
theorem k0_off154_inb : ∀ (v5 : BitVec 32) (v748 : BitVec 32) (k0_hw75 : k0_chk75 v5 v748), ∀ a, (k0_off154 v5 v748) a + S1x1x128.size a ≤ S32776x1x128.size a := fun v5 v748 k0_hw75 => k0_hw75

def k0_off155 (k0_t2 : Fin k0_t2_loop.trips) : Fin 3 → Nat :=
  let c0_532 : Index := 0#32
  let c0_i32_1 : BitVec 32 := 0#32
  let c1_i32 : BitVec 32 := 1#32
  let arg9 : BitVec 32 := Scf.iv c0_i32_1 c1_i32 k0_t2
  let v757 : Index := Scalar.indexCast arg9
  let c75 : Index := 75#32
  ![0, v757.toNat, 75]
def k0_off156 (v5 : BitVec 32) (v758 : BitVec 32) : Fin 3 → Nat :=
  let c75_i32 : BitVec 32 := 75#32
  let v756 : BitVec 1 := Scalar.cmpi .sgt v5 c75_i32
  let c32768_i32_533 : BitVec 32 := 32768#32
  let v759 : BitVec 32 := Scalar.select v756 v758 c32768_i32_533
  let v760 : Index := Scalar.indexCast v759
  let c0_534 : Index := 0#32
  let c0_535 : Index := 0#32
  ![v760.toNat, 0, 0]

def k0_chk76 (v5 : BitVec 32) (v758 : BitVec 32) : Prop :=
  (∀ a, (k0_off156 v5 v758) a + S1x1x128.size a ≤ S32776x1x128.size a)
theorem k0_off156_inb : ∀ (v5 : BitVec 32) (v758 : BitVec 32) (k0_hw76 : k0_chk76 v5 v758), ∀ a, (k0_off156 v5 v758) a + S1x1x128.size a ≤ S32776x1x128.size a := fun v5 v758 k0_hw76 => k0_hw76

def k0_off157 (k0_t2 : Fin k0_t2_loop.trips) : Fin 3 → Nat :=
  let c0_539 : Index := 0#32
  let c0_i32_1 : BitVec 32 := 0#32
  let c1_i32 : BitVec 32 := 1#32
  let arg9 : BitVec 32 := Scf.iv c0_i32_1 c1_i32 k0_t2
  let v767 : Index := Scalar.indexCast arg9
  let c76 : Index := 76#32
  ![0, v767.toNat, 76]
def k0_off158 (v5 : BitVec 32) (v768 : BitVec 32) : Fin 3 → Nat :=
  let c76_i32 : BitVec 32 := 76#32
  let v766 : BitVec 1 := Scalar.cmpi .sgt v5 c76_i32
  let c32768_i32_540 : BitVec 32 := 32768#32
  let v769 : BitVec 32 := Scalar.select v766 v768 c32768_i32_540
  let v770 : Index := Scalar.indexCast v769
  let c0_541 : Index := 0#32
  let c0_542 : Index := 0#32
  ![v770.toNat, 0, 0]

def k0_chk77 (v5 : BitVec 32) (v768 : BitVec 32) : Prop :=
  (∀ a, (k0_off158 v5 v768) a + S1x1x128.size a ≤ S32776x1x128.size a)
theorem k0_off158_inb : ∀ (v5 : BitVec 32) (v768 : BitVec 32) (k0_hw77 : k0_chk77 v5 v768), ∀ a, (k0_off158 v5 v768) a + S1x1x128.size a ≤ S32776x1x128.size a := fun v5 v768 k0_hw77 => k0_hw77

def k0_off159 (k0_t2 : Fin k0_t2_loop.trips) : Fin 3 → Nat :=
  let c0_546 : Index := 0#32
  let c0_i32_1 : BitVec 32 := 0#32
  let c1_i32 : BitVec 32 := 1#32
  let arg9 : BitVec 32 := Scf.iv c0_i32_1 c1_i32 k0_t2
  let v777 : Index := Scalar.indexCast arg9
  let c77 : Index := 77#32
  ![0, v777.toNat, 77]
def k0_off160 (v5 : BitVec 32) (v778 : BitVec 32) : Fin 3 → Nat :=
  let c77_i32 : BitVec 32 := 77#32
  let v776 : BitVec 1 := Scalar.cmpi .sgt v5 c77_i32
  let c32768_i32_547 : BitVec 32 := 32768#32
  let v779 : BitVec 32 := Scalar.select v776 v778 c32768_i32_547
  let v780 : Index := Scalar.indexCast v779
  let c0_548 : Index := 0#32
  let c0_549 : Index := 0#32
  ![v780.toNat, 0, 0]

def k0_chk78 (v5 : BitVec 32) (v778 : BitVec 32) : Prop :=
  (∀ a, (k0_off160 v5 v778) a + S1x1x128.size a ≤ S32776x1x128.size a)
theorem k0_off160_inb : ∀ (v5 : BitVec 32) (v778 : BitVec 32) (k0_hw78 : k0_chk78 v5 v778), ∀ a, (k0_off160 v5 v778) a + S1x1x128.size a ≤ S32776x1x128.size a := fun v5 v778 k0_hw78 => k0_hw78

def k0_off161 (k0_t2 : Fin k0_t2_loop.trips) : Fin 3 → Nat :=
  let c0_553 : Index := 0#32
  let c0_i32_1 : BitVec 32 := 0#32
  let c1_i32 : BitVec 32 := 1#32
  let arg9 : BitVec 32 := Scf.iv c0_i32_1 c1_i32 k0_t2
  let v787 : Index := Scalar.indexCast arg9
  let c78 : Index := 78#32
  ![0, v787.toNat, 78]
def k0_off162 (v5 : BitVec 32) (v788 : BitVec 32) : Fin 3 → Nat :=
  let c78_i32 : BitVec 32 := 78#32
  let v786 : BitVec 1 := Scalar.cmpi .sgt v5 c78_i32
  let c32768_i32_554 : BitVec 32 := 32768#32
  let v789 : BitVec 32 := Scalar.select v786 v788 c32768_i32_554
  let v790 : Index := Scalar.indexCast v789
  let c0_555 : Index := 0#32
  let c0_556 : Index := 0#32
  ![v790.toNat, 0, 0]

def k0_chk79 (v5 : BitVec 32) (v788 : BitVec 32) : Prop :=
  (∀ a, (k0_off162 v5 v788) a + S1x1x128.size a ≤ S32776x1x128.size a)
theorem k0_off162_inb : ∀ (v5 : BitVec 32) (v788 : BitVec 32) (k0_hw79 : k0_chk79 v5 v788), ∀ a, (k0_off162 v5 v788) a + S1x1x128.size a ≤ S32776x1x128.size a := fun v5 v788 k0_hw79 => k0_hw79

def k0_off163 (k0_t2 : Fin k0_t2_loop.trips) : Fin 3 → Nat :=
  let c0_560 : Index := 0#32
  let c0_i32_1 : BitVec 32 := 0#32
  let c1_i32 : BitVec 32 := 1#32
  let arg9 : BitVec 32 := Scf.iv c0_i32_1 c1_i32 k0_t2
  let v797 : Index := Scalar.indexCast arg9
  let c79 : Index := 79#32
  ![0, v797.toNat, 79]
def k0_off164 (v5 : BitVec 32) (v798 : BitVec 32) : Fin 3 → Nat :=
  let c79_i32 : BitVec 32 := 79#32
  let v796 : BitVec 1 := Scalar.cmpi .sgt v5 c79_i32
  let c32768_i32_561 : BitVec 32 := 32768#32
  let v799 : BitVec 32 := Scalar.select v796 v798 c32768_i32_561
  let v800 : Index := Scalar.indexCast v799
  let c0_562 : Index := 0#32
  let c0_563 : Index := 0#32
  ![v800.toNat, 0, 0]

def k0_chk80 (v5 : BitVec 32) (v798 : BitVec 32) : Prop :=
  (∀ a, (k0_off164 v5 v798) a + S1x1x128.size a ≤ S32776x1x128.size a)
theorem k0_off164_inb : ∀ (v5 : BitVec 32) (v798 : BitVec 32) (k0_hw80 : k0_chk80 v5 v798), ∀ a, (k0_off164 v5 v798) a + S1x1x128.size a ≤ S32776x1x128.size a := fun v5 v798 k0_hw80 => k0_hw80

def k0_off165 (k0_t2 : Fin k0_t2_loop.trips) : Fin 3 → Nat :=
  let c0_567 : Index := 0#32
  let c0_i32_1 : BitVec 32 := 0#32
  let c1_i32 : BitVec 32 := 1#32
  let arg9 : BitVec 32 := Scf.iv c0_i32_1 c1_i32 k0_t2
  let v807 : Index := Scalar.indexCast arg9
  let c80 : Index := 80#32
  ![0, v807.toNat, 80]
def k0_off166 (v5 : BitVec 32) (v808 : BitVec 32) : Fin 3 → Nat :=
  let c80_i32 : BitVec 32 := 80#32
  let v806 : BitVec 1 := Scalar.cmpi .sgt v5 c80_i32
  let c32768_i32_568 : BitVec 32 := 32768#32
  let v809 : BitVec 32 := Scalar.select v806 v808 c32768_i32_568
  let v810 : Index := Scalar.indexCast v809
  let c0_569 : Index := 0#32
  let c0_570 : Index := 0#32
  ![v810.toNat, 0, 0]

def k0_chk81 (v5 : BitVec 32) (v808 : BitVec 32) : Prop :=
  (∀ a, (k0_off166 v5 v808) a + S1x1x128.size a ≤ S32776x1x128.size a)
theorem k0_off166_inb : ∀ (v5 : BitVec 32) (v808 : BitVec 32) (k0_hw81 : k0_chk81 v5 v808), ∀ a, (k0_off166 v5 v808) a + S1x1x128.size a ≤ S32776x1x128.size a := fun v5 v808 k0_hw81 => k0_hw81

def k0_off167 (k0_t2 : Fin k0_t2_loop.trips) : Fin 3 → Nat :=
  let c0_574 : Index := 0#32
  let c0_i32_1 : BitVec 32 := 0#32
  let c1_i32 : BitVec 32 := 1#32
  let arg9 : BitVec 32 := Scf.iv c0_i32_1 c1_i32 k0_t2
  let v817 : Index := Scalar.indexCast arg9
  let c81 : Index := 81#32
  ![0, v817.toNat, 81]
def k0_off168 (v5 : BitVec 32) (v818 : BitVec 32) : Fin 3 → Nat :=
  let c81_i32 : BitVec 32 := 81#32
  let v816 : BitVec 1 := Scalar.cmpi .sgt v5 c81_i32
  let c32768_i32_575 : BitVec 32 := 32768#32
  let v819 : BitVec 32 := Scalar.select v816 v818 c32768_i32_575
  let v820 : Index := Scalar.indexCast v819
  let c0_576 : Index := 0#32
  let c0_577 : Index := 0#32
  ![v820.toNat, 0, 0]

def k0_chk82 (v5 : BitVec 32) (v818 : BitVec 32) : Prop :=
  (∀ a, (k0_off168 v5 v818) a + S1x1x128.size a ≤ S32776x1x128.size a)
theorem k0_off168_inb : ∀ (v5 : BitVec 32) (v818 : BitVec 32) (k0_hw82 : k0_chk82 v5 v818), ∀ a, (k0_off168 v5 v818) a + S1x1x128.size a ≤ S32776x1x128.size a := fun v5 v818 k0_hw82 => k0_hw82

def k0_off169 (k0_t2 : Fin k0_t2_loop.trips) : Fin 3 → Nat :=
  let c0_581 : Index := 0#32
  let c0_i32_1 : BitVec 32 := 0#32
  let c1_i32 : BitVec 32 := 1#32
  let arg9 : BitVec 32 := Scf.iv c0_i32_1 c1_i32 k0_t2
  let v827 : Index := Scalar.indexCast arg9
  let c82 : Index := 82#32
  ![0, v827.toNat, 82]
def k0_off170 (v5 : BitVec 32) (v828 : BitVec 32) : Fin 3 → Nat :=
  let c82_i32 : BitVec 32 := 82#32
  let v826 : BitVec 1 := Scalar.cmpi .sgt v5 c82_i32
  let c32768_i32_582 : BitVec 32 := 32768#32
  let v829 : BitVec 32 := Scalar.select v826 v828 c32768_i32_582
  let v830 : Index := Scalar.indexCast v829
  let c0_583 : Index := 0#32
  let c0_584 : Index := 0#32
  ![v830.toNat, 0, 0]

def k0_chk83 (v5 : BitVec 32) (v828 : BitVec 32) : Prop :=
  (∀ a, (k0_off170 v5 v828) a + S1x1x128.size a ≤ S32776x1x128.size a)
theorem k0_off170_inb : ∀ (v5 : BitVec 32) (v828 : BitVec 32) (k0_hw83 : k0_chk83 v5 v828), ∀ a, (k0_off170 v5 v828) a + S1x1x128.size a ≤ S32776x1x128.size a := fun v5 v828 k0_hw83 => k0_hw83

def k0_off171 (k0_t2 : Fin k0_t2_loop.trips) : Fin 3 → Nat :=
  let c0_588 : Index := 0#32
  let c0_i32_1 : BitVec 32 := 0#32
  let c1_i32 : BitVec 32 := 1#32
  let arg9 : BitVec 32 := Scf.iv c0_i32_1 c1_i32 k0_t2
  let v837 : Index := Scalar.indexCast arg9
  let c83 : Index := 83#32
  ![0, v837.toNat, 83]
def k0_off172 (v5 : BitVec 32) (v838 : BitVec 32) : Fin 3 → Nat :=
  let c83_i32 : BitVec 32 := 83#32
  let v836 : BitVec 1 := Scalar.cmpi .sgt v5 c83_i32
  let c32768_i32_589 : BitVec 32 := 32768#32
  let v839 : BitVec 32 := Scalar.select v836 v838 c32768_i32_589
  let v840 : Index := Scalar.indexCast v839
  let c0_590 : Index := 0#32
  let c0_591 : Index := 0#32
  ![v840.toNat, 0, 0]

def k0_chk84 (v5 : BitVec 32) (v838 : BitVec 32) : Prop :=
  (∀ a, (k0_off172 v5 v838) a + S1x1x128.size a ≤ S32776x1x128.size a)
theorem k0_off172_inb : ∀ (v5 : BitVec 32) (v838 : BitVec 32) (k0_hw84 : k0_chk84 v5 v838), ∀ a, (k0_off172 v5 v838) a + S1x1x128.size a ≤ S32776x1x128.size a := fun v5 v838 k0_hw84 => k0_hw84

def k0_off173 (k0_t2 : Fin k0_t2_loop.trips) : Fin 3 → Nat :=
  let c0_595 : Index := 0#32
  let c0_i32_1 : BitVec 32 := 0#32
  let c1_i32 : BitVec 32 := 1#32
  let arg9 : BitVec 32 := Scf.iv c0_i32_1 c1_i32 k0_t2
  let v847 : Index := Scalar.indexCast arg9
  let c84 : Index := 84#32
  ![0, v847.toNat, 84]
def k0_off174 (v5 : BitVec 32) (v848 : BitVec 32) : Fin 3 → Nat :=
  let c84_i32 : BitVec 32 := 84#32
  let v846 : BitVec 1 := Scalar.cmpi .sgt v5 c84_i32
  let c32768_i32_596 : BitVec 32 := 32768#32
  let v849 : BitVec 32 := Scalar.select v846 v848 c32768_i32_596
  let v850 : Index := Scalar.indexCast v849
  let c0_597 : Index := 0#32
  let c0_598 : Index := 0#32
  ![v850.toNat, 0, 0]

def k0_chk85 (v5 : BitVec 32) (v848 : BitVec 32) : Prop :=
  (∀ a, (k0_off174 v5 v848) a + S1x1x128.size a ≤ S32776x1x128.size a)
theorem k0_off174_inb : ∀ (v5 : BitVec 32) (v848 : BitVec 32) (k0_hw85 : k0_chk85 v5 v848), ∀ a, (k0_off174 v5 v848) a + S1x1x128.size a ≤ S32776x1x128.size a := fun v5 v848 k0_hw85 => k0_hw85

def k0_off175 (k0_t2 : Fin k0_t2_loop.trips) : Fin 3 → Nat :=
  let c0_602 : Index := 0#32
  let c0_i32_1 : BitVec 32 := 0#32
  let c1_i32 : BitVec 32 := 1#32
  let arg9 : BitVec 32 := Scf.iv c0_i32_1 c1_i32 k0_t2
  let v857 : Index := Scalar.indexCast arg9
  let c85 : Index := 85#32
  ![0, v857.toNat, 85]
def k0_off176 (v5 : BitVec 32) (v858 : BitVec 32) : Fin 3 → Nat :=
  let c85_i32 : BitVec 32 := 85#32
  let v856 : BitVec 1 := Scalar.cmpi .sgt v5 c85_i32
  let c32768_i32_603 : BitVec 32 := 32768#32
  let v859 : BitVec 32 := Scalar.select v856 v858 c32768_i32_603
  let v860 : Index := Scalar.indexCast v859
  let c0_604 : Index := 0#32
  let c0_605 : Index := 0#32
  ![v860.toNat, 0, 0]

def k0_chk86 (v5 : BitVec 32) (v858 : BitVec 32) : Prop :=
  (∀ a, (k0_off176 v5 v858) a + S1x1x128.size a ≤ S32776x1x128.size a)
theorem k0_off176_inb : ∀ (v5 : BitVec 32) (v858 : BitVec 32) (k0_hw86 : k0_chk86 v5 v858), ∀ a, (k0_off176 v5 v858) a + S1x1x128.size a ≤ S32776x1x128.size a := fun v5 v858 k0_hw86 => k0_hw86

def k0_off177 (k0_t2 : Fin k0_t2_loop.trips) : Fin 3 → Nat :=
  let c0_609 : Index := 0#32
  let c0_i32_1 : BitVec 32 := 0#32
  let c1_i32 : BitVec 32 := 1#32
  let arg9 : BitVec 32 := Scf.iv c0_i32_1 c1_i32 k0_t2
  let v867 : Index := Scalar.indexCast arg9
  let c86 : Index := 86#32
  ![0, v867.toNat, 86]
def k0_off178 (v5 : BitVec 32) (v868 : BitVec 32) : Fin 3 → Nat :=
  let c86_i32 : BitVec 32 := 86#32
  let v866 : BitVec 1 := Scalar.cmpi .sgt v5 c86_i32
  let c32768_i32_610 : BitVec 32 := 32768#32
  let v869 : BitVec 32 := Scalar.select v866 v868 c32768_i32_610
  let v870 : Index := Scalar.indexCast v869
  let c0_611 : Index := 0#32
  let c0_612 : Index := 0#32
  ![v870.toNat, 0, 0]

def k0_chk87 (v5 : BitVec 32) (v868 : BitVec 32) : Prop :=
  (∀ a, (k0_off178 v5 v868) a + S1x1x128.size a ≤ S32776x1x128.size a)
theorem k0_off178_inb : ∀ (v5 : BitVec 32) (v868 : BitVec 32) (k0_hw87 : k0_chk87 v5 v868), ∀ a, (k0_off178 v5 v868) a + S1x1x128.size a ≤ S32776x1x128.size a := fun v5 v868 k0_hw87 => k0_hw87

def k0_off179 (k0_t2 : Fin k0_t2_loop.trips) : Fin 3 → Nat :=
  let c0_616 : Index := 0#32
  let c0_i32_1 : BitVec 32 := 0#32
  let c1_i32 : BitVec 32 := 1#32
  let arg9 : BitVec 32 := Scf.iv c0_i32_1 c1_i32 k0_t2
  let v877 : Index := Scalar.indexCast arg9
  let c87 : Index := 87#32
  ![0, v877.toNat, 87]
def k0_off180 (v5 : BitVec 32) (v878 : BitVec 32) : Fin 3 → Nat :=
  let c87_i32 : BitVec 32 := 87#32
  let v876 : BitVec 1 := Scalar.cmpi .sgt v5 c87_i32
  let c32768_i32_617 : BitVec 32 := 32768#32
  let v879 : BitVec 32 := Scalar.select v876 v878 c32768_i32_617
  let v880 : Index := Scalar.indexCast v879
  let c0_618 : Index := 0#32
  let c0_619 : Index := 0#32
  ![v880.toNat, 0, 0]

def k0_chk88 (v5 : BitVec 32) (v878 : BitVec 32) : Prop :=
  (∀ a, (k0_off180 v5 v878) a + S1x1x128.size a ≤ S32776x1x128.size a)
theorem k0_off180_inb : ∀ (v5 : BitVec 32) (v878 : BitVec 32) (k0_hw88 : k0_chk88 v5 v878), ∀ a, (k0_off180 v5 v878) a + S1x1x128.size a ≤ S32776x1x128.size a := fun v5 v878 k0_hw88 => k0_hw88

def k0_off181 (k0_t2 : Fin k0_t2_loop.trips) : Fin 3 → Nat :=
  let c0_623 : Index := 0#32
  let c0_i32_1 : BitVec 32 := 0#32
  let c1_i32 : BitVec 32 := 1#32
  let arg9 : BitVec 32 := Scf.iv c0_i32_1 c1_i32 k0_t2
  let v887 : Index := Scalar.indexCast arg9
  let c88 : Index := 88#32
  ![0, v887.toNat, 88]
def k0_off182 (v5 : BitVec 32) (v888 : BitVec 32) : Fin 3 → Nat :=
  let c88_i32 : BitVec 32 := 88#32
  let v886 : BitVec 1 := Scalar.cmpi .sgt v5 c88_i32
  let c32768_i32_624 : BitVec 32 := 32768#32
  let v889 : BitVec 32 := Scalar.select v886 v888 c32768_i32_624
  let v890 : Index := Scalar.indexCast v889
  let c0_625 : Index := 0#32
  let c0_626 : Index := 0#32
  ![v890.toNat, 0, 0]

def k0_chk89 (v5 : BitVec 32) (v888 : BitVec 32) : Prop :=
  (∀ a, (k0_off182 v5 v888) a + S1x1x128.size a ≤ S32776x1x128.size a)
theorem k0_off182_inb : ∀ (v5 : BitVec 32) (v888 : BitVec 32) (k0_hw89 : k0_chk89 v5 v888), ∀ a, (k0_off182 v5 v888) a + S1x1x128.size a ≤ S32776x1x128.size a := fun v5 v888 k0_hw89 => k0_hw89

def k0_off183 (k0_t2 : Fin k0_t2_loop.trips) : Fin 3 → Nat :=
  let c0_630 : Index := 0#32
  let c0_i32_1 : BitVec 32 := 0#32
  let c1_i32 : BitVec 32 := 1#32
  let arg9 : BitVec 32 := Scf.iv c0_i32_1 c1_i32 k0_t2
  let v897 : Index := Scalar.indexCast arg9
  let c89 : Index := 89#32
  ![0, v897.toNat, 89]
def k0_off184 (v5 : BitVec 32) (v898 : BitVec 32) : Fin 3 → Nat :=
  let c89_i32 : BitVec 32 := 89#32
  let v896 : BitVec 1 := Scalar.cmpi .sgt v5 c89_i32
  let c32768_i32_631 : BitVec 32 := 32768#32
  let v899 : BitVec 32 := Scalar.select v896 v898 c32768_i32_631
  let v900 : Index := Scalar.indexCast v899
  let c0_632 : Index := 0#32
  let c0_633 : Index := 0#32
  ![v900.toNat, 0, 0]

def k0_chk90 (v5 : BitVec 32) (v898 : BitVec 32) : Prop :=
  (∀ a, (k0_off184 v5 v898) a + S1x1x128.size a ≤ S32776x1x128.size a)
theorem k0_off184_inb : ∀ (v5 : BitVec 32) (v898 : BitVec 32) (k0_hw90 : k0_chk90 v5 v898), ∀ a, (k0_off184 v5 v898) a + S1x1x128.size a ≤ S32776x1x128.size a := fun v5 v898 k0_hw90 => k0_hw90

def k0_off185 (k0_t2 : Fin k0_t2_loop.trips) : Fin 3 → Nat :=
  let c0_637 : Index := 0#32
  let c0_i32_1 : BitVec 32 := 0#32
  let c1_i32 : BitVec 32 := 1#32
  let arg9 : BitVec 32 := Scf.iv c0_i32_1 c1_i32 k0_t2
  let v907 : Index := Scalar.indexCast arg9
  let c90 : Index := 90#32
  ![0, v907.toNat, 90]
def k0_off186 (v5 : BitVec 32) (v908 : BitVec 32) : Fin 3 → Nat :=
  let c90_i32 : BitVec 32 := 90#32
  let v906 : BitVec 1 := Scalar.cmpi .sgt v5 c90_i32
  let c32768_i32_638 : BitVec 32 := 32768#32
  let v909 : BitVec 32 := Scalar.select v906 v908 c32768_i32_638
  let v910 : Index := Scalar.indexCast v909
  let c0_639 : Index := 0#32
  let c0_640 : Index := 0#32
  ![v910.toNat, 0, 0]

def k0_chk91 (v5 : BitVec 32) (v908 : BitVec 32) : Prop :=
  (∀ a, (k0_off186 v5 v908) a + S1x1x128.size a ≤ S32776x1x128.size a)
theorem k0_off186_inb : ∀ (v5 : BitVec 32) (v908 : BitVec 32) (k0_hw91 : k0_chk91 v5 v908), ∀ a, (k0_off186 v5 v908) a + S1x1x128.size a ≤ S32776x1x128.size a := fun v5 v908 k0_hw91 => k0_hw91

def k0_off187 (k0_t2 : Fin k0_t2_loop.trips) : Fin 3 → Nat :=
  let c0_644 : Index := 0#32
  let c0_i32_1 : BitVec 32 := 0#32
  let c1_i32 : BitVec 32 := 1#32
  let arg9 : BitVec 32 := Scf.iv c0_i32_1 c1_i32 k0_t2
  let v917 : Index := Scalar.indexCast arg9
  let c91 : Index := 91#32
  ![0, v917.toNat, 91]
def k0_off188 (v5 : BitVec 32) (v918 : BitVec 32) : Fin 3 → Nat :=
  let c91_i32 : BitVec 32 := 91#32
  let v916 : BitVec 1 := Scalar.cmpi .sgt v5 c91_i32
  let c32768_i32_645 : BitVec 32 := 32768#32
  let v919 : BitVec 32 := Scalar.select v916 v918 c32768_i32_645
  let v920 : Index := Scalar.indexCast v919
  let c0_646 : Index := 0#32
  let c0_647 : Index := 0#32
  ![v920.toNat, 0, 0]

def k0_chk92 (v5 : BitVec 32) (v918 : BitVec 32) : Prop :=
  (∀ a, (k0_off188 v5 v918) a + S1x1x128.size a ≤ S32776x1x128.size a)
theorem k0_off188_inb : ∀ (v5 : BitVec 32) (v918 : BitVec 32) (k0_hw92 : k0_chk92 v5 v918), ∀ a, (k0_off188 v5 v918) a + S1x1x128.size a ≤ S32776x1x128.size a := fun v5 v918 k0_hw92 => k0_hw92

def k0_off189 (k0_t2 : Fin k0_t2_loop.trips) : Fin 3 → Nat :=
  let c0_651 : Index := 0#32
  let c0_i32_1 : BitVec 32 := 0#32
  let c1_i32 : BitVec 32 := 1#32
  let arg9 : BitVec 32 := Scf.iv c0_i32_1 c1_i32 k0_t2
  let v927 : Index := Scalar.indexCast arg9
  let c92 : Index := 92#32
  ![0, v927.toNat, 92]
def k0_off190 (v5 : BitVec 32) (v928 : BitVec 32) : Fin 3 → Nat :=
  let c92_i32 : BitVec 32 := 92#32
  let v926 : BitVec 1 := Scalar.cmpi .sgt v5 c92_i32
  let c32768_i32_652 : BitVec 32 := 32768#32
  let v929 : BitVec 32 := Scalar.select v926 v928 c32768_i32_652
  let v930 : Index := Scalar.indexCast v929
  let c0_653 : Index := 0#32
  let c0_654 : Index := 0#32
  ![v930.toNat, 0, 0]

def k0_chk93 (v5 : BitVec 32) (v928 : BitVec 32) : Prop :=
  (∀ a, (k0_off190 v5 v928) a + S1x1x128.size a ≤ S32776x1x128.size a)
theorem k0_off190_inb : ∀ (v5 : BitVec 32) (v928 : BitVec 32) (k0_hw93 : k0_chk93 v5 v928), ∀ a, (k0_off190 v5 v928) a + S1x1x128.size a ≤ S32776x1x128.size a := fun v5 v928 k0_hw93 => k0_hw93

def k0_off191 (k0_t2 : Fin k0_t2_loop.trips) : Fin 3 → Nat :=
  let c0_658 : Index := 0#32
  let c0_i32_1 : BitVec 32 := 0#32
  let c1_i32 : BitVec 32 := 1#32
  let arg9 : BitVec 32 := Scf.iv c0_i32_1 c1_i32 k0_t2
  let v937 : Index := Scalar.indexCast arg9
  let c93 : Index := 93#32
  ![0, v937.toNat, 93]
def k0_off192 (v5 : BitVec 32) (v938 : BitVec 32) : Fin 3 → Nat :=
  let c93_i32 : BitVec 32 := 93#32
  let v936 : BitVec 1 := Scalar.cmpi .sgt v5 c93_i32
  let c32768_i32_659 : BitVec 32 := 32768#32
  let v939 : BitVec 32 := Scalar.select v936 v938 c32768_i32_659
  let v940 : Index := Scalar.indexCast v939
  let c0_660 : Index := 0#32
  let c0_661 : Index := 0#32
  ![v940.toNat, 0, 0]

def k0_chk94 (v5 : BitVec 32) (v938 : BitVec 32) : Prop :=
  (∀ a, (k0_off192 v5 v938) a + S1x1x128.size a ≤ S32776x1x128.size a)
theorem k0_off192_inb : ∀ (v5 : BitVec 32) (v938 : BitVec 32) (k0_hw94 : k0_chk94 v5 v938), ∀ a, (k0_off192 v5 v938) a + S1x1x128.size a ≤ S32776x1x128.size a := fun v5 v938 k0_hw94 => k0_hw94

def k0_off193 (k0_t2 : Fin k0_t2_loop.trips) : Fin 3 → Nat :=
  let c0_665 : Index := 0#32
  let c0_i32_1 : BitVec 32 := 0#32
  let c1_i32 : BitVec 32 := 1#32
  let arg9 : BitVec 32 := Scf.iv c0_i32_1 c1_i32 k0_t2
  let v947 : Index := Scalar.indexCast arg9
  let c94 : Index := 94#32
  ![0, v947.toNat, 94]
def k0_off194 (v5 : BitVec 32) (v948 : BitVec 32) : Fin 3 → Nat :=
  let c94_i32 : BitVec 32 := 94#32
  let v946 : BitVec 1 := Scalar.cmpi .sgt v5 c94_i32
  let c32768_i32_666 : BitVec 32 := 32768#32
  let v949 : BitVec 32 := Scalar.select v946 v948 c32768_i32_666
  let v950 : Index := Scalar.indexCast v949
  let c0_667 : Index := 0#32
  let c0_668 : Index := 0#32
  ![v950.toNat, 0, 0]

def k0_chk95 (v5 : BitVec 32) (v948 : BitVec 32) : Prop :=
  (∀ a, (k0_off194 v5 v948) a + S1x1x128.size a ≤ S32776x1x128.size a)
theorem k0_off194_inb : ∀ (v5 : BitVec 32) (v948 : BitVec 32) (k0_hw95 : k0_chk95 v5 v948), ∀ a, (k0_off194 v5 v948) a + S1x1x128.size a ≤ S32776x1x128.size a := fun v5 v948 k0_hw95 => k0_hw95

def k0_off195 (k0_t2 : Fin k0_t2_loop.trips) : Fin 3 → Nat :=
  let c0_672 : Index := 0#32
  let c0_i32_1 : BitVec 32 := 0#32
  let c1_i32 : BitVec 32 := 1#32
  let arg9 : BitVec 32 := Scf.iv c0_i32_1 c1_i32 k0_t2
  let v957 : Index := Scalar.indexCast arg9
  let c95 : Index := 95#32
  ![0, v957.toNat, 95]
def k0_off196 (v5 : BitVec 32) (v958 : BitVec 32) : Fin 3 → Nat :=
  let c95_i32 : BitVec 32 := 95#32
  let v956 : BitVec 1 := Scalar.cmpi .sgt v5 c95_i32
  let c32768_i32_673 : BitVec 32 := 32768#32
  let v959 : BitVec 32 := Scalar.select v956 v958 c32768_i32_673
  let v960 : Index := Scalar.indexCast v959
  let c0_674 : Index := 0#32
  let c0_675 : Index := 0#32
  ![v960.toNat, 0, 0]

def k0_chk96 (v5 : BitVec 32) (v958 : BitVec 32) : Prop :=
  (∀ a, (k0_off196 v5 v958) a + S1x1x128.size a ≤ S32776x1x128.size a)
theorem k0_off196_inb : ∀ (v5 : BitVec 32) (v958 : BitVec 32) (k0_hw96 : k0_chk96 v5 v958), ∀ a, (k0_off196 v5 v958) a + S1x1x128.size a ≤ S32776x1x128.size a := fun v5 v958 k0_hw96 => k0_hw96

def k0_off197 (k0_t2 : Fin k0_t2_loop.trips) : Fin 3 → Nat :=
  let c0_679 : Index := 0#32
  let c0_i32_1 : BitVec 32 := 0#32
  let c1_i32 : BitVec 32 := 1#32
  let arg9 : BitVec 32 := Scf.iv c0_i32_1 c1_i32 k0_t2
  let v967 : Index := Scalar.indexCast arg9
  let c96 : Index := 96#32
  ![0, v967.toNat, 96]
def k0_off198 (v5 : BitVec 32) (v968 : BitVec 32) : Fin 3 → Nat :=
  let c96_i32 : BitVec 32 := 96#32
  let v966 : BitVec 1 := Scalar.cmpi .sgt v5 c96_i32
  let c32768_i32_680 : BitVec 32 := 32768#32
  let v969 : BitVec 32 := Scalar.select v966 v968 c32768_i32_680
  let v970 : Index := Scalar.indexCast v969
  let c0_681 : Index := 0#32
  let c0_682 : Index := 0#32
  ![v970.toNat, 0, 0]

def k0_chk97 (v5 : BitVec 32) (v968 : BitVec 32) : Prop :=
  (∀ a, (k0_off198 v5 v968) a + S1x1x128.size a ≤ S32776x1x128.size a)
theorem k0_off198_inb : ∀ (v5 : BitVec 32) (v968 : BitVec 32) (k0_hw97 : k0_chk97 v5 v968), ∀ a, (k0_off198 v5 v968) a + S1x1x128.size a ≤ S32776x1x128.size a := fun v5 v968 k0_hw97 => k0_hw97

def k0_off199 (k0_t2 : Fin k0_t2_loop.trips) : Fin 3 → Nat :=
  let c0_686 : Index := 0#32
  let c0_i32_1 : BitVec 32 := 0#32
  let c1_i32 : BitVec 32 := 1#32
  let arg9 : BitVec 32 := Scf.iv c0_i32_1 c1_i32 k0_t2
  let v977 : Index := Scalar.indexCast arg9
  let c97 : Index := 97#32
  ![0, v977.toNat, 97]
def k0_off200 (v5 : BitVec 32) (v978 : BitVec 32) : Fin 3 → Nat :=
  let c97_i32 : BitVec 32 := 97#32
  let v976 : BitVec 1 := Scalar.cmpi .sgt v5 c97_i32
  let c32768_i32_687 : BitVec 32 := 32768#32
  let v979 : BitVec 32 := Scalar.select v976 v978 c32768_i32_687
  let v980 : Index := Scalar.indexCast v979
  let c0_688 : Index := 0#32
  let c0_689 : Index := 0#32
  ![v980.toNat, 0, 0]

def k0_chk98 (v5 : BitVec 32) (v978 : BitVec 32) : Prop :=
  (∀ a, (k0_off200 v5 v978) a + S1x1x128.size a ≤ S32776x1x128.size a)
theorem k0_off200_inb : ∀ (v5 : BitVec 32) (v978 : BitVec 32) (k0_hw98 : k0_chk98 v5 v978), ∀ a, (k0_off200 v5 v978) a + S1x1x128.size a ≤ S32776x1x128.size a := fun v5 v978 k0_hw98 => k0_hw98

def k0_off201 (k0_t2 : Fin k0_t2_loop.trips) : Fin 3 → Nat :=
  let c0_693 : Index := 0#32
  let c0_i32_1 : BitVec 32 := 0#32
  let c1_i32 : BitVec 32 := 1#32
  let arg9 : BitVec 32 := Scf.iv c0_i32_1 c1_i32 k0_t2
  let v987 : Index := Scalar.indexCast arg9
  let c98 : Index := 98#32
  ![0, v987.toNat, 98]
def k0_off202 (v5 : BitVec 32) (v988 : BitVec 32) : Fin 3 → Nat :=
  let c98_i32 : BitVec 32 := 98#32
  let v986 : BitVec 1 := Scalar.cmpi .sgt v5 c98_i32
  let c32768_i32_694 : BitVec 32 := 32768#32
  let v989 : BitVec 32 := Scalar.select v986 v988 c32768_i32_694
  let v990 : Index := Scalar.indexCast v989
  let c0_695 : Index := 0#32
  let c0_696 : Index := 0#32
  ![v990.toNat, 0, 0]

def k0_chk99 (v5 : BitVec 32) (v988 : BitVec 32) : Prop :=
  (∀ a, (k0_off202 v5 v988) a + S1x1x128.size a ≤ S32776x1x128.size a)
theorem k0_off202_inb : ∀ (v5 : BitVec 32) (v988 : BitVec 32) (k0_hw99 : k0_chk99 v5 v988), ∀ a, (k0_off202 v5 v988) a + S1x1x128.size a ≤ S32776x1x128.size a := fun v5 v988 k0_hw99 => k0_hw99

def k0_off203 (k0_t2 : Fin k0_t2_loop.trips) : Fin 3 → Nat :=
  let c0_700 : Index := 0#32
  let c0_i32_1 : BitVec 32 := 0#32
  let c1_i32 : BitVec 32 := 1#32
  let arg9 : BitVec 32 := Scf.iv c0_i32_1 c1_i32 k0_t2
  let v997 : Index := Scalar.indexCast arg9
  let c99 : Index := 99#32
  ![0, v997.toNat, 99]
def k0_off204 (v5 : BitVec 32) (v998 : BitVec 32) : Fin 3 → Nat :=
  let c99_i32 : BitVec 32 := 99#32
  let v996 : BitVec 1 := Scalar.cmpi .sgt v5 c99_i32
  let c32768_i32_701 : BitVec 32 := 32768#32
  let v999 : BitVec 32 := Scalar.select v996 v998 c32768_i32_701
  let v1000 : Index := Scalar.indexCast v999
  let c0_702 : Index := 0#32
  let c0_703 : Index := 0#32
  ![v1000.toNat, 0, 0]

def k0_chk100 (v5 : BitVec 32) (v998 : BitVec 32) : Prop :=
  (∀ a, (k0_off204 v5 v998) a + S1x1x128.size a ≤ S32776x1x128.size a)
theorem k0_off204_inb : ∀ (v5 : BitVec 32) (v998 : BitVec 32) (k0_hw100 : k0_chk100 v5 v998), ∀ a, (k0_off204 v5 v998) a + S1x1x128.size a ≤ S32776x1x128.size a := fun v5 v998 k0_hw100 => k0_hw100

def k0_off205 (k0_t2 : Fin k0_t2_loop.trips) : Fin 3 → Nat :=
  let c0_707 : Index := 0#32
  let c0_i32_1 : BitVec 32 := 0#32
  let c1_i32 : BitVec 32 := 1#32
  let arg9 : BitVec 32 := Scf.iv c0_i32_1 c1_i32 k0_t2
  let v1007 : Index := Scalar.indexCast arg9
  let c100 : Index := 100#32
  ![0, v1007.toNat, 100]
def k0_off206 (v5 : BitVec 32) (v1008 : BitVec 32) : Fin 3 → Nat :=
  let c100_i32 : BitVec 32 := 100#32
  let v1006 : BitVec 1 := Scalar.cmpi .sgt v5 c100_i32
  let c32768_i32_708 : BitVec 32 := 32768#32
  let v1009 : BitVec 32 := Scalar.select v1006 v1008 c32768_i32_708
  let v1010 : Index := Scalar.indexCast v1009
  let c0_709 : Index := 0#32
  let c0_710 : Index := 0#32
  ![v1010.toNat, 0, 0]

def k0_chk101 (v5 : BitVec 32) (v1008 : BitVec 32) : Prop :=
  (∀ a, (k0_off206 v5 v1008) a + S1x1x128.size a ≤ S32776x1x128.size a)
theorem k0_off206_inb : ∀ (v5 : BitVec 32) (v1008 : BitVec 32) (k0_hw101 : k0_chk101 v5 v1008), ∀ a, (k0_off206 v5 v1008) a + S1x1x128.size a ≤ S32776x1x128.size a := fun v5 v1008 k0_hw101 => k0_hw101

def k0_off207 (k0_t2 : Fin k0_t2_loop.trips) : Fin 3 → Nat :=
  let c0_714 : Index := 0#32
  let c0_i32_1 : BitVec 32 := 0#32
  let c1_i32 : BitVec 32 := 1#32
  let arg9 : BitVec 32 := Scf.iv c0_i32_1 c1_i32 k0_t2
  let v1017 : Index := Scalar.indexCast arg9
  let c101 : Index := 101#32
  ![0, v1017.toNat, 101]
def k0_off208 (v5 : BitVec 32) (v1018 : BitVec 32) : Fin 3 → Nat :=
  let c101_i32 : BitVec 32 := 101#32
  let v1016 : BitVec 1 := Scalar.cmpi .sgt v5 c101_i32
  let c32768_i32_715 : BitVec 32 := 32768#32
  let v1019 : BitVec 32 := Scalar.select v1016 v1018 c32768_i32_715
  let v1020 : Index := Scalar.indexCast v1019
  let c0_716 : Index := 0#32
  let c0_717 : Index := 0#32
  ![v1020.toNat, 0, 0]

def k0_chk102 (v5 : BitVec 32) (v1018 : BitVec 32) : Prop :=
  (∀ a, (k0_off208 v5 v1018) a + S1x1x128.size a ≤ S32776x1x128.size a)
theorem k0_off208_inb : ∀ (v5 : BitVec 32) (v1018 : BitVec 32) (k0_hw102 : k0_chk102 v5 v1018), ∀ a, (k0_off208 v5 v1018) a + S1x1x128.size a ≤ S32776x1x128.size a := fun v5 v1018 k0_hw102 => k0_hw102

def k0_off209 (k0_t2 : Fin k0_t2_loop.trips) : Fin 3 → Nat :=
  let c0_721 : Index := 0#32
  let c0_i32_1 : BitVec 32 := 0#32
  let c1_i32 : BitVec 32 := 1#32
  let arg9 : BitVec 32 := Scf.iv c0_i32_1 c1_i32 k0_t2
  let v1027 : Index := Scalar.indexCast arg9
  let c102 : Index := 102#32
  ![0, v1027.toNat, 102]
def k0_off210 (v5 : BitVec 32) (v1028 : BitVec 32) : Fin 3 → Nat :=
  let c102_i32 : BitVec 32 := 102#32
  let v1026 : BitVec 1 := Scalar.cmpi .sgt v5 c102_i32
  let c32768_i32_722 : BitVec 32 := 32768#32
  let v1029 : BitVec 32 := Scalar.select v1026 v1028 c32768_i32_722
  let v1030 : Index := Scalar.indexCast v1029
  let c0_723 : Index := 0#32
  let c0_724 : Index := 0#32
  ![v1030.toNat, 0, 0]

def k0_chk103 (v5 : BitVec 32) (v1028 : BitVec 32) : Prop :=
  (∀ a, (k0_off210 v5 v1028) a + S1x1x128.size a ≤ S32776x1x128.size a)
theorem k0_off210_inb : ∀ (v5 : BitVec 32) (v1028 : BitVec 32) (k0_hw103 : k0_chk103 v5 v1028), ∀ a, (k0_off210 v5 v1028) a + S1x1x128.size a ≤ S32776x1x128.size a := fun v5 v1028 k0_hw103 => k0_hw103

def k0_off211 (k0_t2 : Fin k0_t2_loop.trips) : Fin 3 → Nat :=
  let c0_728 : Index := 0#32
  let c0_i32_1 : BitVec 32 := 0#32
  let c1_i32 : BitVec 32 := 1#32
  let arg9 : BitVec 32 := Scf.iv c0_i32_1 c1_i32 k0_t2
  let v1037 : Index := Scalar.indexCast arg9
  let c103 : Index := 103#32
  ![0, v1037.toNat, 103]
def k0_off212 (v5 : BitVec 32) (v1038 : BitVec 32) : Fin 3 → Nat :=
  let c103_i32 : BitVec 32 := 103#32
  let v1036 : BitVec 1 := Scalar.cmpi .sgt v5 c103_i32
  let c32768_i32_729 : BitVec 32 := 32768#32
  let v1039 : BitVec 32 := Scalar.select v1036 v1038 c32768_i32_729
  let v1040 : Index := Scalar.indexCast v1039
  let c0_730 : Index := 0#32
  let c0_731 : Index := 0#32
  ![v1040.toNat, 0, 0]

def k0_chk104 (v5 : BitVec 32) (v1038 : BitVec 32) : Prop :=
  (∀ a, (k0_off212 v5 v1038) a + S1x1x128.size a ≤ S32776x1x128.size a)
theorem k0_off212_inb : ∀ (v5 : BitVec 32) (v1038 : BitVec 32) (k0_hw104 : k0_chk104 v5 v1038), ∀ a, (k0_off212 v5 v1038) a + S1x1x128.size a ≤ S32776x1x128.size a := fun v5 v1038 k0_hw104 => k0_hw104

def k0_off213 (k0_t2 : Fin k0_t2_loop.trips) : Fin 3 → Nat :=
  let c0_735 : Index := 0#32
  let c0_i32_1 : BitVec 32 := 0#32
  let c1_i32 : BitVec 32 := 1#32
  let arg9 : BitVec 32 := Scf.iv c0_i32_1 c1_i32 k0_t2
  let v1047 : Index := Scalar.indexCast arg9
  let c104 : Index := 104#32
  ![0, v1047.toNat, 104]
def k0_off214 (v5 : BitVec 32) (v1048 : BitVec 32) : Fin 3 → Nat :=
  let c104_i32 : BitVec 32 := 104#32
  let v1046 : BitVec 1 := Scalar.cmpi .sgt v5 c104_i32
  let c32768_i32_736 : BitVec 32 := 32768#32
  let v1049 : BitVec 32 := Scalar.select v1046 v1048 c32768_i32_736
  let v1050 : Index := Scalar.indexCast v1049
  let c0_737 : Index := 0#32
  let c0_738 : Index := 0#32
  ![v1050.toNat, 0, 0]

def k0_chk105 (v5 : BitVec 32) (v1048 : BitVec 32) : Prop :=
  (∀ a, (k0_off214 v5 v1048) a + S1x1x128.size a ≤ S32776x1x128.size a)
theorem k0_off214_inb : ∀ (v5 : BitVec 32) (v1048 : BitVec 32) (k0_hw105 : k0_chk105 v5 v1048), ∀ a, (k0_off214 v5 v1048) a + S1x1x128.size a ≤ S32776x1x128.size a := fun v5 v1048 k0_hw105 => k0_hw105

def k0_off215 (k0_t2 : Fin k0_t2_loop.trips) : Fin 3 → Nat :=
  let c0_742 : Index := 0#32
  let c0_i32_1 : BitVec 32 := 0#32
  let c1_i32 : BitVec 32 := 1#32
  let arg9 : BitVec 32 := Scf.iv c0_i32_1 c1_i32 k0_t2
  let v1057 : Index := Scalar.indexCast arg9
  let c105 : Index := 105#32
  ![0, v1057.toNat, 105]
def k0_off216 (v5 : BitVec 32) (v1058 : BitVec 32) : Fin 3 → Nat :=
  let c105_i32 : BitVec 32 := 105#32
  let v1056 : BitVec 1 := Scalar.cmpi .sgt v5 c105_i32
  let c32768_i32_743 : BitVec 32 := 32768#32
  let v1059 : BitVec 32 := Scalar.select v1056 v1058 c32768_i32_743
  let v1060 : Index := Scalar.indexCast v1059
  let c0_744 : Index := 0#32
  let c0_745 : Index := 0#32
  ![v1060.toNat, 0, 0]

def k0_chk106 (v5 : BitVec 32) (v1058 : BitVec 32) : Prop :=
  (∀ a, (k0_off216 v5 v1058) a + S1x1x128.size a ≤ S32776x1x128.size a)
theorem k0_off216_inb : ∀ (v5 : BitVec 32) (v1058 : BitVec 32) (k0_hw106 : k0_chk106 v5 v1058), ∀ a, (k0_off216 v5 v1058) a + S1x1x128.size a ≤ S32776x1x128.size a := fun v5 v1058 k0_hw106 => k0_hw106

def k0_off217 (k0_t2 : Fin k0_t2_loop.trips) : Fin 3 → Nat :=
  let c0_749 : Index := 0#32
  let c0_i32_1 : BitVec 32 := 0#32
  let c1_i32 : BitVec 32 := 1#32
  let arg9 : BitVec 32 := Scf.iv c0_i32_1 c1_i32 k0_t2
  let v1067 : Index := Scalar.indexCast arg9
  let c106 : Index := 106#32
  ![0, v1067.toNat, 106]
def k0_off218 (v5 : BitVec 32) (v1068 : BitVec 32) : Fin 3 → Nat :=
  let c106_i32 : BitVec 32 := 106#32
  let v1066 : BitVec 1 := Scalar.cmpi .sgt v5 c106_i32
  let c32768_i32_750 : BitVec 32 := 32768#32
  let v1069 : BitVec 32 := Scalar.select v1066 v1068 c32768_i32_750
  let v1070 : Index := Scalar.indexCast v1069
  let c0_751 : Index := 0#32
  let c0_752 : Index := 0#32
  ![v1070.toNat, 0, 0]

def k0_chk107 (v5 : BitVec 32) (v1068 : BitVec 32) : Prop :=
  (∀ a, (k0_off218 v5 v1068) a + S1x1x128.size a ≤ S32776x1x128.size a)
theorem k0_off218_inb : ∀ (v5 : BitVec 32) (v1068 : BitVec 32) (k0_hw107 : k0_chk107 v5 v1068), ∀ a, (k0_off218 v5 v1068) a + S1x1x128.size a ≤ S32776x1x128.size a := fun v5 v1068 k0_hw107 => k0_hw107

def k0_off219 (k0_t2 : Fin k0_t2_loop.trips) : Fin 3 → Nat :=
  let c0_756 : Index := 0#32
  let c0_i32_1 : BitVec 32 := 0#32
  let c1_i32 : BitVec 32 := 1#32
  let arg9 : BitVec 32 := Scf.iv c0_i32_1 c1_i32 k0_t2
  let v1077 : Index := Scalar.indexCast arg9
  let c107 : Index := 107#32
  ![0, v1077.toNat, 107]
def k0_off220 (v5 : BitVec 32) (v1078 : BitVec 32) : Fin 3 → Nat :=
  let c107_i32 : BitVec 32 := 107#32
  let v1076 : BitVec 1 := Scalar.cmpi .sgt v5 c107_i32
  let c32768_i32_757 : BitVec 32 := 32768#32
  let v1079 : BitVec 32 := Scalar.select v1076 v1078 c32768_i32_757
  let v1080 : Index := Scalar.indexCast v1079
  let c0_758 : Index := 0#32
  let c0_759 : Index := 0#32
  ![v1080.toNat, 0, 0]

def k0_chk108 (v5 : BitVec 32) (v1078 : BitVec 32) : Prop :=
  (∀ a, (k0_off220 v5 v1078) a + S1x1x128.size a ≤ S32776x1x128.size a)
theorem k0_off220_inb : ∀ (v5 : BitVec 32) (v1078 : BitVec 32) (k0_hw108 : k0_chk108 v5 v1078), ∀ a, (k0_off220 v5 v1078) a + S1x1x128.size a ≤ S32776x1x128.size a := fun v5 v1078 k0_hw108 => k0_hw108

def k0_off221 (k0_t2 : Fin k0_t2_loop.trips) : Fin 3 → Nat :=
  let c0_763 : Index := 0#32
  let c0_i32_1 : BitVec 32 := 0#32
  let c1_i32 : BitVec 32 := 1#32
  let arg9 : BitVec 32 := Scf.iv c0_i32_1 c1_i32 k0_t2
  let v1087 : Index := Scalar.indexCast arg9
  let c108 : Index := 108#32
  ![0, v1087.toNat, 108]
def k0_off222 (v5 : BitVec 32) (v1088 : BitVec 32) : Fin 3 → Nat :=
  let c108_i32 : BitVec 32 := 108#32
  let v1086 : BitVec 1 := Scalar.cmpi .sgt v5 c108_i32
  let c32768_i32_764 : BitVec 32 := 32768#32
  let v1089 : BitVec 32 := Scalar.select v1086 v1088 c32768_i32_764
  let v1090 : Index := Scalar.indexCast v1089
  let c0_765 : Index := 0#32
  let c0_766 : Index := 0#32
  ![v1090.toNat, 0, 0]

def k0_chk109 (v5 : BitVec 32) (v1088 : BitVec 32) : Prop :=
  (∀ a, (k0_off222 v5 v1088) a + S1x1x128.size a ≤ S32776x1x128.size a)
theorem k0_off222_inb : ∀ (v5 : BitVec 32) (v1088 : BitVec 32) (k0_hw109 : k0_chk109 v5 v1088), ∀ a, (k0_off222 v5 v1088) a + S1x1x128.size a ≤ S32776x1x128.size a := fun v5 v1088 k0_hw109 => k0_hw109

def k0_off223 (k0_t2 : Fin k0_t2_loop.trips) : Fin 3 → Nat :=
  let c0_770 : Index := 0#32
  let c0_i32_1 : BitVec 32 := 0#32
  let c1_i32 : BitVec 32 := 1#32
  let arg9 : BitVec 32 := Scf.iv c0_i32_1 c1_i32 k0_t2
  let v1097 : Index := Scalar.indexCast arg9
  let c109 : Index := 109#32
  ![0, v1097.toNat, 109]
def k0_off224 (v5 : BitVec 32) (v1098 : BitVec 32) : Fin 3 → Nat :=
  let c109_i32 : BitVec 32 := 109#32
  let v1096 : BitVec 1 := Scalar.cmpi .sgt v5 c109_i32
  let c32768_i32_771 : BitVec 32 := 32768#32
  let v1099 : BitVec 32 := Scalar.select v1096 v1098 c32768_i32_771
  let v1100 : Index := Scalar.indexCast v1099
  let c0_772 : Index := 0#32
  let c0_773 : Index := 0#32
  ![v1100.toNat, 0, 0]

def k0_chk110 (v5 : BitVec 32) (v1098 : BitVec 32) : Prop :=
  (∀ a, (k0_off224 v5 v1098) a + S1x1x128.size a ≤ S32776x1x128.size a)
theorem k0_off224_inb : ∀ (v5 : BitVec 32) (v1098 : BitVec 32) (k0_hw110 : k0_chk110 v5 v1098), ∀ a, (k0_off224 v5 v1098) a + S1x1x128.size a ≤ S32776x1x128.size a := fun v5 v1098 k0_hw110 => k0_hw110

def k0_off225 (k0_t2 : Fin k0_t2_loop.trips) : Fin 3 → Nat :=
  let c0_777 : Index := 0#32
  let c0_i32_1 : BitVec 32 := 0#32
  let c1_i32 : BitVec 32 := 1#32
  let arg9 : BitVec 32 := Scf.iv c0_i32_1 c1_i32 k0_t2
  let v1107 : Index := Scalar.indexCast arg9
  let c110 : Index := 110#32
  ![0, v1107.toNat, 110]
def k0_off226 (v5 : BitVec 32) (v1108 : BitVec 32) : Fin 3 → Nat :=
  let c110_i32 : BitVec 32 := 110#32
  let v1106 : BitVec 1 := Scalar.cmpi .sgt v5 c110_i32
  let c32768_i32_778 : BitVec 32 := 32768#32
  let v1109 : BitVec 32 := Scalar.select v1106 v1108 c32768_i32_778
  let v1110 : Index := Scalar.indexCast v1109
  let c0_779 : Index := 0#32
  let c0_780 : Index := 0#32
  ![v1110.toNat, 0, 0]

def k0_chk111 (v5 : BitVec 32) (v1108 : BitVec 32) : Prop :=
  (∀ a, (k0_off226 v5 v1108) a + S1x1x128.size a ≤ S32776x1x128.size a)
theorem k0_off226_inb : ∀ (v5 : BitVec 32) (v1108 : BitVec 32) (k0_hw111 : k0_chk111 v5 v1108), ∀ a, (k0_off226 v5 v1108) a + S1x1x128.size a ≤ S32776x1x128.size a := fun v5 v1108 k0_hw111 => k0_hw111

def k0_off227 (k0_t2 : Fin k0_t2_loop.trips) : Fin 3 → Nat :=
  let c0_784 : Index := 0#32
  let c0_i32_1 : BitVec 32 := 0#32
  let c1_i32 : BitVec 32 := 1#32
  let arg9 : BitVec 32 := Scf.iv c0_i32_1 c1_i32 k0_t2
  let v1117 : Index := Scalar.indexCast arg9
  let c111 : Index := 111#32
  ![0, v1117.toNat, 111]
def k0_off228 (v5 : BitVec 32) (v1118 : BitVec 32) : Fin 3 → Nat :=
  let c111_i32 : BitVec 32 := 111#32
  let v1116 : BitVec 1 := Scalar.cmpi .sgt v5 c111_i32
  let c32768_i32_785 : BitVec 32 := 32768#32
  let v1119 : BitVec 32 := Scalar.select v1116 v1118 c32768_i32_785
  let v1120 : Index := Scalar.indexCast v1119
  let c0_786 : Index := 0#32
  let c0_787 : Index := 0#32
  ![v1120.toNat, 0, 0]

def k0_chk112 (v5 : BitVec 32) (v1118 : BitVec 32) : Prop :=
  (∀ a, (k0_off228 v5 v1118) a + S1x1x128.size a ≤ S32776x1x128.size a)
theorem k0_off228_inb : ∀ (v5 : BitVec 32) (v1118 : BitVec 32) (k0_hw112 : k0_chk112 v5 v1118), ∀ a, (k0_off228 v5 v1118) a + S1x1x128.size a ≤ S32776x1x128.size a := fun v5 v1118 k0_hw112 => k0_hw112

def k0_off229 (k0_t2 : Fin k0_t2_loop.trips) : Fin 3 → Nat :=
  let c0_791 : Index := 0#32
  let c0_i32_1 : BitVec 32 := 0#32
  let c1_i32 : BitVec 32 := 1#32
  let arg9 : BitVec 32 := Scf.iv c0_i32_1 c1_i32 k0_t2
  let v1127 : Index := Scalar.indexCast arg9
  let c112 : Index := 112#32
  ![0, v1127.toNat, 112]
def k0_off230 (v5 : BitVec 32) (v1128 : BitVec 32) : Fin 3 → Nat :=
  let c112_i32 : BitVec 32 := 112#32
  let v1126 : BitVec 1 := Scalar.cmpi .sgt v5 c112_i32
  let c32768_i32_792 : BitVec 32 := 32768#32
  let v1129 : BitVec 32 := Scalar.select v1126 v1128 c32768_i32_792
  let v1130 : Index := Scalar.indexCast v1129
  let c0_793 : Index := 0#32
  let c0_794 : Index := 0#32
  ![v1130.toNat, 0, 0]

def k0_chk113 (v5 : BitVec 32) (v1128 : BitVec 32) : Prop :=
  (∀ a, (k0_off230 v5 v1128) a + S1x1x128.size a ≤ S32776x1x128.size a)
theorem k0_off230_inb : ∀ (v5 : BitVec 32) (v1128 : BitVec 32) (k0_hw113 : k0_chk113 v5 v1128), ∀ a, (k0_off230 v5 v1128) a + S1x1x128.size a ≤ S32776x1x128.size a := fun v5 v1128 k0_hw113 => k0_hw113

def k0_off231 (k0_t2 : Fin k0_t2_loop.trips) : Fin 3 → Nat :=
  let c0_798 : Index := 0#32
  let c0_i32_1 : BitVec 32 := 0#32
  let c1_i32 : BitVec 32 := 1#32
  let arg9 : BitVec 32 := Scf.iv c0_i32_1 c1_i32 k0_t2
  let v1137 : Index := Scalar.indexCast arg9
  let c113 : Index := 113#32
  ![0, v1137.toNat, 113]
def k0_off232 (v5 : BitVec 32) (v1138 : BitVec 32) : Fin 3 → Nat :=
  let c113_i32 : BitVec 32 := 113#32
  let v1136 : BitVec 1 := Scalar.cmpi .sgt v5 c113_i32
  let c32768_i32_799 : BitVec 32 := 32768#32
  let v1139 : BitVec 32 := Scalar.select v1136 v1138 c32768_i32_799
  let v1140 : Index := Scalar.indexCast v1139
  let c0_800 : Index := 0#32
  let c0_801 : Index := 0#32
  ![v1140.toNat, 0, 0]

def k0_chk114 (v5 : BitVec 32) (v1138 : BitVec 32) : Prop :=
  (∀ a, (k0_off232 v5 v1138) a + S1x1x128.size a ≤ S32776x1x128.size a)
theorem k0_off232_inb : ∀ (v5 : BitVec 32) (v1138 : BitVec 32) (k0_hw114 : k0_chk114 v5 v1138), ∀ a, (k0_off232 v5 v1138) a + S1x1x128.size a ≤ S32776x1x128.size a := fun v5 v1138 k0_hw114 => k0_hw114

def k0_off233 (k0_t2 : Fin k0_t2_loop.trips) : Fin 3 → Nat :=
  let c0_805 : Index := 0#32
  let c0_i32_1 : BitVec 32 := 0#32
  let c1_i32 : BitVec 32 := 1#32
  let arg9 : BitVec 32 := Scf.iv c0_i32_1 c1_i32 k0_t2
  let v1147 : Index := Scalar.indexCast arg9
  let c114 : Index := 114#32
  ![0, v1147.toNat, 114]
def k0_off234 (v5 : BitVec 32) (v1148 : BitVec 32) : Fin 3 → Nat :=
  let c114_i32 : BitVec 32 := 114#32
  let v1146 : BitVec 1 := Scalar.cmpi .sgt v5 c114_i32
  let c32768_i32_806 : BitVec 32 := 32768#32
  let v1149 : BitVec 32 := Scalar.select v1146 v1148 c32768_i32_806
  let v1150 : Index := Scalar.indexCast v1149
  let c0_807 : Index := 0#32
  let c0_808 : Index := 0#32
  ![v1150.toNat, 0, 0]

def k0_chk115 (v5 : BitVec 32) (v1148 : BitVec 32) : Prop :=
  (∀ a, (k0_off234 v5 v1148) a + S1x1x128.size a ≤ S32776x1x128.size a)
theorem k0_off234_inb : ∀ (v5 : BitVec 32) (v1148 : BitVec 32) (k0_hw115 : k0_chk115 v5 v1148), ∀ a, (k0_off234 v5 v1148) a + S1x1x128.size a ≤ S32776x1x128.size a := fun v5 v1148 k0_hw115 => k0_hw115

def k0_off235 (k0_t2 : Fin k0_t2_loop.trips) : Fin 3 → Nat :=
  let c0_812 : Index := 0#32
  let c0_i32_1 : BitVec 32 := 0#32
  let c1_i32 : BitVec 32 := 1#32
  let arg9 : BitVec 32 := Scf.iv c0_i32_1 c1_i32 k0_t2
  let v1157 : Index := Scalar.indexCast arg9
  let c115 : Index := 115#32
  ![0, v1157.toNat, 115]
def k0_off236 (v5 : BitVec 32) (v1158 : BitVec 32) : Fin 3 → Nat :=
  let c115_i32 : BitVec 32 := 115#32
  let v1156 : BitVec 1 := Scalar.cmpi .sgt v5 c115_i32
  let c32768_i32_813 : BitVec 32 := 32768#32
  let v1159 : BitVec 32 := Scalar.select v1156 v1158 c32768_i32_813
  let v1160 : Index := Scalar.indexCast v1159
  let c0_814 : Index := 0#32
  let c0_815 : Index := 0#32
  ![v1160.toNat, 0, 0]

def k0_chk116 (v5 : BitVec 32) (v1158 : BitVec 32) : Prop :=
  (∀ a, (k0_off236 v5 v1158) a + S1x1x128.size a ≤ S32776x1x128.size a)
theorem k0_off236_inb : ∀ (v5 : BitVec 32) (v1158 : BitVec 32) (k0_hw116 : k0_chk116 v5 v1158), ∀ a, (k0_off236 v5 v1158) a + S1x1x128.size a ≤ S32776x1x128.size a := fun v5 v1158 k0_hw116 => k0_hw116

def k0_off237 (k0_t2 : Fin k0_t2_loop.trips) : Fin 3 → Nat :=
  let c0_819 : Index := 0#32
  let c0_i32_1 : BitVec 32 := 0#32
  let c1_i32 : BitVec 32 := 1#32
  let arg9 : BitVec 32 := Scf.iv c0_i32_1 c1_i32 k0_t2
  let v1167 : Index := Scalar.indexCast arg9
  let c116 : Index := 116#32
  ![0, v1167.toNat, 116]
def k0_off238 (v5 : BitVec 32) (v1168 : BitVec 32) : Fin 3 → Nat :=
  let c116_i32 : BitVec 32 := 116#32
  let v1166 : BitVec 1 := Scalar.cmpi .sgt v5 c116_i32
  let c32768_i32_820 : BitVec 32 := 32768#32
  let v1169 : BitVec 32 := Scalar.select v1166 v1168 c32768_i32_820
  let v1170 : Index := Scalar.indexCast v1169
  let c0_821 : Index := 0#32
  let c0_822 : Index := 0#32
  ![v1170.toNat, 0, 0]

def k0_chk117 (v5 : BitVec 32) (v1168 : BitVec 32) : Prop :=
  (∀ a, (k0_off238 v5 v1168) a + S1x1x128.size a ≤ S32776x1x128.size a)
theorem k0_off238_inb : ∀ (v5 : BitVec 32) (v1168 : BitVec 32) (k0_hw117 : k0_chk117 v5 v1168), ∀ a, (k0_off238 v5 v1168) a + S1x1x128.size a ≤ S32776x1x128.size a := fun v5 v1168 k0_hw117 => k0_hw117

def k0_off239 (k0_t2 : Fin k0_t2_loop.trips) : Fin 3 → Nat :=
  let c0_826 : Index := 0#32
  let c0_i32_1 : BitVec 32 := 0#32
  let c1_i32 : BitVec 32 := 1#32
  let arg9 : BitVec 32 := Scf.iv c0_i32_1 c1_i32 k0_t2
  let v1177 : Index := Scalar.indexCast arg9
  let c117 : Index := 117#32
  ![0, v1177.toNat, 117]
def k0_off240 (v5 : BitVec 32) (v1178 : BitVec 32) : Fin 3 → Nat :=
  let c117_i32 : BitVec 32 := 117#32
  let v1176 : BitVec 1 := Scalar.cmpi .sgt v5 c117_i32
  let c32768_i32_827 : BitVec 32 := 32768#32
  let v1179 : BitVec 32 := Scalar.select v1176 v1178 c32768_i32_827
  let v1180 : Index := Scalar.indexCast v1179
  let c0_828 : Index := 0#32
  let c0_829 : Index := 0#32
  ![v1180.toNat, 0, 0]

def k0_chk118 (v5 : BitVec 32) (v1178 : BitVec 32) : Prop :=
  (∀ a, (k0_off240 v5 v1178) a + S1x1x128.size a ≤ S32776x1x128.size a)
theorem k0_off240_inb : ∀ (v5 : BitVec 32) (v1178 : BitVec 32) (k0_hw118 : k0_chk118 v5 v1178), ∀ a, (k0_off240 v5 v1178) a + S1x1x128.size a ≤ S32776x1x128.size a := fun v5 v1178 k0_hw118 => k0_hw118

def k0_off241 (k0_t2 : Fin k0_t2_loop.trips) : Fin 3 → Nat :=
  let c0_833 : Index := 0#32
  let c0_i32_1 : BitVec 32 := 0#32
  let c1_i32 : BitVec 32 := 1#32
  let arg9 : BitVec 32 := Scf.iv c0_i32_1 c1_i32 k0_t2
  let v1187 : Index := Scalar.indexCast arg9
  let c118 : Index := 118#32
  ![0, v1187.toNat, 118]
def k0_off242 (v5 : BitVec 32) (v1188 : BitVec 32) : Fin 3 → Nat :=
  let c118_i32 : BitVec 32 := 118#32
  let v1186 : BitVec 1 := Scalar.cmpi .sgt v5 c118_i32
  let c32768_i32_834 : BitVec 32 := 32768#32
  let v1189 : BitVec 32 := Scalar.select v1186 v1188 c32768_i32_834
  let v1190 : Index := Scalar.indexCast v1189
  let c0_835 : Index := 0#32
  let c0_836 : Index := 0#32
  ![v1190.toNat, 0, 0]

def k0_chk119 (v5 : BitVec 32) (v1188 : BitVec 32) : Prop :=
  (∀ a, (k0_off242 v5 v1188) a + S1x1x128.size a ≤ S32776x1x128.size a)
theorem k0_off242_inb : ∀ (v5 : BitVec 32) (v1188 : BitVec 32) (k0_hw119 : k0_chk119 v5 v1188), ∀ a, (k0_off242 v5 v1188) a + S1x1x128.size a ≤ S32776x1x128.size a := fun v5 v1188 k0_hw119 => k0_hw119

def k0_off243 (k0_t2 : Fin k0_t2_loop.trips) : Fin 3 → Nat :=
  let c0_840 : Index := 0#32
  let c0_i32_1 : BitVec 32 := 0#32
  let c1_i32 : BitVec 32 := 1#32
  let arg9 : BitVec 32 := Scf.iv c0_i32_1 c1_i32 k0_t2
  let v1197 : Index := Scalar.indexCast arg9
  let c119 : Index := 119#32
  ![0, v1197.toNat, 119]
def k0_off244 (v5 : BitVec 32) (v1198 : BitVec 32) : Fin 3 → Nat :=
  let c119_i32 : BitVec 32 := 119#32
  let v1196 : BitVec 1 := Scalar.cmpi .sgt v5 c119_i32
  let c32768_i32_841 : BitVec 32 := 32768#32
  let v1199 : BitVec 32 := Scalar.select v1196 v1198 c32768_i32_841
  let v1200 : Index := Scalar.indexCast v1199
  let c0_842 : Index := 0#32
  let c0_843 : Index := 0#32
  ![v1200.toNat, 0, 0]

def k0_chk120 (v5 : BitVec 32) (v1198 : BitVec 32) : Prop :=
  (∀ a, (k0_off244 v5 v1198) a + S1x1x128.size a ≤ S32776x1x128.size a)
theorem k0_off244_inb : ∀ (v5 : BitVec 32) (v1198 : BitVec 32) (k0_hw120 : k0_chk120 v5 v1198), ∀ a, (k0_off244 v5 v1198) a + S1x1x128.size a ≤ S32776x1x128.size a := fun v5 v1198 k0_hw120 => k0_hw120

def k0_off245 (k0_t2 : Fin k0_t2_loop.trips) : Fin 3 → Nat :=
  let c0_847 : Index := 0#32
  let c0_i32_1 : BitVec 32 := 0#32
  let c1_i32 : BitVec 32 := 1#32
  let arg9 : BitVec 32 := Scf.iv c0_i32_1 c1_i32 k0_t2
  let v1207 : Index := Scalar.indexCast arg9
  let c120 : Index := 120#32
  ![0, v1207.toNat, 120]
def k0_off246 (v5 : BitVec 32) (v1208 : BitVec 32) : Fin 3 → Nat :=
  let c120_i32 : BitVec 32 := 120#32
  let v1206 : BitVec 1 := Scalar.cmpi .sgt v5 c120_i32
  let c32768_i32_848 : BitVec 32 := 32768#32
  let v1209 : BitVec 32 := Scalar.select v1206 v1208 c32768_i32_848
  let v1210 : Index := Scalar.indexCast v1209
  let c0_849 : Index := 0#32
  let c0_850 : Index := 0#32
  ![v1210.toNat, 0, 0]

def k0_chk121 (v5 : BitVec 32) (v1208 : BitVec 32) : Prop :=
  (∀ a, (k0_off246 v5 v1208) a + S1x1x128.size a ≤ S32776x1x128.size a)
theorem k0_off246_inb : ∀ (v5 : BitVec 32) (v1208 : BitVec 32) (k0_hw121 : k0_chk121 v5 v1208), ∀ a, (k0_off246 v5 v1208) a + S1x1x128.size a ≤ S32776x1x128.size a := fun v5 v1208 k0_hw121 => k0_hw121

def k0_off247 (k0_t2 : Fin k0_t2_loop.trips) : Fin 3 → Nat :=
  let c0_854 : Index := 0#32
  let c0_i32_1 : BitVec 32 := 0#32
  let c1_i32 : BitVec 32 := 1#32
  let arg9 : BitVec 32 := Scf.iv c0_i32_1 c1_i32 k0_t2
  let v1217 : Index := Scalar.indexCast arg9
  let c121 : Index := 121#32
  ![0, v1217.toNat, 121]
def k0_off248 (v5 : BitVec 32) (v1218 : BitVec 32) : Fin 3 → Nat :=
  let c121_i32 : BitVec 32 := 121#32
  let v1216 : BitVec 1 := Scalar.cmpi .sgt v5 c121_i32
  let c32768_i32_855 : BitVec 32 := 32768#32
  let v1219 : BitVec 32 := Scalar.select v1216 v1218 c32768_i32_855
  let v1220 : Index := Scalar.indexCast v1219
  let c0_856 : Index := 0#32
  let c0_857 : Index := 0#32
  ![v1220.toNat, 0, 0]

def k0_chk122 (v5 : BitVec 32) (v1218 : BitVec 32) : Prop :=
  (∀ a, (k0_off248 v5 v1218) a + S1x1x128.size a ≤ S32776x1x128.size a)
theorem k0_off248_inb : ∀ (v5 : BitVec 32) (v1218 : BitVec 32) (k0_hw122 : k0_chk122 v5 v1218), ∀ a, (k0_off248 v5 v1218) a + S1x1x128.size a ≤ S32776x1x128.size a := fun v5 v1218 k0_hw122 => k0_hw122

def k0_off249 (k0_t2 : Fin k0_t2_loop.trips) : Fin 3 → Nat :=
  let c0_861 : Index := 0#32
  let c0_i32_1 : BitVec 32 := 0#32
  let c1_i32 : BitVec 32 := 1#32
  let arg9 : BitVec 32 := Scf.iv c0_i32_1 c1_i32 k0_t2
  let v1227 : Index := Scalar.indexCast arg9
  let c122 : Index := 122#32
  ![0, v1227.toNat, 122]
def k0_off250 (v5 : BitVec 32) (v1228 : BitVec 32) : Fin 3 → Nat :=
  let c122_i32 : BitVec 32 := 122#32
  let v1226 : BitVec 1 := Scalar.cmpi .sgt v5 c122_i32
  let c32768_i32_862 : BitVec 32 := 32768#32
  let v1229 : BitVec 32 := Scalar.select v1226 v1228 c32768_i32_862
  let v1230 : Index := Scalar.indexCast v1229
  let c0_863 : Index := 0#32
  let c0_864 : Index := 0#32
  ![v1230.toNat, 0, 0]

def k0_chk123 (v5 : BitVec 32) (v1228 : BitVec 32) : Prop :=
  (∀ a, (k0_off250 v5 v1228) a + S1x1x128.size a ≤ S32776x1x128.size a)
theorem k0_off250_inb : ∀ (v5 : BitVec 32) (v1228 : BitVec 32) (k0_hw123 : k0_chk123 v5 v1228), ∀ a, (k0_off250 v5 v1228) a + S1x1x128.size a ≤ S32776x1x128.size a := fun v5 v1228 k0_hw123 => k0_hw123

def k0_off251 (k0_t2 : Fin k0_t2_loop.trips) : Fin 3 → Nat :=
  let c0_868 : Index := 0#32
  let c0_i32_1 : BitVec 32 := 0#32
  let c1_i32 : BitVec 32 := 1#32
  let arg9 : BitVec 32 := Scf.iv c0_i32_1 c1_i32 k0_t2
  let v1237 : Index := Scalar.indexCast arg9
  let c123 : Index := 123#32
  ![0, v1237.toNat, 123]
def k0_off252 (v5 : BitVec 32) (v1238 : BitVec 32) : Fin 3 → Nat :=
  let c123_i32 : BitVec 32 := 123#32
  let v1236 : BitVec 1 := Scalar.cmpi .sgt v5 c123_i32
  let c32768_i32_869 : BitVec 32 := 32768#32
  let v1239 : BitVec 32 := Scalar.select v1236 v1238 c32768_i32_869
  let v1240 : Index := Scalar.indexCast v1239
  let c0_870 : Index := 0#32
  let c0_871 : Index := 0#32
  ![v1240.toNat, 0, 0]

def k0_chk124 (v5 : BitVec 32) (v1238 : BitVec 32) : Prop :=
  (∀ a, (k0_off252 v5 v1238) a + S1x1x128.size a ≤ S32776x1x128.size a)
theorem k0_off252_inb : ∀ (v5 : BitVec 32) (v1238 : BitVec 32) (k0_hw124 : k0_chk124 v5 v1238), ∀ a, (k0_off252 v5 v1238) a + S1x1x128.size a ≤ S32776x1x128.size a := fun v5 v1238 k0_hw124 => k0_hw124

def k0_off253 (k0_t2 : Fin k0_t2_loop.trips) : Fin 3 → Nat :=
  let c0_875 : Index := 0#32
  let c0_i32_1 : BitVec 32 := 0#32
  let c1_i32 : BitVec 32 := 1#32
  let arg9 : BitVec 32 := Scf.iv c0_i32_1 c1_i32 k0_t2
  let v1247 : Index := Scalar.indexCast arg9
  let c124 : Index := 124#32
  ![0, v1247.toNat, 124]
def k0_off254 (v5 : BitVec 32) (v1248 : BitVec 32) : Fin 3 → Nat :=
  let c124_i32 : BitVec 32 := 124#32
  let v1246 : BitVec 1 := Scalar.cmpi .sgt v5 c124_i32
  let c32768_i32_876 : BitVec 32 := 32768#32
  let v1249 : BitVec 32 := Scalar.select v1246 v1248 c32768_i32_876
  let v1250 : Index := Scalar.indexCast v1249
  let c0_877 : Index := 0#32
  let c0_878 : Index := 0#32
  ![v1250.toNat, 0, 0]

def k0_chk125 (v5 : BitVec 32) (v1248 : BitVec 32) : Prop :=
  (∀ a, (k0_off254 v5 v1248) a + S1x1x128.size a ≤ S32776x1x128.size a)
theorem k0_off254_inb : ∀ (v5 : BitVec 32) (v1248 : BitVec 32) (k0_hw125 : k0_chk125 v5 v1248), ∀ a, (k0_off254 v5 v1248) a + S1x1x128.size a ≤ S32776x1x128.size a := fun v5 v1248 k0_hw125 => k0_hw125

def k0_off255 (k0_t2 : Fin k0_t2_loop.trips) : Fin 3 → Nat :=
  let c0_882 : Index := 0#32
  let c0_i32_1 : BitVec 32 := 0#32
  let c1_i32 : BitVec 32 := 1#32
  let arg9 : BitVec 32 := Scf.iv c0_i32_1 c1_i32 k0_t2
  let v1257 : Index := Scalar.indexCast arg9
  let c125 : Index := 125#32
  ![0, v1257.toNat, 125]
def k0_off256 (v5 : BitVec 32) (v1258 : BitVec 32) : Fin 3 → Nat :=
  let c125_i32 : BitVec 32 := 125#32
  let v1256 : BitVec 1 := Scalar.cmpi .sgt v5 c125_i32
  let c32768_i32_883 : BitVec 32 := 32768#32
  let v1259 : BitVec 32 := Scalar.select v1256 v1258 c32768_i32_883
  let v1260 : Index := Scalar.indexCast v1259
  let c0_884 : Index := 0#32
  let c0_885 : Index := 0#32
  ![v1260.toNat, 0, 0]

def k0_chk126 (v5 : BitVec 32) (v1258 : BitVec 32) : Prop :=
  (∀ a, (k0_off256 v5 v1258) a + S1x1x128.size a ≤ S32776x1x128.size a)
theorem k0_off256_inb : ∀ (v5 : BitVec 32) (v1258 : BitVec 32) (k0_hw126 : k0_chk126 v5 v1258), ∀ a, (k0_off256 v5 v1258) a + S1x1x128.size a ≤ S32776x1x128.size a := fun v5 v1258 k0_hw126 => k0_hw126

def k0_off257 (k0_t2 : Fin k0_t2_loop.trips) : Fin 3 → Nat :=
  let c0_889 : Index := 0#32
  let c0_i32_1 : BitVec 32 := 0#32
  let c1_i32 : BitVec 32 := 1#32
  let arg9 : BitVec 32 := Scf.iv c0_i32_1 c1_i32 k0_t2
  let v1267 : Index := Scalar.indexCast arg9
  let c126 : Index := 126#32
  ![0, v1267.toNat, 126]
def k0_off258 (v5 : BitVec 32) (v1268 : BitVec 32) : Fin 3 → Nat :=
  let c126_i32 : BitVec 32 := 126#32
  let v1266 : BitVec 1 := Scalar.cmpi .sgt v5 c126_i32
  let c32768_i32_890 : BitVec 32 := 32768#32
  let v1269 : BitVec 32 := Scalar.select v1266 v1268 c32768_i32_890
  let v1270 : Index := Scalar.indexCast v1269
  let c0_891 : Index := 0#32
  let c0_892 : Index := 0#32
  ![v1270.toNat, 0, 0]

def k0_chk127 (v5 : BitVec 32) (v1268 : BitVec 32) : Prop :=
  (∀ a, (k0_off258 v5 v1268) a + S1x1x128.size a ≤ S32776x1x128.size a)
theorem k0_off258_inb : ∀ (v5 : BitVec 32) (v1268 : BitVec 32) (k0_hw127 : k0_chk127 v5 v1268), ∀ a, (k0_off258 v5 v1268) a + S1x1x128.size a ≤ S32776x1x128.size a := fun v5 v1268 k0_hw127 => k0_hw127

def k0_off259 (k0_t2 : Fin k0_t2_loop.trips) : Fin 3 → Nat :=
  let c0_896 : Index := 0#32
  let c0_i32_1 : BitVec 32 := 0#32
  let c1_i32 : BitVec 32 := 1#32
  let arg9 : BitVec 32 := Scf.iv c0_i32_1 c1_i32 k0_t2
  let v1277 : Index := Scalar.indexCast arg9
  let c127 : Index := 127#32
  ![0, v1277.toNat, 127]
def k0_off260 (v5 : BitVec 32) (v1278 : BitVec 32) : Fin 3 → Nat :=
  let c127_i32 : BitVec 32 := 127#32
  let v1276 : BitVec 1 := Scalar.cmpi .sgt v5 c127_i32
  let c32768_i32_897 : BitVec 32 := 32768#32
  let v1279 : BitVec 32 := Scalar.select v1276 v1278 c32768_i32_897
  let v1280 : Index := Scalar.indexCast v1279
  let c0_898 : Index := 0#32
  let c0_899 : Index := 0#32
  ![v1280.toNat, 0, 0]

def k0_chk128 (v5 : BitVec 32) (v1278 : BitVec 32) : Prop :=
  (∀ a, (k0_off260 v5 v1278) a + S1x1x128.size a ≤ S32776x1x128.size a)
theorem k0_off260_inb : ∀ (v5 : BitVec 32) (v1278 : BitVec 32) (k0_hw128 : k0_chk128 v5 v1278), ∀ a, (k0_off260 v5 v1278) a + S1x1x128.size a ≤ S32776x1x128.size a := fun v5 v1278 k0_hw128 => k0_hw128

def k0_off261 (k0_t2 : Fin k0_t2_loop.trips) : Fin 3 → Nat :=
  let c0_903 : Index := 0#32
  let c0_i32_1 : BitVec 32 := 0#32
  let c1_i32 : BitVec 32 := 1#32
  let arg9 : BitVec 32 := Scf.iv c0_i32_1 c1_i32 k0_t2
  let v1287 : Index := Scalar.indexCast arg9
  let c128 : Index := 128#32
  ![0, v1287.toNat, 128]
def k0_off262 (v5 : BitVec 32) (v1288 : BitVec 32) : Fin 3 → Nat :=
  let c128_i32 : BitVec 32 := 128#32
  let v1286 : BitVec 1 := Scalar.cmpi .sgt v5 c128_i32
  let c32768_i32_904 : BitVec 32 := 32768#32
  let v1289 : BitVec 32 := Scalar.select v1286 v1288 c32768_i32_904
  let v1290 : Index := Scalar.indexCast v1289
  let c0_905 : Index := 0#32
  let c0_906 : Index := 0#32
  ![v1290.toNat, 0, 0]

def k0_chk129 (v5 : BitVec 32) (v1288 : BitVec 32) : Prop :=
  (∀ a, (k0_off262 v5 v1288) a + S1x1x128.size a ≤ S32776x1x128.size a)
theorem k0_off262_inb : ∀ (v5 : BitVec 32) (v1288 : BitVec 32) (k0_hw129 : k0_chk129 v5 v1288), ∀ a, (k0_off262 v5 v1288) a + S1x1x128.size a ≤ S32776x1x128.size a := fun v5 v1288 k0_hw129 => k0_hw129

def k0_off263 (k0_t2 : Fin k0_t2_loop.trips) : Fin 3 → Nat :=
  let c0_910 : Index := 0#32
  let c0_i32_1 : BitVec 32 := 0#32
  let c1_i32 : BitVec 32 := 1#32
  let arg9 : BitVec 32 := Scf.iv c0_i32_1 c1_i32 k0_t2
  let v1297 : Index := Scalar.indexCast arg9
  let c129 : Index := 129#32
  ![0, v1297.toNat, 129]
def k0_off264 (v5 : BitVec 32) (v1298 : BitVec 32) : Fin 3 → Nat :=
  let c129_i32 : BitVec 32 := 129#32
  let v1296 : BitVec 1 := Scalar.cmpi .sgt v5 c129_i32
  let c32768_i32_911 : BitVec 32 := 32768#32
  let v1299 : BitVec 32 := Scalar.select v1296 v1298 c32768_i32_911
  let v1300 : Index := Scalar.indexCast v1299
  let c0_912 : Index := 0#32
  let c0_913 : Index := 0#32
  ![v1300.toNat, 0, 0]

def k0_chk130 (v5 : BitVec 32) (v1298 : BitVec 32) : Prop :=
  (∀ a, (k0_off264 v5 v1298) a + S1x1x128.size a ≤ S32776x1x128.size a)
theorem k0_off264_inb : ∀ (v5 : BitVec 32) (v1298 : BitVec 32) (k0_hw130 : k0_chk130 v5 v1298), ∀ a, (k0_off264 v5 v1298) a + S1x1x128.size a ≤ S32776x1x128.size a := fun v5 v1298 k0_hw130 => k0_hw130

def k0_off265 (k0_t2 : Fin k0_t2_loop.trips) : Fin 3 → Nat :=
  let c0_917 : Index := 0#32
  let c0_i32_1 : BitVec 32 := 0#32
  let c1_i32 : BitVec 32 := 1#32
  let arg9 : BitVec 32 := Scf.iv c0_i32_1 c1_i32 k0_t2
  let v1307 : Index := Scalar.indexCast arg9
  let c130 : Index := 130#32
  ![0, v1307.toNat, 130]
def k0_off266 (v5 : BitVec 32) (v1308 : BitVec 32) : Fin 3 → Nat :=
  let c130_i32 : BitVec 32 := 130#32
  let v1306 : BitVec 1 := Scalar.cmpi .sgt v5 c130_i32
  let c32768_i32_918 : BitVec 32 := 32768#32
  let v1309 : BitVec 32 := Scalar.select v1306 v1308 c32768_i32_918
  let v1310 : Index := Scalar.indexCast v1309
  let c0_919 : Index := 0#32
  let c0_920 : Index := 0#32
  ![v1310.toNat, 0, 0]

def k0_chk131 (v5 : BitVec 32) (v1308 : BitVec 32) : Prop :=
  (∀ a, (k0_off266 v5 v1308) a + S1x1x128.size a ≤ S32776x1x128.size a)
theorem k0_off266_inb : ∀ (v5 : BitVec 32) (v1308 : BitVec 32) (k0_hw131 : k0_chk131 v5 v1308), ∀ a, (k0_off266 v5 v1308) a + S1x1x128.size a ≤ S32776x1x128.size a := fun v5 v1308 k0_hw131 => k0_hw131

def k0_off267 (k0_t2 : Fin k0_t2_loop.trips) : Fin 3 → Nat :=
  let c0_924 : Index := 0#32
  let c0_i32_1 : BitVec 32 := 0#32
  let c1_i32 : BitVec 32 := 1#32
  let arg9 : BitVec 32 := Scf.iv c0_i32_1 c1_i32 k0_t2
  let v1317 : Index := Scalar.indexCast arg9
  let c131 : Index := 131#32
  ![0, v1317.toNat, 131]
def k0_off268 (v5 : BitVec 32) (v1318 : BitVec 32) : Fin 3 → Nat :=
  let c131_i32 : BitVec 32 := 131#32
  let v1316 : BitVec 1 := Scalar.cmpi .sgt v5 c131_i32
  let c32768_i32_925 : BitVec 32 := 32768#32
  let v1319 : BitVec 32 := Scalar.select v1316 v1318 c32768_i32_925
  let v1320 : Index := Scalar.indexCast v1319
  let c0_926 : Index := 0#32
  let c0_927 : Index := 0#32
  ![v1320.toNat, 0, 0]

def k0_chk132 (v5 : BitVec 32) (v1318 : BitVec 32) : Prop :=
  (∀ a, (k0_off268 v5 v1318) a + S1x1x128.size a ≤ S32776x1x128.size a)
theorem k0_off268_inb : ∀ (v5 : BitVec 32) (v1318 : BitVec 32) (k0_hw132 : k0_chk132 v5 v1318), ∀ a, (k0_off268 v5 v1318) a + S1x1x128.size a ≤ S32776x1x128.size a := fun v5 v1318 k0_hw132 => k0_hw132

def k0_off269 (k0_t2 : Fin k0_t2_loop.trips) : Fin 3 → Nat :=
  let c0_931 : Index := 0#32
  let c0_i32_1 : BitVec 32 := 0#32
  let c1_i32 : BitVec 32 := 1#32
  let arg9 : BitVec 32 := Scf.iv c0_i32_1 c1_i32 k0_t2
  let v1327 : Index := Scalar.indexCast arg9
  let c132 : Index := 132#32
  ![0, v1327.toNat, 132]
def k0_off270 (v5 : BitVec 32) (v1328 : BitVec 32) : Fin 3 → Nat :=
  let c132_i32 : BitVec 32 := 132#32
  let v1326 : BitVec 1 := Scalar.cmpi .sgt v5 c132_i32
  let c32768_i32_932 : BitVec 32 := 32768#32
  let v1329 : BitVec 32 := Scalar.select v1326 v1328 c32768_i32_932
  let v1330 : Index := Scalar.indexCast v1329
  let c0_933 : Index := 0#32
  let c0_934 : Index := 0#32
  ![v1330.toNat, 0, 0]

def k0_chk133 (v5 : BitVec 32) (v1328 : BitVec 32) : Prop :=
  (∀ a, (k0_off270 v5 v1328) a + S1x1x128.size a ≤ S32776x1x128.size a)
theorem k0_off270_inb : ∀ (v5 : BitVec 32) (v1328 : BitVec 32) (k0_hw133 : k0_chk133 v5 v1328), ∀ a, (k0_off270 v5 v1328) a + S1x1x128.size a ≤ S32776x1x128.size a := fun v5 v1328 k0_hw133 => k0_hw133

def k0_off271 (k0_t2 : Fin k0_t2_loop.trips) : Fin 3 → Nat :=
  let c0_938 : Index := 0#32
  let c0_i32_1 : BitVec 32 := 0#32
  let c1_i32 : BitVec 32 := 1#32
  let arg9 : BitVec 32 := Scf.iv c0_i32_1 c1_i32 k0_t2
  let v1337 : Index := Scalar.indexCast arg9
  let c133 : Index := 133#32
  ![0, v1337.toNat, 133]
def k0_off272 (v5 : BitVec 32) (v1338 : BitVec 32) : Fin 3 → Nat :=
  let c133_i32 : BitVec 32 := 133#32
  let v1336 : BitVec 1 := Scalar.cmpi .sgt v5 c133_i32
  let c32768_i32_939 : BitVec 32 := 32768#32
  let v1339 : BitVec 32 := Scalar.select v1336 v1338 c32768_i32_939
  let v1340 : Index := Scalar.indexCast v1339
  let c0_940 : Index := 0#32
  let c0_941 : Index := 0#32
  ![v1340.toNat, 0, 0]

def k0_chk134 (v5 : BitVec 32) (v1338 : BitVec 32) : Prop :=
  (∀ a, (k0_off272 v5 v1338) a + S1x1x128.size a ≤ S32776x1x128.size a)
theorem k0_off272_inb : ∀ (v5 : BitVec 32) (v1338 : BitVec 32) (k0_hw134 : k0_chk134 v5 v1338), ∀ a, (k0_off272 v5 v1338) a + S1x1x128.size a ≤ S32776x1x128.size a := fun v5 v1338 k0_hw134 => k0_hw134

def k0_off273 (k0_t2 : Fin k0_t2_loop.trips) : Fin 3 → Nat :=
  let c0_945 : Index := 0#32
  let c0_i32_1 : BitVec 32 := 0#32
  let c1_i32 : BitVec 32 := 1#32
  let arg9 : BitVec 32 := Scf.iv c0_i32_1 c1_i32 k0_t2
  let v1347 : Index := Scalar.indexCast arg9
  let c134 : Index := 134#32
  ![0, v1347.toNat, 134]
def k0_off274 (v5 : BitVec 32) (v1348 : BitVec 32) : Fin 3 → Nat :=
  let c134_i32 : BitVec 32 := 134#32
  let v1346 : BitVec 1 := Scalar.cmpi .sgt v5 c134_i32
  let c32768_i32_946 : BitVec 32 := 32768#32
  let v1349 : BitVec 32 := Scalar.select v1346 v1348 c32768_i32_946
  let v1350 : Index := Scalar.indexCast v1349
  let c0_947 : Index := 0#32
  let c0_948 : Index := 0#32
  ![v1350.toNat, 0, 0]

def k0_chk135 (v5 : BitVec 32) (v1348 : BitVec 32) : Prop :=
  (∀ a, (k0_off274 v5 v1348) a + S1x1x128.size a ≤ S32776x1x128.size a)
theorem k0_off274_inb : ∀ (v5 : BitVec 32) (v1348 : BitVec 32) (k0_hw135 : k0_chk135 v5 v1348), ∀ a, (k0_off274 v5 v1348) a + S1x1x128.size a ≤ S32776x1x128.size a := fun v5 v1348 k0_hw135 => k0_hw135

def k0_off275 (k0_t2 : Fin k0_t2_loop.trips) : Fin 3 → Nat :=
  let c0_952 : Index := 0#32
  let c0_i32_1 : BitVec 32 := 0#32
  let c1_i32 : BitVec 32 := 1#32
  let arg9 : BitVec 32 := Scf.iv c0_i32_1 c1_i32 k0_t2
  let v1357 : Index := Scalar.indexCast arg9
  let c134_953 : Index := 134#32
  ![0, v1357.toNat, 134]
def k0_off276 (v5 : BitVec 32) (v1358 : BitVec 32) : Fin 3 → Nat :=
  let c135_i32 : BitVec 32 := 135#32
  let v1356 : BitVec 1 := Scalar.cmpi .sgt v5 c135_i32
  let c32768_i32_954 : BitVec 32 := 32768#32
  let v1359 : BitVec 32 := Scalar.select v1356 v1358 c32768_i32_954
  let v1360 : Index := Scalar.indexCast v1359
  let c0_955 : Index := 0#32
  let c0_956 : Index := 0#32
  ![v1360.toNat, 0, 0]

def k0_chk136 (v5 : BitVec 32) (v1358 : BitVec 32) : Prop :=
  (∀ a, (k0_off276 v5 v1358) a + S1x1x128.size a ≤ S32776x1x128.size a)
theorem k0_off276_inb : ∀ (v5 : BitVec 32) (v1358 : BitVec 32) (k0_hw136 : k0_chk136 v5 v1358), ∀ a, (k0_off276 v5 v1358) a + S1x1x128.size a ≤ S32776x1x128.size a := fun v5 v1358 k0_hw136 => k0_hw136

def k0_off277 (k0_t2 : Fin k0_t2_loop.trips) : Fin 3 → Nat :=
  let c0_959 : Index := 0#32
  let c0_i32_1 : BitVec 32 := 0#32
  let c1_i32 : BitVec 32 := 1#32
  let arg9 : BitVec 32 := Scf.iv c0_i32_1 c1_i32 k0_t2
  let v1367 : Index := Scalar.indexCast arg9
  let c134_960 : Index := 134#32
  ![0, v1367.toNat, 134]
def k0_off278 (v5 : BitVec 32) (v1368 : BitVec 32) : Fin 3 → Nat :=
  let c136_i32 : BitVec 32 := 136#32
  let v1366 : BitVec 1 := Scalar.cmpi .sgt v5 c136_i32
  let c32768_i32_961 : BitVec 32 := 32768#32
  let v1369 : BitVec 32 := Scalar.select v1366 v1368 c32768_i32_961
  let v1370 : Index := Scalar.indexCast v1369
  let c0_962 : Index := 0#32
  let c0_963 : Index := 0#32
  ![v1370.toNat, 0, 0]

def k0_chk137 (v5 : BitVec 32) (v1368 : BitVec 32) : Prop :=
  (∀ a, (k0_off278 v5 v1368) a + S1x1x128.size a ≤ S32776x1x128.size a)
theorem k0_off278_inb : ∀ (v5 : BitVec 32) (v1368 : BitVec 32) (k0_hw137 : k0_chk137 v5 v1368), ∀ a, (k0_off278 v5 v1368) a + S1x1x128.size a ≤ S32776x1x128.size a := fun v5 v1368 k0_hw137 => k0_hw137

def k0_off279 (k0_t2 : Fin k0_t2_loop.trips) : Fin 3 → Nat :=
  let c0_966 : Index := 0#32
  let c0_i32_1 : BitVec 32 := 0#32
  let c1_i32 : BitVec 32 := 1#32
  let arg9 : BitVec 32 := Scf.iv c0_i32_1 c1_i32 k0_t2
  let v1377 : Index := Scalar.indexCast arg9
  let c134_967 : Index := 134#32
  ![0, v1377.toNat, 134]
def k0_off280 (v5 : BitVec 32) (v1378 : BitVec 32) : Fin 3 → Nat :=
  let c137_i32 : BitVec 32 := 137#32
  let v1376 : BitVec 1 := Scalar.cmpi .sgt v5 c137_i32
  let c32768_i32_968 : BitVec 32 := 32768#32
  let v1379 : BitVec 32 := Scalar.select v1376 v1378 c32768_i32_968
  let v1380 : Index := Scalar.indexCast v1379
  let c0_969 : Index := 0#32
  let c0_970 : Index := 0#32
  ![v1380.toNat, 0, 0]

def k0_chk138 (v5 : BitVec 32) (v1378 : BitVec 32) : Prop :=
  (∀ a, (k0_off280 v5 v1378) a + S1x1x128.size a ≤ S32776x1x128.size a)
theorem k0_off280_inb : ∀ (v5 : BitVec 32) (v1378 : BitVec 32) (k0_hw138 : k0_chk138 v5 v1378), ∀ a, (k0_off280 v5 v1378) a + S1x1x128.size a ≤ S32776x1x128.size a := fun v5 v1378 k0_hw138 => k0_hw138

def k0_off281 (k0_t2 : Fin k0_t2_loop.trips) : Fin 3 → Nat :=
  let c0_973 : Index := 0#32
  let c0_i32_1 : BitVec 32 := 0#32
  let c1_i32 : BitVec 32 := 1#32
  let arg9 : BitVec 32 := Scf.iv c0_i32_1 c1_i32 k0_t2
  let v1387 : Index := Scalar.indexCast arg9
  let c134_974 : Index := 134#32
  ![0, v1387.toNat, 134]
def k0_off282 (v5 : BitVec 32) (v1388 : BitVec 32) : Fin 3 → Nat :=
  let c138_i32 : BitVec 32 := 138#32
  let v1386 : BitVec 1 := Scalar.cmpi .sgt v5 c138_i32
  let c32768_i32_975 : BitVec 32 := 32768#32
  let v1389 : BitVec 32 := Scalar.select v1386 v1388 c32768_i32_975
  let v1390 : Index := Scalar.indexCast v1389
  let c0_976 : Index := 0#32
  let c0_977 : Index := 0#32
  ![v1390.toNat, 0, 0]

def k0_chk139 (v5 : BitVec 32) (v1388 : BitVec 32) : Prop :=
  (∀ a, (k0_off282 v5 v1388) a + S1x1x128.size a ≤ S32776x1x128.size a)
theorem k0_off282_inb : ∀ (v5 : BitVec 32) (v1388 : BitVec 32) (k0_hw139 : k0_chk139 v5 v1388), ∀ a, (k0_off282 v5 v1388) a + S1x1x128.size a ≤ S32776x1x128.size a := fun v5 v1388 k0_hw139 => k0_hw139

def k0_off283 (k0_t2 : Fin k0_t2_loop.trips) : Fin 3 → Nat :=
  let c0_980 : Index := 0#32
  let c0_i32_1 : BitVec 32 := 0#32
  let c1_i32 : BitVec 32 := 1#32
  let arg9 : BitVec 32 := Scf.iv c0_i32_1 c1_i32 k0_t2
  let v1397 : Index := Scalar.indexCast arg9
  let c134_981 : Index := 134#32
  ![0, v1397.toNat, 134]
def k0_off284 (v5 : BitVec 32) (v1398 : BitVec 32) : Fin 3 → Nat :=
  let c139_i32 : BitVec 32 := 139#32
  let v1396 : BitVec 1 := Scalar.cmpi .sgt v5 c139_i32
  let c32768_i32_982 : BitVec 32 := 32768#32
  let v1399 : BitVec 32 := Scalar.select v1396 v1398 c32768_i32_982
  let v1400 : Index := Scalar.indexCast v1399
  let c0_983 : Index := 0#32
  let c0_984 : Index := 0#32
  ![v1400.toNat, 0, 0]

def k0_chk140 (v5 : BitVec 32) (v1398 : BitVec 32) : Prop :=
  (∀ a, (k0_off284 v5 v1398) a + S1x1x128.size a ≤ S32776x1x128.size a)
theorem k0_off284_inb : ∀ (v5 : BitVec 32) (v1398 : BitVec 32) (k0_hw140 : k0_chk140 v5 v1398), ∀ a, (k0_off284 v5 v1398) a + S1x1x128.size a ≤ S32776x1x128.size a := fun v5 v1398 k0_hw140 => k0_hw140

def k0_off285 (k0_t2 : Fin k0_t2_loop.trips) : Fin 3 → Nat :=
  let c0_987 : Index := 0#32
  let c0_i32_1 : BitVec 32 := 0#32
  let c1_i32 : BitVec 32 := 1#32
  let arg9 : BitVec 32 := Scf.iv c0_i32_1 c1_i32 k0_t2
  let v1407 : Index := Scalar.indexCast arg9
  let c134_988 : Index := 134#32
  ![0, v1407.toNat, 134]
def k0_off286 (v5 : BitVec 32) (v1408 : BitVec 32) : Fin 3 → Nat :=
  let c140_i32 : BitVec 32 := 140#32
  let v1406 : BitVec 1 := Scalar.cmpi .sgt v5 c140_i32
  let c32768_i32_989 : BitVec 32 := 32768#32
  let v1409 : BitVec 32 := Scalar.select v1406 v1408 c32768_i32_989
  let v1410 : Index := Scalar.indexCast v1409
  let c0_990 : Index := 0#32
  let c0_991 : Index := 0#32
  ![v1410.toNat, 0, 0]

def k0_chk141 (v5 : BitVec 32) (v1408 : BitVec 32) : Prop :=
  (∀ a, (k0_off286 v5 v1408) a + S1x1x128.size a ≤ S32776x1x128.size a)
theorem k0_off286_inb : ∀ (v5 : BitVec 32) (v1408 : BitVec 32) (k0_hw141 : k0_chk141 v5 v1408), ∀ a, (k0_off286 v5 v1408) a + S1x1x128.size a ≤ S32776x1x128.size a := fun v5 v1408 k0_hw141 => k0_hw141

def k0_off287 (k0_t2 : Fin k0_t2_loop.trips) : Fin 3 → Nat :=
  let c0_994 : Index := 0#32
  let c0_i32_1 : BitVec 32 := 0#32
  let c1_i32 : BitVec 32 := 1#32
  let arg9 : BitVec 32 := Scf.iv c0_i32_1 c1_i32 k0_t2
  let v1417 : Index := Scalar.indexCast arg9
  let c134_995 : Index := 134#32
  ![0, v1417.toNat, 134]
def k0_off288 (v5 : BitVec 32) (v1418 : BitVec 32) : Fin 3 → Nat :=
  let c141_i32 : BitVec 32 := 141#32
  let v1416 : BitVec 1 := Scalar.cmpi .sgt v5 c141_i32
  let c32768_i32_996 : BitVec 32 := 32768#32
  let v1419 : BitVec 32 := Scalar.select v1416 v1418 c32768_i32_996
  let v1420 : Index := Scalar.indexCast v1419
  let c0_997 : Index := 0#32
  let c0_998 : Index := 0#32
  ![v1420.toNat, 0, 0]

def k0_chk142 (v5 : BitVec 32) (v1418 : BitVec 32) : Prop :=
  (∀ a, (k0_off288 v5 v1418) a + S1x1x128.size a ≤ S32776x1x128.size a)
theorem k0_off288_inb : ∀ (v5 : BitVec 32) (v1418 : BitVec 32) (k0_hw142 : k0_chk142 v5 v1418), ∀ a, (k0_off288 v5 v1418) a + S1x1x128.size a ≤ S32776x1x128.size a := fun v5 v1418 k0_hw142 => k0_hw142

def k0_off289 (k0_t2 : Fin k0_t2_loop.trips) : Fin 3 → Nat :=
  let c0_1001 : Index := 0#32
  let c0_i32_1 : BitVec 32 := 0#32
  let c1_i32 : BitVec 32 := 1#32
  let arg9 : BitVec 32 := Scf.iv c0_i32_1 c1_i32 k0_t2
  let v1427 : Index := Scalar.indexCast arg9
  let c134_1002 : Index := 134#32
  ![0, v1427.toNat, 134]
def k0_off290 (v5 : BitVec 32) (v1428 : BitVec 32) : Fin 3 → Nat :=
  let c142_i32 : BitVec 32 := 142#32
  let v1426 : BitVec 1 := Scalar.cmpi .sgt v5 c142_i32
  let c32768_i32_1003 : BitVec 32 := 32768#32
  let v1429 : BitVec 32 := Scalar.select v1426 v1428 c32768_i32_1003
  let v1430 : Index := Scalar.indexCast v1429
  let c0_1004 : Index := 0#32
  let c0_1005 : Index := 0#32
  ![v1430.toNat, 0, 0]

def k0_chk143 (v5 : BitVec 32) (v1428 : BitVec 32) : Prop :=
  (∀ a, (k0_off290 v5 v1428) a + S1x1x128.size a ≤ S32776x1x128.size a)
theorem k0_off290_inb : ∀ (v5 : BitVec 32) (v1428 : BitVec 32) (k0_hw143 : k0_chk143 v5 v1428), ∀ a, (k0_off290 v5 v1428) a + S1x1x128.size a ≤ S32776x1x128.size a := fun v5 v1428 k0_hw143 => k0_hw143

def k0_off291 (k0_t2 : Fin k0_t2_loop.trips) : Fin 3 → Nat :=
  let c0_1008 : Index := 0#32
  let c0_i32_1 : BitVec 32 := 0#32
  let c1_i32 : BitVec 32 := 1#32
  let arg9 : BitVec 32 := Scf.iv c0_i32_1 c1_i32 k0_t2
  let v1437 : Index := Scalar.indexCast arg9
  let c134_1009 : Index := 134#32
  ![0, v1437.toNat, 134]
def k0_off292 (v5 : BitVec 32) (v1438 : BitVec 32) : Fin 3 → Nat :=
  let c143_i32 : BitVec 32 := 143#32
  let v1436 : BitVec 1 := Scalar.cmpi .sgt v5 c143_i32
  let c32768_i32_1010 : BitVec 32 := 32768#32
  let v1439 : BitVec 32 := Scalar.select v1436 v1438 c32768_i32_1010
  let v1440 : Index := Scalar.indexCast v1439
  let c0_1011 : Index := 0#32
  let c0_1012 : Index := 0#32
  ![v1440.toNat, 0, 0]

def k0_chk144 (v5 : BitVec 32) (v1438 : BitVec 32) : Prop :=
  (∀ a, (k0_off292 v5 v1438) a + S1x1x128.size a ≤ S32776x1x128.size a)
theorem k0_off292_inb : ∀ (v5 : BitVec 32) (v1438 : BitVec 32) (k0_hw144 : k0_chk144 v5 v1438), ∀ a, (k0_off292 v5 v1438) a + S1x1x128.size a ≤ S32776x1x128.size a := fun v5 v1438 k0_hw144 => k0_hw144

def k0_off293 (k0_t2 : Fin k0_t2_loop.trips) : Fin 3 → Nat :=
  let c0_1023 : Index := 0#32
  let c0_i32_1 : BitVec 32 := 0#32
  let c1_i32 : BitVec 32 := 1#32
  let arg9 : BitVec 32 := Scf.iv c0_i32_1 c1_i32 k0_t2
  let v1458 : Index := Scalar.indexCast arg9
  let c0_1024 : Index := 0#32
  ![0, v1458.toNat, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .smem S1x8x135 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .smem S1x1x8 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S32768x96 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32768x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x2560 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x8x2560 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S40x64x96 : Shape := ⟨3, ![40, 64, 96]⟩
abbrev S32768x96 : Shape := ⟨2, ![32768, 96]⟩
abbrev S32768 : Shape := ⟨1, ![32768]⟩
abbrev S1000x135 : Shape := ⟨2, ![1000, 135]⟩
abbrev S1000 : Shape := ⟨1, ![1000]⟩
abbrev S32768x40x64 : Shape := ⟨3, ![32768, 40, 64]⟩
abbrev S32768x1x1 : Shape := ⟨3, ![32768, 1, 1]⟩
abbrev S_ : Shape := ⟨0, ![]⟩
abbrev S1000x135x1 : Shape := ⟨3, ![1000, 135, 1]⟩
abbrev S1000x135x40x64 : Shape := ⟨4, ![1000, 135, 40, 64]⟩
abbrev S135 : Shape := ⟨1, ![135]⟩
abbrev S1x135 : Shape := ⟨2, ![1, 135]⟩
abbrev S1000x1 : Shape := ⟨2, ![1000, 1]⟩
abbrev S1000x135x1x1 : Shape := ⟨4, ![1000, 135, 1, 1]⟩
abbrev S1000x40x64 : Shape := ⟨3, ![1000, 40, 64]⟩
abbrev S1000x40 : Shape := ⟨2, ![1000, 40]⟩
abbrev S40x1000 : Shape := ⟨2, ![40, 1000]⟩

abbrev nBuf : Space → Nat
  | .hbm => 42
  | .vmem => 2
  | .smem => 0
  | _ => 0

abbrev bufTy : (tb : Table) → Fin (tcTables nBuf tb) → BufTy
  | .hbm, ⟨0, _⟩ => ⟨S40x64x96, .bf16⟩
  | .hbm, ⟨1, _⟩ => ⟨S32768x96, .fp8e4m3⟩
  | .hbm, ⟨2, _⟩ => ⟨S32768, .f32⟩
  | .hbm, ⟨3, _⟩ => ⟨S1000x135, .i32⟩
  | .hbm, ⟨4, _⟩ => ⟨S1000, .i32⟩
  | .hbm, ⟨5, _⟩ => ⟨S32768x96, .bf16⟩
  | .hbm, ⟨6, _⟩ => ⟨S32768x40x64, .f32⟩
  | .hbm, ⟨7, _⟩ => ⟨S32768x1x1, .f32⟩
  | .hbm, ⟨8, _⟩ => ⟨S32768x40x64, .f32⟩
  | .hbm, ⟨9, _⟩ => ⟨S32768x40x64, .f32⟩
  | .hbm, ⟨10, _⟩ => ⟨S_, .f32⟩
  | .hbm, ⟨11, _⟩ => ⟨S32768x40x64, .f32⟩
  | .hbm, ⟨12, _⟩ => ⟨S32768x40x64, .f32⟩
  | .hbm, ⟨13, _⟩ => ⟨S_, .f32⟩
  | .hbm, ⟨14, _⟩ => ⟨S32768x40x64, .f32⟩
  | .hbm, ⟨15, _⟩ => ⟨S32768x40x64, .f32⟩
  | .hbm, ⟨16, _⟩ => ⟨S_, .i32⟩
  | .hbm, ⟨17, _⟩ => ⟨S1000x135, .i32⟩
  | .hbm, ⟨18, _⟩ => ⟨S1000x135, .i1⟩
  | .hbm, ⟨19, _⟩ => ⟨S_, .i32⟩
  | .hbm, ⟨20, _⟩ => ⟨S1000x135, .i32⟩
  | .hbm, ⟨21, _⟩ => ⟨S1000x135, .i32⟩
  | .hbm, ⟨22, _⟩ => ⟨S1000x135, .i32⟩
  | .hbm, ⟨23, _⟩ => ⟨S1000x135x1, .i32⟩
  | .hbm, ⟨24, _⟩ => ⟨S1000x135x40x64, .f32⟩
  | .hbm, ⟨25, _⟩ => ⟨S135, .i32⟩
  | .hbm, ⟨26, _⟩ => ⟨S1x135, .i32⟩
  | .hbm, ⟨27, _⟩ => ⟨S1000x1, .i32⟩
  | .hbm, ⟨28, _⟩ => ⟨S1000x135, .i32⟩
  | .hbm, ⟨29, _⟩ => ⟨S1000x135, .i32⟩
  | .hbm, ⟨30, _⟩ => ⟨S1000x135, .i1⟩
  | .hbm, ⟨31, _⟩ => ⟨S1000x135x1x1, .i1⟩
  | .hbm, ⟨32, _⟩ => ⟨S_, .f32⟩
  | .hbm, ⟨33, _⟩ => ⟨S_, .f32⟩
  | .hbm, ⟨34, _⟩ => ⟨S1000x135x40x64, .i1⟩
  | .hbm, ⟨35, _⟩ => ⟨S1000x135x40x64, .f32⟩
  | .hbm, ⟨36, _⟩ => ⟨S1000x135x40x64, .f32⟩
  | .hbm, ⟨37, _⟩ => ⟨S_, .f32⟩
  | .hbm, ⟨38, _⟩ => ⟨S1000x40x64, .f32⟩
  | .hbm, ⟨39, _⟩ => ⟨S_, .f32⟩
  | .hbm, ⟨40, _⟩ => ⟨S1000x40, .f32⟩
  | .hbm, ⟨41, _⟩ => ⟨S40x1000, .f32⟩
  | .local _ .vmem, ⟨0, _⟩ => ⟨S32768x96, .fp8e4m3⟩
  | .local _ .vmem, ⟨1, _⟩ => ⟨S32768x96, .bf16⟩
  | _, _ => ⟨S40x64x96, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_c : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_v23 : Ref sig .tc := ⟨.hbm, 36, rfl⟩
abbrev main_cst_3 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_v26 : Ref sig .tc := ⟨.hbm, 41, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S32768x96 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32768x96 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.Slots.lean ====
/- One document of the kernel's second loop, step by step: 144 slots, each of which looks up one token id in scalar
   memory, picks a table row by it (or the zero row past the document's length) and copies the row into the gather
   buffer. Every slot takes the same five steps, so each step has one rule here, stated for any slot. -/
module

public import proofs.«01_k».proof.Proof.Gen.KernelIdeal.Skeleton
public import Idealize.ShloMosaic.Lib.Exec
public import Idealize.ShloMosaic.Lib.Tactic
public import Idealize.ShloMosaic.Lib.Pipeline.Kit
public import Idealize.ShloMosaic.Lib.Pipeline.Value
public import Idealize.ShloMosaic.Lib.ValueIdxCore

@[expose] public section

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix3 eq_ix3)
open Cert.KernelIdeal.Gen

/-- The slot a document's token `j` picks: its id when the token is within the length, else the zero row. -/
def pick (len w : BitVec 32) (j : ℕ) : BitVec 32 :=
  Scalar.select (Scalar.cmpi .sgt len (BitVec.ofNat 32 j)) w 32768#32

/-- The offsets at which the slot loads from the table: the picked row. -/
def slotOff (len w : BitVec 32) (j : ℕ) : Fin 3 → ℕ :=
  ![(Scalar.indexCast (Scalar.select (Scalar.cmpi .sgt len (BitVec.ofNat 32 j)) w 32768#32)).toNat, 0, 0]

/-- They name the picked row. -/
theorem slotOff_eq (len w : BitVec 32) (j : ℕ) : slotOff len w j = ![(pick len w j).toNat, 0, 0] := rfl

variable {F : FTy → Type} [FloatOps F]

local notation "𝕄" => MT nD τ sig Unit (Elt F) ℕ (UR sig nD τ) ℕ

/-- The word a slot reads: token `j` of row `d` of the id block; the slots past the last token read it again. -/
def word (arg1 : Memref sig .tc .smem S1x8x135 .i32) (X1 : BufTy.Contents (Elt F) arg1.view.ty) (d : Fin 8) (j : ℕ) : BitVec 32 :=
  arg1.view.read (Elt F) X1 (ix3 0 d ⟨min j 134, by omega⟩)

/-- The length of document `d` of the block. -/
def lenAt (arg2 : Memref sig .tc .smem S1x1x8 .i32) (X2 : BufTy.Contents (Elt F) arg2.view.ty) (d : Fin 8) : BitVec 32 :=
  arg2.view.read (Elt F) X2 (ix3 0 0 d)

/-- The table row a slot picks. -/
def rowAt (arg7 : Memref sig .tc .vmem S32776x1x128 .f32) (X7 : BufTy.Contents (Elt F) arg7.view.ty) (n : ℕ) : Vec F S1x1x128 .f32 :=
  fun y => arg7.view.read (Elt F) X7 (ix3 ⟨min n 32775, by omega⟩ 0 (y 2))

/-- The one index of a unit rectangle of a rank-3 array, by its offsets. -/
theorem unit1_idx {n0 n1 n2 m2 : ℕ} {a b o : ℕ} {inb : ∀ x, (![a, b, o] : Fin 3 → ℕ) x + (⟨3, ![1, 1, m2]⟩ : Shape).size x ≤ (⟨3, ![n0, n1, n2]⟩ : Shape).size x}
    (y : (⟨3, ![1, 1, m2]⟩ : Shape).Idx) (ha : a < n0) (hb : b < n1) (ho : o + (y 2).val < n2) :
    (Rect.unit (s := ⟨3, ![n0, n1, n2]⟩) ![a, b, o] (⟨3, ![1, 1, m2]⟩ : Shape).size inb).emb y = ix3 ⟨a, ha⟩ ⟨b, hb⟩ ⟨o + (y 2).val, ho⟩ := by
  have h0 : (y 0).val < 1 := (y 0).isLt
  have h1 : (y 1).val < 1 := (y 1).isLt
  funext x
  match x with
  | ⟨0, _⟩ => exact Fin.ext (by show a + 1 * (y 0).val = a; omega)
  | ⟨1, _⟩ => exact Fin.ext (by show b + 1 * (y 1).val = b; omega)
  | ⟨2, _⟩ => exact Fin.ext (by show o + 1 * (y 2).val = o + (y 2).val; omega)

/-- The word read at a slot's offsets. -/
theorem read_word {arg1 : Memref sig .tc .smem S1x8x135 .i32} (X1 : BufTy.Contents (Elt F) arg1.view.ty) {d : Fin 8} {n : ℕ}
    {off : Fin 3 → ℕ} {inb : ∀ a, off a + S1x1x1.size a ≤ S1x8x135.size a} (y : S1x1x1.Idx) (hoff : off = ![0, d.val, min n 134]) :
    (arg1.access (Rect.unit (s := S1x8x135) off S1x1x1.size inb)).read (Elt F) X1 y = word arg1 X1 d n := by
  subst hoff
  have h2 : (y 2).val < 1 := (y 2).isLt
  refine (congrArg (arg1.view.read (Elt F) X1) (unit1_idx (n0 := 1) (n1 := 8) (n2 := 135) (m2 := 1) y (by omega) d.isLt (by omega))).trans ?_
  refine congrArg (arg1.view.read (Elt F) X1) (congrArg (ix3 0 d) (Fin.ext ?_))
  show min n 134 + (y 2).val = min n 134
  omega

/-- The length read at a document's offsets. -/
theorem read_len {arg2 : Memref sig .tc .smem S1x1x8 .i32} (X2 : BufTy.Contents (Elt F) arg2.view.ty) {e : Fin 8}
    {off : Fin 3 → ℕ} {inb : ∀ a, off a + S1x1x1.size a ≤ S1x1x8.size a} (y : S1x1x1.Idx) (hoff : off = ![0, 0, e.val]) :
    (arg2.access (Rect.unit (s := S1x1x8) off S1x1x1.size inb)).read (Elt F) X2 y = lenAt arg2 X2 e := by
  subst hoff
  have h2 : (y 2).val < 1 := (y 2).isLt
  refine (congrArg (arg2.view.read (Elt F) X2) (unit1_idx (n0 := 1) (n1 := 1) (n2 := 8) (m2 := 1) y (by omega) (by omega) (by omega))).trans ?_
  refine congrArg (arg2.view.read (Elt F) X2) (congrArg (ix3 0 0) (Fin.ext ?_))
  show e.val + (y 2).val = e.val
  omega

/-- A picked row is inside the table. -/
theorem pick_le {off : Fin 3 → ℕ} {p : ℕ} (hoff : off = ![p, 0, 0]) (inb : ∀ a, off a + S1x1x128.size a ≤ S32776x1x128.size a) : p ≤ 32775 := by
  have := inb 0
  subst hoff
  have h : p + 1 ≤ 32776 := this
  omega

/-- The row read at a slot's offsets. -/
theorem read_row {arg7 : Memref sig .tc .vmem S32776x1x128 .f32} (X7 : BufTy.Contents (Elt F) arg7.view.ty) {p : ℕ}
    {off : Fin 3 → ℕ} {inb : ∀ a, off a + S1x1x128.size a ≤ S32776x1x128.size a} (hoff : off = ![p, 0, 0]) :
    arg7.view.readAt (Elt F) (Rect.unit (s := S32776x1x128) off S1x1x128.size inb).toLoadRect X7 = rowAt arg7 X7 p := by
  have hp := pick_le hoff inb
  subst hoff
  funext y
  have h2 : (y 2).val < 128 := (y 2).isLt
  refine (congrArg (arg7.view.read (Elt F) X7) (unit1_idx (n0 := 32776) (n1 := 1) (n2 := 128) (m2 := 128) y (by omega) (by omega) (by omega))).trans ?_
  refine congrArg (arg7.view.read (Elt F) X7) ?_
  have e0 : (⟨p, by omega⟩ : Fin 32776) = ⟨min p 32775, by omega⟩ := Fin.ext (by show p = min p 32775; omega)
  have e2 : (⟨0 + (y 2).val, by omega⟩ : Fin 128) = y 2 := Fin.ext (Nat.zero_add _)
  show ix3 (⟨p, _⟩ : Fin 32776) (⟨0, _⟩ : Fin 1) (⟨0 + (y 2).val, _⟩ : Fin 128) = ix3 ⟨min p 32775, _⟩ 0 (y 2)
  rw [e0, e2]
  rfl

variable (𝒱 : Variants) (c : Dev nD) (bd : Option 𝒱.V) (E : Set ℕ)

/-- The gather buffer's first `n` rows are the picked ones. -/
def Filled (arg8 : Memref sig .tc .vmem S144x1x128 .f32) (G : ℕ → Vec F S1x1x128 .f32) (n : ℕ) (f : BufTy.Contents (Elt F) arg8.view.ty) : Prop :=
  ∀ (j : Fin 144) (l : Fin 128), j.val < n → arg8.view.read (Elt F) f (ix3 j 0 l) = G j.val (ix3 0 0 l)

/-- Storing row `n` fills it and keeps the rows before it. -/
theorem Filled.store {arg8 : Memref sig .tc .vmem S144x1x128 .f32} {G : ℕ → Vec F S1x1x128 .f32} {n : ℕ} {f : BufTy.Contents (Elt F) arg8.view.ty}
    (hf : Filled arg8 G n f) {inb : ∀ a, (![n, 0, 0] : Fin 3 → ℕ) a + S1x1x128.size a ≤ S144x1x128.size a} {w : S1x1x128.Idx → Elt F .f32} (hw : w = G n) :
    Filled arg8 G (n + 1) ((arg8.access (Rect.unit (s := S144x1x128) ![n, 0, 0] S1x1x128.size inb)).write (Elt F) f w Finset.univ) := by
  intro j l hj
  by_cases hjn : j.val = n
  · have hi : (Rect.unit (s := S144x1x128) ![n, 0, 0] S1x1x128.size inb).emb (ix3 0 0 l) = ix3 j 0 l := by
      refine (unit1_idx (n0 := 144) (n1 := 1) (n2 := 128) (m2 := 128) (ix3 0 0 l) (hjn ▸ j.isLt) Nat.one_pos (by show 0 + l.val < 128; omega)).trans ?_
      have e0 : (⟨n, hjn ▸ j.isLt⟩ : Fin 144) = j := Fin.ext hjn.symm
      have e2 : (⟨0 + l.val, by omega⟩ : Fin 128) = l := Fin.ext (Nat.zero_add _)
      show ix3 (⟨n, _⟩ : Fin 144) (⟨0, _⟩ : Fin 1) (⟨0 + l.val, _⟩ : Fin 128) = ix3 j 0 l
      rw [e0, e2]
      rfl
    have hr := View.read_slice_write_emb (v := arg8.view) (Val := Elt F) (Rect.unit (s := S144x1x128) ![n, 0, 0] S1x1x128.size inb) f w
      (M := Finset.univ) (x := ix3 0 0 l) (Finset.mem_univ _)
    rw [hi] at hr
    exact hr.trans (by rw [hw, hjn])
  · have hmem : (ix3 j 0 l : S144x1x128.Idx) ∉ Finset.univ.map (Rect.unit (s := S144x1x128) ![n, 0, 0] S1x1x128.size inb).emb := by
      intro hmem
      obtain ⟨x, -, hx⟩ := Finset.mem_map.mp hmem
      have h0 : ((Rect.unit (s := S144x1x128) ![n, 0, 0] S1x1x128.size inb).emb x 0).val = j.val := congrArg (fun z => (z 0).val) hx
      have h1 : n + 1 * (x 0).val = j.val := h0
      have h2 : (x 0).val < 1 := (x 0).isLt
      omega
    have hr := View.read_slice_write_of_not_mem (v := arg8.view) (Val := Elt F) (Rect.unit (s := S144x1x128) ![n, 0, 0] S1x1x128.size inb) f w
      Finset.univ hmem
    exact hr.trans (hf j l (by omega))

/-- What is held between two steps of a document: the ids, the table, the gather buffer with its first `n` rows
    picked, and the rest `R`. -/
def St (arg1 : Memref sig .tc .smem S1x8x135 .i32) (X1 : BufTy.Contents (Elt F) arg1.view.ty)
    (arg7 : Memref sig .tc .vmem S32776x1x128 .f32) (X7 : BufTy.Contents (Elt F) arg7.view.ty)
    (arg8 : Memref sig .tc .vmem S144x1x128 .f32) (R : sProp 𝕄) (d : Fin 8) (len : BitVec 32) (n : ℕ) : sProp 𝕄 :=
  iprop((arg1.view.loc (c : Thread nD τ) ↦[arg1.view.set]{fullShare} X1)
    ∗ (arg7.view.loc (c : Thread nD τ) ↦[arg7.view.set]{fullShare} X7)
    ∗ (∃ f, (arg8.view.loc (c : Thread nD τ) ↦[arg8.view.set]{fullShare} f)
        ∗ ⌜Filled arg8 (fun j => rowAt arg7 X7 (pick len (word arg1 X1 d j) j).toNat) n f⌝)
    ∗ R)

/-- A row reshaped to a vector and back is the row. -/
theorem pay_eq (x : Vec F S1x1x128 .f32) : shapeCast S1x1x128 (shapeCast S128 x shapeCasts_S1x1x128_S128) shapeCasts_S128_S1x1x128 = x :=
  shapeCast_shapeCast x _ _

variable {arg1 : Memref sig .tc .smem S1x8x135 .i32} {X1 : BufTy.Contents (Elt F) arg1.view.ty}
  {arg7 : Memref sig .tc .vmem S32776x1x128 .f32} {X7 : BufTy.Contents (Elt F) arg7.view.ty}
  {arg8 : Memref sig .tc .vmem S144x1x128 .f32} {d : Fin 8} {len : BitVec 32} {n : ℕ}
  {α β : Type}

/-- One operation, then the rest. -/
theorem lift_bind (e : TpuEff nD τ sig (Elt F) Λ₀ .tc α) (K : α → Prog (TpuEff nD τ sig (Elt F) Λ₀ .tc) β) :
    (Prog.lift e >>= K) = Prog.op e K := rfl

/-- Reading the id of the slot. -/
theorem step_word {R : sProp 𝕄} {off : Fin 3 → ℕ} {inb : ∀ a, off a + S1x1x1.size a ≤ S1x8x135.size a}
    {h1 : S1x1x1.numel = 1} {hp : EltTy.packing .i32 = EltTy.packing .i32}
    {K : Elt F .i32 → Prog (TpuEff nD τ sig (Elt F) Λ₀ .tc) α} {Q : α → sProp 𝕄}
    (hoff : off = ![0, d.val, min n 134])
    (h : St c arg1 X1 arg7 X7 arg8 R d len n ⊢ wp frame (wpE (defs₀ (F := F)) 𝒱 (c : Thread nD τ) bd) E (K (word arg1 X1 d n)) Q) :
    St c arg1 X1 arg7 X7 arg8 R d len n
      ⊢ wp frame (wpE (defs₀ (F := F)) 𝒱 (c : Thread nD τ) bd) E (smemLoad arg1 (Rect.unit (s := S1x8x135) off S1x1x1.size inb) h1 hp >>= K) Q := by
  have hw := read_word X1 (inb := inb) (Shape.Idx.first (s := S1x1x1) (h1.symm ▸ Nat.one_pos)) hoff
  unfold St at h ⊢
  iintro ⟨H1, H7, H8, HR⟩
  rw [show smemLoad arg1 (Rect.unit (s := S1x8x135) off S1x1x1.size inb) h1 hp >>= K = smemLoadElt arg1 (Rect.unit (s := S1x8x135) off S1x1x1.size inb) (View.loads_smem_one hp h1) (Shape.Idx.first (s := S1x1x1) (h1.symm ▸ Nat.one_pos)) K from rfl]
  iapply (wp_smemLoadElt 𝒱 (c : Thread nD τ) bd E (m := arg1) (r := Rect.unit (s := S1x8x135) off S1x1x1.size inb) (k := K) (S := arg1.view.set) (f := X1) (View.set_slice_subset _ _)) $$ H1
  iintro H1
  rw [hw]
  iapply h
  isplitl [H1]; · iexact H1
  isplitl [H7]; · iexact H7
  isplitl [H8]; · iexact H8
  iexact HR

/-- Reading the document's length. -/
theorem step_len {R : sProp 𝕄} {arg2 : Memref sig .tc .smem S1x1x8 .i32} {X2 : BufTy.Contents (Elt F) arg2.view.ty} {e : Fin 8}
    {off : Fin 3 → ℕ} {inb : ∀ a, off a + S1x1x1.size a ≤ S1x1x8.size a}
    {h1 : S1x1x1.numel = 1} {hp : EltTy.packing .i32 = EltTy.packing .i32}
    {K : Elt F .i32 → Prog (TpuEff nD τ sig (Elt F) Λ₀ .tc) α} {Q : α → sProp 𝕄}
    (hoff : off = ![0, 0, e.val])
    (h : St c arg1 X1 arg7 X7 arg8 (iprop((arg2.view.loc (c : Thread nD τ) ↦[arg2.view.set]{fullShare} X2) ∗ R)) d len n
      ⊢ wp frame (wpE (defs₀ (F := F)) 𝒱 (c : Thread nD τ) bd) E (K (lenAt arg2 X2 e)) Q) :
    St c arg1 X1 arg7 X7 arg8 (iprop((arg2.view.loc (c : Thread nD τ) ↦[arg2.view.set]{fullShare} X2) ∗ R)) d len n
      ⊢ wp frame (wpE (defs₀ (F := F)) 𝒱 (c : Thread nD τ) bd) E (smemLoad arg2 (Rect.unit (s := S1x1x8) off S1x1x1.size inb) h1 hp >>= K) Q := by
  have hw := read_len X2 (inb := inb) (Shape.Idx.first (s := S1x1x1) (h1.symm ▸ Nat.one_pos)) hoff
  unfold St at h ⊢
  iintro ⟨H1, H7, H8, H2, HR⟩
  rw [show smemLoad arg2 (Rect.unit (s := S1x1x8) off S1x1x1.size inb) h1 hp >>= K = smemLoadElt arg2 (Rect.unit (s := S1x1x8) off S1x1x1.size inb) (View.loads_smem_one hp h1) (Shape.Idx.first (s := S1x1x1) (h1.symm ▸ Nat.one_pos)) K from rfl]
  iapply (wp_smemLoadElt 𝒱 (c : Thread nD τ) bd E (m := arg2) (r := Rect.unit (s := S1x1x8) off S1x1x1.size inb) (k := K) (S := arg2.view.set) (f := X2) (View.set_slice_subset _ _)) $$ H2
  iintro H2
  rw [hw]
  iapply h
  isplitl [H1]; · iexact H1
  isplitl [H7]; · iexact H7
  isplitl [H8]; · iexact H8
  isplitl [H2]; · iexact H2
  iexact HR

/-- The slot's in-bounds condition holds. -/
theorem step_check {R : sProp 𝕄} {P : Prop} {dec : Decidable P} {K : PLift P → Prog (TpuEff nD τ sig (Elt F) Λ₀ .tc) α} {Q : α → sProp 𝕄}
    (hin : ∀ j, j < 144 → (pick len (word arg1 X1 d j) j).toNat ≤ 32775)
    (hP : (∀ a, (slotOff len (word arg1 X1 d n) n) a + S1x1x128.size a ≤ S32776x1x128.size a) → P) (hn : n < 144)
    (h : ∀ hP : P, St c arg1 X1 arg7 X7 arg8 R d len n ⊢ wp frame (wpE (defs₀ (F := F)) 𝒱 (c : Thread nD τ) bd) E (K ⟨hP⟩) Q) :
    St c arg1 X1 arg7 X7 arg8 R d len n ⊢ wp frame (wpE (defs₀ (F := F)) 𝒱 (c : Thread nD τ) bd) E (Prog.lift (TpuEff.assume P dec) >>= K) Q :=
  have hp : P := hP fun a => match a with
    | ⟨0, _⟩ => Nat.succ_le_succ (hin n hn)
    | ⟨1, _⟩ => Nat.le_refl 1
    | ⟨2, _⟩ => Nat.le_refl 128
  (h hp).trans (wp_assume 𝒱 (c : Thread nD τ) bd E hp)

/-- Loading the picked table row. -/
theorem step_row {R : sProp 𝕄} {off : Fin 3 → ℕ} {inb : ∀ a, off a + S1x1x128.size a ≤ S32776x1x128.size a}
    {hl : arg7.view.LoadsAt (Rect.unit (s := S32776x1x128) off S1x1x128.size inb).toLoadRect}
    {K : Vec F S1x1x128 .f32 → Prog (TpuEff nD τ sig (Elt F) Λ₀ .tc) α} {Q : α → sProp 𝕄}
    (hoff : off = slotOff len (word arg1 X1 d n) n)
    (h : St c arg1 X1 arg7 X7 arg8 R d len n ⊢ wp frame (wpE (defs₀ (F := F)) 𝒱 (c : Thread nD τ) bd) E (K (rowAt arg7 X7 (pick len (word arg1 X1 d n) n).toNat)) Q) :
    St c arg1 X1 arg7 X7 arg8 R d len n
      ⊢ wp frame (wpE (defs₀ (F := F)) 𝒱 (c : Thread nD τ) bd) E (Prog.lift (.load arg7 (Rect.unit (s := S32776x1x128) off S1x1x128.size inb).toLoadRect hl) >>= K) Q := by
  have hv := read_row X7 (inb := inb) hoff
  unfold St at h ⊢
  rw [lift_bind]
  iintro ⟨H1, H7, H8, HR⟩
  iapply (wp_load 𝒱 (c : Thread nD τ) bd E (m := arg7) (r := (Rect.unit (s := S32776x1x128) off S1x1x128.size inb).toLoadRect) (hl := hl) (k := K) (S := arg7.view.set) (f := X7) (View.setOn_subset_set _ _)) $$ H7
  iintro H7
  rw [hv]
  iapply h
  isplitl [H1]; · iexact H1
  isplitl [H7]; · iexact H7
  isplitl [H8]; · iexact H8
  iexact HR

/-- Loading a row of the gather buffer, which the body does before every store and does not use. -/
theorem step_dead {R : sProp 𝕄} {r : LoadRect S144x1x128} {hl : arg8.view.LoadsAt r}
    {K : (r.shape.Idx → Elt F .f32) → Prog (TpuEff nD τ sig (Elt F) Λ₀ .tc) α} {Q : α → sProp 𝕄}
    (h : ∀ v, St c arg1 X1 arg7 X7 arg8 R d len n ⊢ wp frame (wpE (defs₀ (F := F)) 𝒱 (c : Thread nD τ) bd) E (K v) Q) :
    St c arg1 X1 arg7 X7 arg8 R d len n
      ⊢ wp frame (wpE (defs₀ (F := F)) 𝒱 (c : Thread nD τ) bd) E (Prog.lift (.load arg8 r hl) >>= K) Q := by
  unfold St at h ⊢
  rw [lift_bind]
  iintro ⟨H1, H7, ⟨%f, H8, %hf⟩, HR⟩
  iapply (wp_load 𝒱 (c : Thread nD τ) bd E (m := arg8) (r := r) (hl := hl) (k := K) (S := arg8.view.set) (f := f) (View.setOn_subset_set _ _)) $$ H8
  iintro H8
  iapply (h (arg8.view.readAt (Elt F) r f))
  isplitl [H1]; · iexact H1
  isplitl [H7]; · iexact H7
  isplitl [H8]
  · iexists f; isplitl [H8]; · iexact H8
    ipureintro; exact hf
  iexact HR

/-- Storing the picked row into row `j` of the gather buffer: one more row is filled. -/
theorem step_store {R : sProp 𝕄} {j : ℕ} {inb : ∀ a, (![j, 0, 0] : Fin 3 → ℕ) a + S1x1x128.size a ≤ S144x1x128.size a}
    {w : FVec F S1x1x128 .f32}
    {hx : (arg8.access (Rect.unit (s := S144x1x128) ![j, 0, 0] S1x1x128.size inb)).Stores Finset.univ}
    {hm : Finset.univ = Finset.univ ∨ ∀ a, (Rect.unit (s := S144x1x128) ![j, 0, 0] S1x1x128.size inb).stride a = 1}
    {K : PUnit → Prog (TpuEff nD τ sig (Elt F) Λ₀ .tc) α} {Q : α → sProp 𝕄}
    (hn : n = j) (hw : w = rowAt arg7 X7 (pick len (word arg1 X1 d j) j).toNat)
    (h : St c arg1 X1 arg7 X7 arg8 R d len (j + 1) ⊢ wp frame (wpE (defs₀ (F := F)) 𝒱 (c : Thread nD τ) bd) E (K ⟨⟩) Q) :
    St c arg1 X1 arg7 X7 arg8 R d len n
      ⊢ wp frame (wpE (defs₀ (F := F)) 𝒱 (c : Thread nD τ) bd) E
          (Prog.lift (.store arg8 (Rect.unit (s := S144x1x128) ![j, 0, 0] S1x1x128.size inb) w Finset.univ hx hm) >>= K) Q := by
  subst hn
  unfold St at h ⊢
  rw [lift_bind]
  iintro ⟨H1, H7, ⟨%f, H8, %hf⟩, HR⟩
  iapply (wp_store 𝒱 (c : Thread nD τ) bd E (m := arg8) (r := Rect.unit (s := S144x1x128) ![n, 0, 0] S1x1x128.size inb) (w := w) (Mk := Finset.univ) (hx := hx) (hm := hm) (k := K) (S := arg8.view.set) (f := f)
    (by rw [View.setOn_univ]; exact View.set_slice_subset _ _)) $$ H8
  iintro H8
  iapply h
  isplitl [H1]; · iexact H1
  isplitl [H7]; · iexact H7
  isplitl [H8]
  · iexists _; isplitl [H8]; · iexact H8
    ipureintro; exact hf.store hw
  iexact HR

/-- A last operation is that operation and then a return. -/
theorem step_tail {e : TpuEff nD τ sig (Elt F) Λ₀ .tc α} {Q : α → sProp 𝕄} {H : sProp 𝕄}
    (h : H ⊢ wp frame (wpE (defs₀ (F := F)) 𝒱 (c : Thread nD τ) bd) E (Prog.lift e >>= pure) Q) :
    H ⊢ wp frame (wpE (defs₀ (F := F)) 𝒱 (c : Thread nD τ) bd) E (Prog.lift e) Q := h

/-- The end of a part: it returns a value. -/
theorem step_ret {a : α} {Q : α → sProp 𝕄} {H : sProp 𝕄} (h : H ⊢ Q a) :
    H ⊢ wp frame (wpE (defs₀ (F := F)) 𝒱 (c : Thread nD τ) bd) E (pure a) Q :=
  h.trans (le_wp_ret _ _ _ a Q)

/-- The start of a part: run it, then the rest. -/
theorem step_part {p : Prog (TpuEff nD τ sig (Elt F) Λ₀ .tc) α} {K : α → Prog (TpuEff nD τ sig (Elt F) Λ₀ .tc) β} {Q : β → sProp 𝕄} {H : sProp 𝕄}
    (h : H ⊢ wp frame (wpE (defs₀ (F := F)) 𝒱 (c : Thread nD τ) bd) E p (fun a => wp frame (wpE (defs₀ (F := F)) 𝒱 (c : Thread nD τ) bd) E (K a) Q)) :
    H ⊢ wp frame (wpE (defs₀ (F := F)) 𝒱 (c : Thread nD τ) bd) E (p >>= K) Q := by
  rw [wp_bind]; exact h

end Cert.KernelIdeal.Hand

end
-- ==== Proof.Doc.lean ====
/- One document of the kernel's second loop: what its 144 slots leave in the gather buffer, and what it then stores. -/
module

public import proofs.«01_k».proof.Proof.Slots

@[expose] public section

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix3 eq_ix3)
open Cert.KernelIdeal.Gen

/-- The loop over a block's documents makes eight trips. -/
theorem t2_trips : k0_t2_loop.trips = 8 := by decide

/-- The row of the block that trip `k` works on, as the body computes it. -/
def docIx (k : Fin k0_t2_loop.trips) : Fin 8 :=
  ⟨(Scalar.indexCast (Scf.iv 0#32 1#32 k) : Index).toNat, by
    have h : ∀ k : Fin 8, (Scalar.indexCast (Scf.iv 0#32 1#32 k) : Index).toNat < 8 := by decide
    exact h ⟨k.val, t2_trips ▸ k.isLt⟩⟩

/-- It is the trip's number. -/
theorem docIx_val (k : Fin k0_t2_loop.trips) : (docIx k).val = k.val := by
  have h : ∀ k : Fin 8, (Scalar.indexCast (Scf.iv 0#32 1#32 k) : Index).toNat = k.val := by decide
  exact h ⟨k.val, t2_trips ▸ k.isLt⟩

variable {F : FTy → Type} [FloatOps F]

local notation "𝕄" => MT nD τ sig Unit (Elt F) ℕ (UR sig nD τ) ℕ

variable (𝒱 : Variants) (c : Dev nD) (bd : Option 𝒱.V) (E : Set ℕ)

set_option maxRecDepth 65536 in
set_option maxHeartbeats 40000000 in
/-- The first 143 slots of a document. -/
theorem slots_run (i : grid0.Coords) (arg1 : Memref sig .tc .smem S1x8x135 .i32) (harg1 : arg1.IsWhole) (arg2 : Memref sig .tc .smem S1x1x8 .i32) (harg2 : arg2.IsWhole)
    (arg3 : Memref sig .tc .vmem S32768x96 .fp8e4m3) (harg3 : arg3.IsWhole) (arg4 : Memref sig .tc .vmem S32768x1 .f32) (harg4 : arg4.IsWhole)
    (arg5 : Memref sig .tc .vmem S128x2560 .bf16) (harg5 : arg5.IsWhole) (arg6 : Memref sig .tc .vmem S1x8x2560 .f32) (harg6 : arg6.IsWhole)
    (arg7 : Memref sig .tc .vmem S32776x1x128 .f32) (harg7 : arg7.IsWhole) (arg8 : Memref sig .tc .vmem S144x1x128 .f32) (harg8 : arg8.IsWhole)
    {X1 : BufTy.Contents (Elt F) arg1.view.ty} {X2 : BufTy.Contents (Elt F) arg2.view.ty} {X7 : BufTy.Contents (Elt F) arg7.view.ty} {R : sProp 𝕄}
    (k : Fin k0_t2_loop.trips)
    (hin : ∀ j, j < 144 → (pick (lenAt (F := F) arg2 X2 (docIx k)) (word (F := F) arg1 X1 (docIx k) j) j).toNat ≤ 32775)
    {Q : (Σ' (arg9 : BitVec 32) (v5 : Elt F .i32), BitVec 1) → sProp 𝕄}
    (h : ∀ a b, St c arg1 X1 arg7 X7 arg8 (iprop((arg2.view.loc (c : Thread nD τ) ↦[arg2.view.set]{fullShare} X2) ∗ R)) (docIx k) (lenAt (F := F) arg2 X2 (docIx k)) 143
      ⊢ Q ⟨a, lenAt (F := F) arg2 X2 (docIx k), b⟩) :
    St c arg1 X1 arg7 X7 arg8 (iprop((arg2.view.loc (c : Thread nD τ) ↦[arg2.view.set]{fullShare} X2) ∗ R)) (docIx k) (lenAt (F := F) arg2 X2 (docIx k)) 0
      ⊢ wp frame (wpE (defs₀ (F := F)) 𝒱 (c : Thread nD τ) bd) E (k0_part51 (F := F) i arg1 harg1 arg2 harg2 arg3 harg3 arg4 harg4 arg5 harg5 arg6 harg6 arg7 harg7 arg8 harg8 0#32 1#32 k) Q := by
  rw [k0_part51_eq_skeleton]; unfold k0_part51_skel
  refine step_part (F := F) 𝒱 c bd E ?_
  rw [k0_part1_eq_skeleton]; unfold k0_part1_skel
  refine step_len (F := F) (e := docIx k) 𝒱 c bd E ?_ ?_
  · rfl
  repeat first
    | ((with_reducible apply (step_word (F := F) 𝒱 c bd E ?_ ?_)); · rfl)
    | ((with_reducible apply (step_check (F := F) 𝒱 c bd E hin ?_ ?_ fun _ => ?_)); (· exact fun h => h); (· decide))
    | ((with_reducible apply (step_row (F := F) 𝒱 c bd E ?_ ?_)); · rfl)
    | (with_reducible apply (step_dead (F := F) 𝒱 c bd E fun _ => ?_))
    | ((with_reducible apply (step_store (F := F) 𝒱 c bd E ?_ ?_ ?_)); (· rfl); (· first | exact pay_eq (F := F) _ | (refine Eq.trans ?_ (pay_eq (F := F) _); rfl)))
    | (with_reducible apply (step_tail (F := F) 𝒱 c bd E ?_))
    | (with_reducible apply (step_ret (F := F) 𝒱 c bd E ?_))
    | ((with_reducible apply (step_part (F := F) 𝒱 c bd E ?_)); first
      | (rw [k0_part1_eq_skeleton]; unfold k0_part1_skel)
      | (rw [k0_part2_eq_skeleton]; unfold k0_part2_skel)
      | (rw [k0_part3_eq_skeleton]; unfold k0_part3_skel)
      | (rw [k0_part4_eq_skeleton]; unfold k0_part4_skel)
      | (rw [k0_part5_eq_skeleton]; unfold k0_part5_skel)
      | (rw [k0_part6_eq_skeleton]; unfold k0_part6_skel)
      | (rw [k0_part7_eq_skeleton]; unfold k0_part7_skel)
      | (rw [k0_part8_eq_skeleton]; unfold k0_part8_skel)
      | (rw [k0_part9_eq_skeleton]; unfold k0_part9_skel)
      | (rw [k0_part10_eq_skeleton]; unfold k0_part10_skel)
      | (rw [k0_part11_eq_skeleton]; unfold k0_part11_skel)
      | (rw [k0_part12_eq_skeleton]; unfold k0_part12_skel)
      | (rw [k0_part13_eq_skeleton]; unfold k0_part13_skel)
      | (rw [k0_part14_eq_skeleton]; unfold k0_part14_skel)
      | (rw [k0_part15_eq_skeleton]; unfold k0_part15_skel)
      | (rw [k0_part16_eq_skeleton]; unfold k0_part16_skel)
      | (rw [k0_part17_eq_skeleton]; unfold k0_part17_skel)
      | (rw [k0_part18_eq_skeleton]; unfold k0_part18_skel)
      | (rw [k0_part19_eq_skeleton]; unfold k0_part19_skel)
      | (rw [k0_part20_eq_skeleton]; unfold k0_part20_skel)
      | (rw [k0_part21_eq_skeleton]; unfold k0_part21_skel)
      | (rw [k0_part22_eq_skeleton]; unfold k0_part22_skel)
      | (rw [k0_part23_eq_skeleton]; unfold k0_part23_skel)
      | (rw [k0_part24_eq_skeleton]; unfold k0_part24_skel)
      | (rw [k0_part25_eq_skeleton]; unfold k0_part25_skel)
      | (rw [k0_part26_eq_skeleton]; unfold k0_part26_skel)
      | (rw [k0_part27_eq_skeleton]; unfold k0_part27_skel)
      | (rw [k0_part28_eq_skeleton]; unfold k0_part28_skel)
      | (rw [k0_part29_eq_skeleton]; unfold k0_part29_skel)
      | (rw [k0_part30_eq_skeleton]; unfold k0_part30_skel)
      | (rw [k0_part31_eq_skeleton]; unfold k0_part31_skel)
      | (rw [k0_part32_eq_skeleton]; unfold k0_part32_skel)
      | (rw [k0_part33_eq_skeleton]; unfold k0_part33_skel)
      | (rw [k0_part34_eq_skeleton]; unfold k0_part34_skel)
      | (rw [k0_part35_eq_skeleton]; unfold k0_part35_skel)
      | (rw [k0_part36_eq_skeleton]; unfold k0_part36_skel)
      | (rw [k0_part37_eq_skeleton]; unfold k0_part37_skel)
      | (rw [k0_part38_eq_skeleton]; unfold k0_part38_skel)
      | (rw [k0_part39_eq_skeleton]; unfold k0_part39_skel)
      | (rw [k0_part40_eq_skeleton]; unfold k0_part40_skel)
      | (rw [k0_part41_eq_skeleton]; unfold k0_part41_skel)
      | (rw [k0_part42_eq_skeleton]; unfold k0_part42_skel)
      | (rw [k0_part43_eq_skeleton]; unfold k0_part43_skel)
      | (rw [k0_part44_eq_skeleton]; unfold k0_part44_skel)
      | (rw [k0_part45_eq_skeleton]; unfold k0_part45_skel)
      | (rw [k0_part46_eq_skeleton]; unfold k0_part46_skel)
      | (rw [k0_part47_eq_skeleton]; unfold k0_part47_skel)
      | (rw [k0_part48_eq_skeleton]; unfold k0_part48_skel)
      | (rw [k0_part49_eq_skeleton]; unfold k0_part49_skel)
      | (rw [k0_part50_eq_skeleton]; unfold k0_part50_skel))
  exact h _ _

end Cert.KernelIdeal.Hand

end
-- ==== Proof.Trip.lean ====
/- One trip of the kernel's second loop: the document's 144 slots are gathered, and its row of scores is stored. Then
   the loop: after its eight trips the output block holds the eight rows. -/
module

public import proofs.«01_k».proof.Proof.Doc

@[expose] public section

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix3 eq_ix3 ix2 eq_ix2)
open Cert.KernelIdeal.Gen

variable {F : FTy → Type} [FloatOps F]

local notation "𝕄" => MT nD τ sig Unit (Elt F) ℕ (UR sig nD τ) ℕ

variable (𝒱 : Variants) (c : Dev nD) (bd : Option 𝒱.V) (E : Set ℕ)

section

variable (arg1 : Memref sig .tc .smem S1x8x135 .i32) (X1 : BufTy.Contents (Elt F) arg1.view.ty)
  (arg2 : Memref sig .tc .smem S1x1x8 .i32) (X2 : BufTy.Contents (Elt F) arg2.view.ty)
  (arg5 : Memref sig .tc .vmem S128x2560 .bf16) (X5 : BufTy.Contents (Elt F) arg5.view.ty)
  (arg6 : Memref sig .tc .vmem S1x8x2560 .f32)
  (arg7 : Memref sig .tc .vmem S32776x1x128 .f32) (X7 : BufTy.Contents (Elt F) arg7.view.ty)
  (arg8 : Memref sig .tc .vmem S144x1x128 .f32)

/-- The gathered rows of document `d`. -/
def gath (d : Fin 8) : Vec F S144x1x128 .f32 :=
  fun y => rowAt arg7 X7 (pick (lenAt (F := F) arg2 X2 d) (word (F := F) arg1 X1 d (y 0).val) (y 0).val).toNat (ix3 0 0 (y 2))

/-- The row of scores stored for document `d`. -/
def docOut (d : Fin 8) : Vec F S1x1x2560 .f32 := k0_pay4 (gath arg1 X1 arg2 X2 arg7 X7 d) (arg5.view.read (Elt F) X5)

/-- The first `n` rows of the output block are stored. -/
def Rows (G : Fin 8 → Vec F S1x1x2560 .f32) (n : ℕ) (f : BufTy.Contents (Elt F) arg6.view.ty) : Prop :=
  ∀ (d : Fin 8) (q : Fin 2560), d.val < n → arg6.view.read (Elt F) f (ix3 0 d q) = G d (ix3 0 0 q)

variable {arg6} in
/-- Storing row `n` adds it and keeps the rows before it. -/
theorem Rows.store {G : Fin 8 → Vec F S1x1x2560 .f32} {n : ℕ} {f : BufTy.Contents (Elt F) arg6.view.ty} {e : Fin 8}
    (hf : Rows arg6 G n f) (he : e.val = n) {off : Fin 3 → ℕ} (hoff : off = ![0, e.val, 0])
    {inb : ∀ a, off a + S1x1x2560.size a ≤ S1x8x2560.size a} {w : S1x1x2560.Idx → Elt F .f32} (hw : w = G e) :
    Rows arg6 G (n + 1) ((arg6.access (Rect.unit (s := S1x8x2560) off S1x1x2560.size inb)).write (Elt F) f w Finset.univ) := by
  subst hoff he hw
  intro d q hd
  by_cases hdn : d = e
  · subst hdn
    have hi : (Rect.unit (s := S1x8x2560) ![0, d.val, 0] S1x1x2560.size inb).emb (ix3 0 0 q) = ix3 0 d q := by
      refine (unit1_idx (n0 := 1) (n1 := 8) (n2 := 2560) (m2 := 2560) (ix3 0 0 q) Nat.one_pos d.isLt (by show 0 + q.val < 2560; omega)).trans ?_
      have e2 : (⟨0 + q.val, by omega⟩ : Fin 2560) = q := Fin.ext (Nat.zero_add _)
      show ix3 (⟨0, _⟩ : Fin 1) d (⟨0 + q.val, _⟩ : Fin 2560) = ix3 0 d q
      rw [e2]
      rfl
    have hr := View.read_slice_write_emb (v := arg6.view) (Val := Elt F) (Rect.unit (s := S1x8x2560) ![0, d.val, 0] S1x1x2560.size inb) f (G d)
      (M := Finset.univ) (x := ix3 0 0 q) (Finset.mem_univ _)
    rw [hi] at hr
    exact hr
  · have hne : d.val ≠ e.val := fun h => hdn (Fin.ext h)
    have hmem : (ix3 0 d q : S1x8x2560.Idx) ∉ Finset.univ.map (Rect.unit (s := S1x8x2560) ![0, e.val, 0] S1x1x2560.size inb).emb := by
      intro hmem
      obtain ⟨x, -, hx⟩ := Finset.mem_map.mp hmem
      have h0 : ((Rect.unit (s := S1x8x2560) ![0, e.val, 0] S1x1x2560.size inb).emb x 1).val = d.val := congrArg (fun z => (z 1).val) hx
      have h1 : e.val + 1 * (x 1).val = d.val := h0
      have h2 : (x 1).val < 1 := (x 1).isLt
      omega
    have hr := View.read_slice_write_of_not_mem (v := arg6.view) (Val := Elt F) (Rect.unit (s := S1x8x2560) ![0, e.val, 0] S1x1x2560.size inb) f (G e)
      Finset.univ hmem
    exact hr.trans (hf d q (by omega))

/-- Once all 144 rows are filled the gather buffer reads as the gathered rows. -/
theorem Filled.read {arg8 : Memref sig .tc .vmem S144x1x128 .f32} {G : ℕ → Vec F S1x1x128 .f32} {f : BufTy.Contents (Elt F) arg8.view.ty}
    (hf : Filled arg8 G 144 f) {inb : ∀ a, (![0, 0, 0] : Fin 3 → ℕ) a + S144x1x128.size a ≤ S144x1x128.size a} :
    arg8.view.readAt (Elt F) (Rect.unit (s := S144x1x128) ![0, 0, 0] S144x1x128.size inb).toLoadRect f = fun y => G (y 0).val (ix3 0 0 (y 2)) := by
  funext y
  have h1 : (y 1).val < 1 := (y 1).isLt
  have hy : (Rect.unit (s := S144x1x128) ![0, 0, 0] S144x1x128.size inb).emb y = ix3 (y 0) 0 (y 2) := by
    funext x
    match x with
    | ⟨0, _⟩ => exact Fin.ext (by show 0 + 1 * (y 0).val = (y 0).val; omega)
    | ⟨1, _⟩ => exact Fin.ext (by show 0 + 1 * (y 1).val = 0; omega)
    | ⟨2, _⟩ => exact Fin.ext (by show 0 + 1 * (y 2).val = (y 2).val; omega)
  exact (congrArg (arg8.view.read (Elt F) f) hy).trans (hf (y 0) (y 2) (y 0).isLt)

/-- A load of a whole rank-2 array reads the array. -/
theorem read_whole5 {inb : ∀ a, (![0, 0] : Fin 2 → ℕ) a + S128x2560.size a ≤ S128x2560.size a} :
    arg5.view.readAt (Elt F) (Rect.unit (s := S128x2560) ![0, 0] S128x2560.size inb).toLoadRect X5 = arg5.view.read (Elt F) X5 := by
  funext y
  have hy : (Rect.unit (s := S128x2560) ![0, 0] S128x2560.size inb).emb y = y := by
    funext x
    match x with
    | ⟨0, _⟩ => exact Fin.ext (by show 0 + 1 * (y 0).val = (y 0).val; omega)
    | ⟨1, _⟩ => exact Fin.ext (by show 0 + 1 * (y 1).val = (y 1).val; omega)
  exact congrArg (arg5.view.read (Elt F) X5) hy

/-- What the loop holds after `n` trips: the inputs and the table as they were, the gather buffer at anything, the first
    `n` rows of the output block stored. -/
def Inv2 (n : ℕ) : sProp 𝕄 :=
  iprop((arg1.view.loc (c : Thread nD τ) ↦[arg1.view.set]{fullShare} X1)
    ∗ (arg7.view.loc (c : Thread nD τ) ↦[arg7.view.set]{fullShare} X7)
    ∗ (∃ f, arg8.view.loc (c : Thread nD τ) ↦[arg8.view.set]{fullShare} f)
    ∗ (arg2.view.loc (c : Thread nD τ) ↦[arg2.view.set]{fullShare} X2)
    ∗ (arg5.view.loc (c : Thread nD τ) ↦[arg5.view.set]{fullShare} X5)
    ∗ (∃ f, (arg6.view.loc (c : Thread nD τ) ↦[arg6.view.set]{fullShare} f) ∗ ⌜Rows arg6 (docOut arg1 X1 arg2 X2 arg5 X5 arg7 X7) n f⌝))

end

set_option maxRecDepth 65536 in
set_option maxHeartbeats 4000000 in
/-- One trip: it stores its document's row. -/
theorem trip_run (i : grid0.Coords) (arg1 : Memref sig .tc .smem S1x8x135 .i32) (harg1 : arg1.IsWhole) (arg2 : Memref sig .tc .smem S1x1x8 .i32) (harg2 : arg2.IsWhole)
    (arg3 : Memref sig .tc .vmem S32768x96 .fp8e4m3) (harg3 : arg3.IsWhole) (arg4 : Memref sig .tc .vmem S32768x1 .f32) (harg4 : arg4.IsWhole)
    (arg5 : Memref sig .tc .vmem S128x2560 .bf16) (harg5 : arg5.IsWhole) (arg6 : Memref sig .tc .vmem S1x8x2560 .f32) (harg6 : arg6.IsWhole)
    (arg7 : Memref sig .tc .vmem S32776x1x128 .f32) (harg7 : arg7.IsWhole) (arg8 : Memref sig .tc .vmem S144x1x128 .f32) (harg8 : arg8.IsWhole)
    (X1 : BufTy.Contents (Elt F) arg1.view.ty) (X2 : BufTy.Contents (Elt F) arg2.view.ty) (X5 : BufTy.Contents (Elt F) arg5.view.ty)
    (X7 : BufTy.Contents (Elt F) arg7.view.ty)
    (hin : ∀ (d : Fin 8) (j : ℕ), j < 144 → (pick (lenAt (F := F) arg2 X2 d) (word (F := F) arg1 X1 d j) j).toNat ≤ 32775)
    (k : Fin k0_t2_loop.trips) (acc : Unit) :
    Inv2 c arg1 X1 arg2 X2 arg5 X5 arg6 arg7 X7 arg8 k.val
      ⊢ wp frame (wpE (defs₀ (F := F)) 𝒱 (c : Thread nD τ) bd) E (k0_t2_body i arg1 harg1 arg2 harg2 arg3 harg3 arg4 harg4 arg5 harg5 arg6 harg6 arg7 harg7 arg8 harg8 k acc)
          (fun _ => Inv2 c arg1 X1 arg2 X2 arg5 X5 arg6 arg7 X7 arg8 (k.val + 1)) := by
  unfold k0_t2_body
  have hstart : Inv2 c arg1 X1 arg2 X2 arg5 X5 arg6 arg7 X7 arg8 k.val
      ⊢ St c arg1 X1 arg7 X7 arg8 (iprop((arg2.view.loc (c : Thread nD τ) ↦[arg2.view.set]{fullShare} X2)
        ∗ ((arg5.view.loc (c : Thread nD τ) ↦[arg5.view.set]{fullShare} X5)
        ∗ (∃ f, (arg6.view.loc (c : Thread nD τ) ↦[arg6.view.set]{fullShare} f) ∗ ⌜Rows arg6 (docOut arg1 X1 arg2 X2 arg5 X5 arg7 X7) k.val f⌝))))
        (docIx k) (lenAt (F := F) arg2 X2 (docIx k)) 0 := by
    unfold Inv2 St
    iintro ⟨H1, H7, ⟨%f8, H8⟩, HR⟩
    isplitl [H1]; · iexact H1
    isplitl [H7]; · iexact H7
    isplitl [H8]
    · iexists f8; isplitl [H8]; · iexact H8
      ipureintro; exact fun j l hj => absurd hj (Nat.not_lt_zero _)
    iexact HR
  refine hstart.trans (step_part (F := F) 𝒱 c bd E ?_)
  refine slots_run 𝒱 c bd E i arg1 harg1 arg2 harg2 arg3 harg3 arg4 harg4 arg5 harg5 arg6 harg6 arg7 harg7 arg8 harg8 k (hin (docIx k)) fun a b => ?_
  refine step_word (F := F) 𝒱 c bd E rfl ?_
  refine step_check (F := F) 𝒱 c bd E (hin (docIx k)) (fun h => h) (by decide) fun _ => ?_
  refine step_row (F := F) 𝒱 c bd E rfl ?_
  refine step_dead (F := F) 𝒱 c bd E fun _ => ?_
  refine step_store (F := F) 𝒱 c bd E rfl (pay_eq (F := F) _) ?_
  unfold St
  iintro ⟨H1, H7, ⟨%f, H8, %hf⟩, H2, H5, %f6, H6, %h6⟩
  rw [lift_bind]
  iapply (wp_load 𝒱 (c : Thread nD τ) bd E (m := arg8) (S := arg8.view.set) (f := f) (View.setOn_subset_set _ _)) $$ H8
  iintro H8
  rw [Filled.read hf, lift_bind]
  iapply (wp_load 𝒱 (c : Thread nD τ) bd E (m := arg5) (S := arg5.view.set) (f := X5) (View.setOn_subset_set _ _)) $$ H5
  iintro H5
  rw [read_whole5, lift_bind]
  iapply (wp_load 𝒱 (c : Thread nD τ) bd E (m := arg6) (S := arg6.view.set) (f := f6) (View.setOn_subset_set _ _)) $$ H6
  iintro H6
  rw [lift_bind]
  iapply (wp_store 𝒱 (c : Thread nD τ) bd E (m := arg6) (r := Rect.unit (s := S1x8x2560) (k0_off293 k) S1x1x2560.size (k0_off293_inb k)) (Mk := Finset.univ) (S := arg6.view.set) (f := f6)
    (by rw [View.setOn_univ]; exact View.set_slice_subset _ _)) $$ H6
  iintro H6
  iapply (step_ret (F := F) 𝒱 c bd E (H := Inv2 c arg1 X1 arg2 X2 arg5 X5 arg6 arg7 X7 arg8 (k.val + 1)) .rfl)
  unfold Inv2
  isplitl [H1]; · iexact H1
  isplitl [H7]; · iexact H7
  isplitl [H8]; · iexists f; iexact H8
  isplitl [H2]; · iexact H2
  isplitl [H5]; · iexact H5
  iexists _; isplitl [H6]; · iexact H6
  ipureintro
  exact h6.store (e := docIx k) (docIx_val k) rfl rfl

set_option maxRecDepth 65536 in
set_option maxHeartbeats 1000000 in
/-- The loop: it stores the eight rows, and what follows may use them. -/
theorem loop2_run (i : grid0.Coords) (arg1 : Memref sig .tc .smem S1x8x135 .i32) (harg1 : arg1.IsWhole) (arg2 : Memref sig .tc .smem S1x1x8 .i32) (harg2 : arg2.IsWhole)
    (arg3 : Memref sig .tc .vmem S32768x96 .fp8e4m3) (harg3 : arg3.IsWhole) (arg4 : Memref sig .tc .vmem S32768x1 .f32) (harg4 : arg4.IsWhole)
    (arg5 : Memref sig .tc .vmem S128x2560 .bf16) (harg5 : arg5.IsWhole) (arg6 : Memref sig .tc .vmem S1x8x2560 .f32) (harg6 : arg6.IsWhole)
    (arg7 : Memref sig .tc .vmem S32776x1x128 .f32) (harg7 : arg7.IsWhole) (arg8 : Memref sig .tc .vmem S144x1x128 .f32) (harg8 : arg8.IsWhole)
    (X1 : BufTy.Contents (Elt F) arg1.view.ty) (X2 : BufTy.Contents (Elt F) arg2.view.ty) (X5 : BufTy.Contents (Elt F) arg5.view.ty)
    (X7 : BufTy.Contents (Elt F) arg7.view.ty)
    (hin : ∀ (d : Fin 8) (j : ℕ), j < 144 → (pick (lenAt (F := F) arg2 X2 d) (word (F := F) arg1 X1 d j) j).toNat ≤ 32775)
    (Q : PUnit → sProp 𝕄) :
    iprop(Inv2 c arg1 X1 arg2 X2 arg5 X5 arg6 arg7 X7 arg8 0 ∗ (Inv2 c arg1 X1 arg2 X2 arg5 X5 arg6 arg7 X7 arg8 8 -∗ Q ⟨⟩))
      ⊢ wp frame (wpE (defs₀ (F := F)) 𝒱 (c : Thread nD τ) bd) E
          (do Scf.Loop.for k0_t2_loop k0_t2_ok ⟨⟩ (k0_t2_body i arg1 harg1 arg2 harg2 arg3 harg3 arg4 harg4 arg5 harg5 arg6 harg6 arg7 harg7 arg8 harg8); pure ⟨⟩) Q := by
  have hb := Scf.wp_for_bind (Fr := frame) (wpE (defs₀ (F := F)) 𝒱 (c : Thread nD τ) bd) E k0_t2_loop.lb k0_t2_loop.ub k0_t2_loop.st k0_t2_ok ()
    (k0_t2_body (F := F) i arg1 harg1 arg2 harg2 arg3 harg3 arg4 harg4 arg5 harg5 arg6 harg6 arg7 harg7 arg8 harg8)
    (fun n _ => Inv2 c arg1 X1 arg2 X2 arg5 X5 arg6 arg7 X7 arg8 n)
    (fun k acc => trip_run 𝒱 c bd E i arg1 harg1 arg2 harg2 arg3 harg3 arg4 harg4 arg5 harg5 arg6 harg6 arg7 harg7 arg8 harg8 X1 X2 X5 X7 hin k acc)
    (kk := fun _ => pure PUnit.unit) (Q := Q)
  iintro ⟨HI, Hk⟩
  iapply hb $$ HI
  iintro %acc HI
  iapply (le_wp_ret _ _ _ PUnit.unit Q)
  iapply Hk
  have e8 : Scf.trips k0_t2_loop.lb k0_t2_loop.ub k0_t2_loop.st = 8 := t2_trips
  rw [e8]
  iexact HI

end Cert.KernelIdeal.Hand

end
-- ==== Proof.Table.lean ====
/- The kernel's first loop, run at the first grid point only: it decodes the code table, 256 rows per trip, into scratch,
   and a row of zeros is stored after them. -/
module

public import proofs.«01_k».proof.Proof.Trip

@[expose] public section

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix3 eq_ix3 ix2 eq_ix2)
open Cert.KernelIdeal.Gen

/-- The decoding loop makes 128 trips. -/
theorem t1_trips : k0_t1_loop.trips = 128 := by decide

/-- Trip `k` works on the rows from `256 k` on. -/
theorem off_val (k : Fin k0_t1_loop.trips) : (Scalar.indexCast (Scalar.muli (Scf.iv 0#32 1#32 k) 256#32) : Index).toNat = 256 * k.val := by
  have h : ∀ k : Fin 128, (Scalar.indexCast (Scalar.muli (Scf.iv 0#32 1#32 k) 256#32) : Index).toNat = 256 * k.val := by decide
  exact h ⟨k.val, t1_trips ▸ k.isLt⟩

theorem off1_eq (k : Fin k0_t1_loop.trips) : k0_off1 k = ![256 * k.val, 0] :=
  (show k0_off1 k = ![(Scalar.indexCast (Scalar.muli (Scf.iv 0#32 1#32 k) 256#32) : Index).toNat, 0] from rfl).trans (by rw [off_val])
theorem off2_eq (k : Fin k0_t1_loop.trips) : k0_off2 k = ![256 * k.val, 0] :=
  (show k0_off2 k = ![(Scalar.indexCast (Scalar.muli (Scf.iv 0#32 1#32 k) 256#32) : Index).toNat, 0] from rfl).trans (by rw [off_val])
theorem off3_eq (k : Fin k0_t1_loop.trips) : k0_off3 k = ![256 * k.val, 0, 0] :=
  (show k0_off3 k = ![(Scalar.indexCast (Scalar.muli (Scf.iv 0#32 1#32 k) 256#32) : Index).toNat, 0, 0] from rfl).trans (by rw [off_val])

variable {F : FTy → Type} [FloatOps F]

local notation "𝕄" => MT nD τ sig Unit (Elt F) ℕ (UR sig nD τ) ℕ

variable (𝒱 : Variants) (c : Dev nD) (bd : Option 𝒱.V) (E : Set ℕ)

/-- The 256 rows of codes from row `256 k` on. -/
def codeBlk (C : Vec F S32768x96 .fp8e4m3) (k : ℕ) : Vec F S256x96 .fp8e4m3 :=
  fun y => C (ix2 ⟨min (256 * k + (y 0).val) 32767, by omega⟩ (y 1))

/-- The scales of those rows. -/
def scaleBlk (Sc : Vec F S32768x1 .f32) (k : ℕ) : Vec F S256x1 .f32 :=
  fun y => Sc (ix2 ⟨min (256 * k + (y 0).val) 32767, by omega⟩ 0)

/-- Entry `(r, l)` of the decoded table: decoded codes for the first 32768 rows, then zeros. -/
def tabAt (C : Vec F S32768x96 .fp8e4m3) (Sc : Vec F S32768x1 .f32) (r : ℕ) (l : Fin 128) : Elt F .f32 :=
  if r < 32768 then k0_pay1 (codeBlk C (r / 256)) (scaleBlk Sc (r / 256)) (ix3 ⟨r % 256, Nat.mod_lt _ (by decide)⟩ 0 l)
  else k0_pay2 (F := F) (ix3 0 0 l)

/-- The first `n` rows of the scratch table are decoded. -/
def TabTo (arg7 : Memref sig .tc .vmem S32776x1x128 .f32) (C : Vec F S32768x96 .fp8e4m3) (Sc : Vec F S32768x1 .f32) (n : ℕ)
    (f : BufTy.Contents (Elt F) arg7.view.ty) : Prop :=
  ∀ (r : Fin 32776) (l : Fin 128), r.val < n → arg7.view.read (Elt F) f (ix3 r 0 l) = tabAt C Sc r.val l

/-- Storing `m` rows from row `n` on adds them and keeps the rows before. -/
theorem TabTo.store {arg7 : Memref sig .tc .vmem S32776x1x128 .f32} {C : Vec F S32768x96 .fp8e4m3} {Sc : Vec F S32768x1 .f32} {n m : ℕ}
    {f : BufTy.Contents (Elt F) arg7.view.ty} (hf : TabTo arg7 C Sc n f) {off : Fin 3 → ℕ} (hoff : off = ![n, 0, 0])
    {inb : ∀ a, off a + (⟨3, ![m, 1, 128]⟩ : Shape).size a ≤ S32776x1x128.size a} {w : (⟨3, ![m, 1, 128]⟩ : Shape).Idx → Elt F .f32}
    (hw : ∀ (r : Fin m) (l : Fin 128), w (ix3 r 0 l) = tabAt C Sc (n + r.val) l) :
    TabTo arg7 C Sc (n + m) ((arg7.access (Rect.unit (s := S32776x1x128) off (⟨3, ![m, 1, 128]⟩ : Shape).size inb)).write (Elt F) f w Finset.univ) := by
  subst hoff
  intro r l hr
  by_cases hrn : r.val < n
  · have hmem : (ix3 r 0 l : S32776x1x128.Idx) ∉ Finset.univ.map (Rect.unit (s := S32776x1x128) ![n, 0, 0] (⟨3, ![m, 1, 128]⟩ : Shape).size inb).emb := by
      intro hmem
      obtain ⟨x, -, hx⟩ := Finset.mem_map.mp hmem
      have h0 : ((Rect.unit (s := S32776x1x128) ![n, 0, 0] (⟨3, ![m, 1, 128]⟩ : Shape).size inb).emb x 0).val = r.val := congrArg (fun z => (z 0).val) hx
      have h1 : n + 1 * (x 0).val = r.val := h0
      omega
    have hr' := View.read_slice_write_of_not_mem (v := arg7.view) (Val := Elt F) (Rect.unit (s := S32776x1x128) ![n, 0, 0] (⟨3, ![m, 1, 128]⟩ : Shape).size inb) f w
      Finset.univ hmem
    exact hr'.trans (hf r l hrn)
  · have hi : (Rect.unit (s := S32776x1x128) ![n, 0, 0] (⟨3, ![m, 1, 128]⟩ : Shape).size inb).emb (ix3 ⟨r.val - n, by omega⟩ 0 l) = ix3 r 0 l := by
      funext x
      match x with
      | ⟨0, _⟩ => exact Fin.ext (by show n + 1 * (r.val - n) = r.val; omega)
      | ⟨1, _⟩ => exact Fin.ext (by show 0 + 1 * 0 = 0; omega)
      | ⟨2, _⟩ => exact Fin.ext (by show 0 + 1 * l.val = l.val; omega)
    have hr' := View.read_slice_write_emb (v := arg7.view) (Val := Elt F) (Rect.unit (s := S32776x1x128) ![n, 0, 0] (⟨3, ![m, 1, 128]⟩ : Shape).size inb) f w
      (M := Finset.univ) (x := ix3 ⟨r.val - n, by omega⟩ 0 l) (Finset.mem_univ _)
    rw [hi] at hr'
    refine hr'.trans ((hw ⟨r.val - n, by omega⟩ l).trans ?_)
    show tabAt C Sc (n + (r.val - n)) l = tabAt C Sc r.val l
    rw [show n + (r.val - n) = r.val by omega]

/-- A block of rows of a rank-2 array, read at its offsets. -/
theorem read_blk3 {arg3 : Memref sig .tc .vmem S32768x96 .fp8e4m3} (X3 : BufTy.Contents (Elt F) arg3.view.ty) {k : ℕ} (hk : k < 128)
    {off : Fin 2 → ℕ} {inb : ∀ a, off a + S256x96.size a ≤ S32768x96.size a} (hoff : off = ![256 * k, 0]) :
    arg3.view.readAt (Elt F) (Rect.unit (s := S32768x96) off S256x96.size inb).toLoadRect X3 = codeBlk (arg3.view.read (Elt F) X3) k := by
  subst hoff
  funext y
  have h0 : (y 0).val < 256 := (y 0).isLt
  have hy : (Rect.unit (s := S32768x96) ![256 * k, 0] S256x96.size inb).emb y = ix2 ⟨min (256 * k + (y 0).val) 32767, by omega⟩ (y 1) := by
    funext x
    match x with
    | ⟨0, _⟩ => exact Fin.ext (by show 256 * k + 1 * (y 0).val = min (256 * k + (y 0).val) 32767; omega)
    | ⟨1, _⟩ => exact Fin.ext (by show 0 + 1 * (y 1).val = (y 1).val; omega)
  exact congrArg (arg3.view.read (Elt F) X3) hy

/-- The same of the scales. -/
theorem read_blk4 {arg4 : Memref sig .tc .vmem S32768x1 .f32} (X4 : BufTy.Contents (Elt F) arg4.view.ty) {k : ℕ} (hk : k < 128)
    {off : Fin 2 → ℕ} {inb : ∀ a, off a + S256x1.size a ≤ S32768x1.size a} (hoff : off = ![256 * k, 0]) :
    arg4.view.readAt (Elt F) (Rect.unit (s := S32768x1) off S256x1.size inb).toLoadRect X4 = scaleBlk (arg4.view.read (Elt F) X4) k := by
  subst hoff
  funext y
  have h0 : (y 0).val < 256 := (y 0).isLt
  have h1 : (y 1).val < 1 := (y 1).isLt
  have hy : (Rect.unit (s := S32768x1) ![256 * k, 0] S256x1.size inb).emb y = ix2 ⟨min (256 * k + (y 0).val) 32767, by omega⟩ 0 := by
    funext x
    match x with
    | ⟨0, _⟩ => exact Fin.ext (by show 256 * k + 1 * (y 0).val = min (256 * k + (y 0).val) 32767; omega)
    | ⟨1, _⟩ => exact Fin.ext (by show 0 + 1 * (y 1).val = 0; omega)
  exact congrArg (arg4.view.read (Elt F) X4) hy

/-- What the decoding loop holds after `n` trips: the codes and scales as they were, the first `256 n` rows decoded. -/
def Inv1 (arg3 : Memref sig .tc .vmem S32768x96 .fp8e4m3) (X3 : BufTy.Contents (Elt F) arg3.view.ty)
    (arg4 : Memref sig .tc .vmem S32768x1 .f32) (X4 : BufTy.Contents (Elt F) arg4.view.ty)
    (arg7 : Memref sig .tc .vmem S32776x1x128 .f32) (n : ℕ) : sProp 𝕄 :=
  iprop((arg3.view.loc (c : Thread nD τ) ↦[arg3.view.set]{fullShare} X3)
    ∗ (arg4.view.loc (c : Thread nD τ) ↦[arg4.view.set]{fullShare} X4)
    ∗ (∃ f, (arg7.view.loc (c : Thread nD τ) ↦[arg7.view.set]{fullShare} f)
        ∗ ⌜TabTo arg7 (arg3.view.read (Elt F) X3) (arg4.view.read (Elt F) X4) n f⌝))

set_option maxRecDepth 65536 in
set_option maxHeartbeats 4000000 in
/-- One trip: it decodes 256 more rows. -/
theorem decode_run (i : grid0.Coords) (arg1 : Memref sig .tc .smem S1x8x135 .i32) (harg1 : arg1.IsWhole) (arg2 : Memref sig .tc .smem S1x1x8 .i32) (harg2 : arg2.IsWhole)
    (arg3 : Memref sig .tc .vmem S32768x96 .fp8e4m3) (harg3 : arg3.IsWhole) (arg4 : Memref sig .tc .vmem S32768x1 .f32) (harg4 : arg4.IsWhole)
    (arg5 : Memref sig .tc .vmem S128x2560 .bf16) (harg5 : arg5.IsWhole) (arg6 : Memref sig .tc .vmem S1x8x2560 .f32) (harg6 : arg6.IsWhole)
    (arg7 : Memref sig .tc .vmem S32776x1x128 .f32) (harg7 : arg7.IsWhole) (arg8 : Memref sig .tc .vmem S144x1x128 .f32) (harg8 : arg8.IsWhole)
    (h1 : k0_cond1 i = 1#1)
    (X3 : BufTy.Contents (Elt F) arg3.view.ty) (X4 : BufTy.Contents (Elt F) arg4.view.ty) (k : Fin k0_t1_loop.trips) (acc : Unit) :
    Inv1 c arg3 X3 arg4 X4 arg7 (256 * k.val)
      ⊢ wp frame (wpE (defs₀ (F := F)) 𝒱 (c : Thread nD τ) bd) E (k0_t1_body i arg1 harg1 arg2 harg2 arg3 harg3 arg4 harg4 arg5 harg5 arg6 harg6 arg7 harg7 arg8 harg8 h1 k acc)
          (fun _ => Inv1 c arg3 X3 arg4 X4 arg7 (256 * (k.val + 1))) := by
  have hk : k.val < 128 := t1_trips ▸ k.isLt
  unfold k0_t1_body Inv1
  iintro ⟨H3, H4, %f, H7, %hf⟩
  rw [lift_bind]
  iapply (wp_load 𝒱 (c : Thread nD τ) bd E (m := arg3) (S := arg3.view.set) (f := X3) (View.setOn_subset_set _ _)) $$ H3
  iintro H3
  rw [read_blk3 X3 hk (off1_eq k), lift_bind]
  iapply (wp_load 𝒱 (c : Thread nD τ) bd E (m := arg4) (S := arg4.view.set) (f := X4) (View.setOn_subset_set _ _)) $$ H4
  iintro H4
  rw [read_blk4 X4 hk (off2_eq k), lift_bind]
  iapply (wp_load 𝒱 (c : Thread nD τ) bd E (m := arg7) (S := arg7.view.set) (f := f) (View.setOn_subset_set _ _)) $$ H7
  iintro H7
  rw [lift_bind]
  iapply (wp_store 𝒱 (c : Thread nD τ) bd E (m := arg7) (r := Rect.unit (s := S32776x1x128) (k0_off3 k) S256x1x128.size (k0_off3_inb i k h1)) (Mk := Finset.univ) (S := arg7.view.set) (f := f)
    (by rw [View.setOn_univ]; exact View.set_slice_subset _ _)) $$ H7
  iintro H7
  iapply (step_ret (F := F) 𝒱 c bd E (H := Inv1 c arg3 X3 arg4 X4 arg7 (256 * (k.val + 1))) .rfl)
  unfold Inv1
  isplitl [H3]; · iexact H3
  isplitl [H4]; · iexact H4
  iexists _; isplitl [H7]; · iexact H7
  ipureintro
  refine hf.store (off3_eq k) fun r l => ?_
  have hr : r.val < 256 := r.isLt
  unfold tabAt
  rw [if_pos (by omega)]
  have e1 : (256 * k.val + r.val) / 256 = k.val := by omega
  have e2 : (⟨(256 * k.val + r.val) % 256, Nat.mod_lt _ (by decide)⟩ : Fin 256) = r := Fin.ext (by show (256 * k.val + r.val) % 256 = r.val; omega)
  rw [e1, e2]

set_option maxRecDepth 65536 in
set_option maxHeartbeats 4000000 in
/-- The whole branch: the loop, then the row of zeros; what follows may use the decoded table. -/
theorem branch_run (i : grid0.Coords) (arg1 : Memref sig .tc .smem S1x8x135 .i32) (harg1 : arg1.IsWhole) (arg2 : Memref sig .tc .smem S1x1x8 .i32) (harg2 : arg2.IsWhole)
    (arg3 : Memref sig .tc .vmem S32768x96 .fp8e4m3) (harg3 : arg3.IsWhole) (arg4 : Memref sig .tc .vmem S32768x1 .f32) (harg4 : arg4.IsWhole)
    (arg5 : Memref sig .tc .vmem S128x2560 .bf16) (harg5 : arg5.IsWhole) (arg6 : Memref sig .tc .vmem S1x8x2560 .f32) (harg6 : arg6.IsWhole)
    (arg7 : Memref sig .tc .vmem S32776x1x128 .f32) (harg7 : arg7.IsWhole) (arg8 : Memref sig .tc .vmem S144x1x128 .f32) (harg8 : arg8.IsWhole)
    (h1 : k0_cond1 i = 1#1)
    (X3 : BufTy.Contents (Elt F) arg3.view.ty) (X4 : BufTy.Contents (Elt F) arg4.view.ty) (p : Prog (TpuEff nD τ sig (Elt F) Λ₀ .tc) PUnit) (Q : PUnit → sProp 𝕄) :
    iprop(Inv1 c arg3 X3 arg4 X4 arg7 0 ∗ (Inv1 c arg3 X3 arg4 X4 arg7 32769 -∗ wp frame (wpE (defs₀ (F := F)) 𝒱 (c : Thread nD τ) bd) E p Q))
      ⊢ wp frame (wpE (defs₀ (F := F)) 𝒱 (c : Thread nD τ) bd) E
          (do
            Scf.Loop.for k0_t1_loop (k0_t1_ok i h1) ⟨⟩ (k0_t1_body i arg1 harg1 arg2 harg2 arg3 harg3 arg4 harg4 arg5 harg5 arg6 harg6 arg7 harg7 arg8 harg8 h1)
            let v6 : Vec F S1x1x128 .f32 ← Prog.lift (.load arg7 (Rect.unit (s := S32776x1x128) ![32768, 0, 0] S1x1x128.size inb_S32776x1x128_S1x1x128_32768_0_0).toLoadRect (View.loadsAt_vmem h_S1x1x128))
            Prog.lift (.store arg7 (Rect.unit (s := S32776x1x128) ![32768, 0, 0] S1x1x128.size inb_S32776x1x128_S1x1x128_32768_0_0) (k0_pay2 (F := F)) Finset.univ (View.stores_vmem_bits_univ h_S1x1x128 rfl) (.inl rfl))
            p) Q := by
  have hb := fun kk => Scf.wp_for_bind (Fr := frame) (wpE (defs₀ (F := F)) 𝒱 (c : Thread nD τ) bd) E k0_t1_loop.lb k0_t1_loop.ub k0_t1_loop.st (k0_t1_ok i h1) ()
    (k0_t1_body (F := F) i arg1 harg1 arg2 harg2 arg3 harg3 arg4 harg4 arg5 harg5 arg6 harg6 arg7 harg7 arg8 harg8 h1)
    (fun n _ => Inv1 c arg3 X3 arg4 X4 arg7 (256 * n))
    (fun k acc => decode_run 𝒱 c bd E i arg1 harg1 arg2 harg2 arg3 harg3 arg4 harg4 arg5 harg5 arg6 harg6 arg7 harg7 arg8 harg8 h1 X3 X4 k acc)
    (kk := kk) (Q := Q)
  iintro ⟨HI, Hk⟩
  iapply (hb _) $$ HI
  iintro %acc HI
  have e8 : Scf.trips k0_t1_loop.lb k0_t1_loop.ub k0_t1_loop.st = 128 := t1_trips
  rw [e8]
  unfold Inv1
  icases HI with ⟨H3, H4, %f, H7, %hf⟩
  rw [lift_bind]
  iapply (wp_load 𝒱 (c : Thread nD τ) bd E (m := arg7) (S := arg7.view.set) (f := f) (View.setOn_subset_set _ _)) $$ H7
  iintro H7
  rw [lift_bind]
  iapply (wp_store 𝒱 (c : Thread nD τ) bd E (m := arg7) (r := Rect.unit (s := S32776x1x128) ![32768, 0, 0] S1x1x128.size inb_S32776x1x128_S1x1x128_32768_0_0) (Mk := Finset.univ) (S := arg7.view.set) (f := f)
    (by rw [View.setOn_univ]; exact View.set_slice_subset _ _)) $$ H7
  iintro H7
  iapply Hk
  isplitl [H3]; · iexact H3
  isplitl [H4]; · iexact H4
  iexists _; isplitl [H7]; · iexact H7
  ipureintro
  refine TabTo.store (n := 32768) (m := 1) hf rfl fun r l => ?_
  have hr : r.val < 1 := r.isLt
  unfold tabAt
  rw [if_neg (by omega)]
  have e2 : r = 0 := Fin.ext (by show r.val = 0; omega)
  rw [e2]

end Cert.KernelIdeal.Hand

end
-- ==== Proof.Body.lean ====
/- What one run of the kernel's body leaves: the output block as a function of the five input blocks. At the first grid
   point the body decodes the table first; later points find it in scratch. -/
module

public import proofs.«01_k».proof.Proof.Table
public import proofs.«01_k».proof.Proof.Gen.KernelIdeal.Frame

@[expose] public section

noncomputable section

namespace Cert.KernelIdeal.Hand

open Idealize.ShloMosaic Idealize.ShloMosaic.TcCoe Idealize.ShloMosaic.Tactic Idealize.ShloMosaic.Pipeline
open Idealize.SL Idealize.SL.RA Idealize.SL.BI
open scoped Idealize.SL.BI
open Idealize.SL.BI.BIBase Idealize.SL.BI.Laws Idealize.SL.ProofMode Idealize.SL.Sem
open Idealize.ShloMosaic.ValueIdx (ix3 eq_ix3 ix2 eq_ix2)
open Cert.KernelIdeal.Gen

variable {F : FTy → Type} [FloatOps F]

local notation "𝕄" => MT nD τ sig Unit (Elt F) ℕ (UR sig nD τ) ℕ

/-- The table row that slot `j` of document `d` picks, from the id block and the length block. -/
def slotRow (x1 : Vec F S1x8x135 .i32) (x2 : Vec F S1x1x8 .i32) (d : Fin 8) (j : ℕ) : ℕ :=
  (pick (x2 (ix3 0 0 d)) (x1 (ix3 0 d ⟨min j 134, by omega⟩)) j).toNat

/-- The rows gathered for document `d`, from the input blocks. -/
def lhsAt (x1 : Vec F S1x8x135 .i32) (x2 : Vec F S1x1x8 .i32) (x3 : Vec F S32768x96 .fp8e4m3) (x4 : Vec F S32768x1 .f32) (d : Fin 8) :
    Vec F S144x1x128 .f32 :=
  fun z => tabAt x3 x4 (slotRow (F := F) x1 x2 d (z 0).val) (z 2)

/-- The output block, from the input blocks. -/
def blkOut (x1 : Vec F S1x8x135 .i32) (x2 : Vec F S1x1x8 .i32) (x3 : Vec F S32768x96 .fp8e4m3) (x4 : Vec F S32768x1 .f32)
    (x5 : Vec F S128x2560 .bf16) : Vec F S1x8x2560 .f32 :=
  fun y => k0_pay4 (lhsAt x1 x2 x3 x4 (y 1)) x5 (ix3 0 0 (y 2))

/-- Every slot of the block picks a row that the table has. -/
def InTable (x1 : Vec F S1x8x135 .i32) (x2 : Vec F S1x1x8 .i32) : Prop :=
  ∀ (d : Fin 8) (j : ℕ), j < 144 → slotRow (F := F) x1 x2 d j ≤ 32768

/-- With the table decoded, the gathered rows are the decoded ones. -/
theorem gath_eq {arg1 : Memref sig .tc .smem S1x8x135 .i32} {X1 : BufTy.Contents (Elt F) arg1.view.ty}
    {arg2 : Memref sig .tc .smem S1x1x8 .i32} {X2 : BufTy.Contents (Elt F) arg2.view.ty}
    {arg7 : Memref sig .tc .vmem S32776x1x128 .f32} {X7 : BufTy.Contents (Elt F) arg7.view.ty}
    {x3 : Vec F S32768x96 .fp8e4m3} {x4 : Vec F S32768x1 .f32}
    (hin : InTable (F := F) (arg1.view.read (Elt F) X1) (arg2.view.read (Elt F) X2)) (h7 : TabTo arg7 x3 x4 32769 X7) (d : Fin 8) :
    gath arg1 X1 arg2 X2 arg7 X7 d = lhsAt (F := F) (arg1.view.read (Elt F) X1) (arg2.view.read (Elt F) X2) x3 x4 d := by
  funext z
  have hz : (z 0).val < 144 := (z 0).isLt
  have hp := hin d (z 0).val hz
  have h := h7 ⟨min (slotRow (F := F) (arg1.view.read (Elt F) X1) (arg2.view.read (Elt F) X2) d (z 0).val) 32775, by omega⟩ (z 2)
    (by show min _ 32775 < 32769; omega)
  refine Eq.trans ?_ (h.trans ?_)
  · rfl
  · show tabAt x3 x4 (min _ 32775) (z 2) = tabAt x3 x4 _ (z 2)
    rw [Nat.min_eq_left (by omega)]

set_option maxRecDepth 65536 in
set_option maxHeartbeats 4000000 in
/-- The body: from the input blocks and a table decoded already (or about to be, at the first point) it leaves the
    output block at `blkOut` and the table decoded. -/
theorem sound_kernel (c : Dev nD) (E : Set ℕ) (i : grid0.Coords) (arg1 : Memref sig .tc .smem S1x8x135 .i32) (harg1 : arg1.IsWhole) (arg2 : Memref sig .tc .smem S1x1x8 .i32) (harg2 : arg2.IsWhole)
    (arg3 : Memref sig .tc .vmem S32768x96 .fp8e4m3) (harg3 : arg3.IsWhole) (arg4 : Memref sig .tc .vmem S32768x1 .f32) (harg4 : arg4.IsWhole)
    (arg5 : Memref sig .tc .vmem S128x2560 .bf16) (harg5 : arg5.IsWhole) (arg6 : Memref sig .tc .vmem S1x8x2560 .f32) (harg6 : arg6.IsWhole)
    (arg7 : Memref sig .tc .vmem S32776x1x128 .f32) (harg7 : arg7.IsWhole) (arg8 : Memref sig .tc .vmem S144x1x128 .f32) (harg8 : arg8.IsWhole)
    (x1 : Vec F S1x8x135 .i32) (x2 : Vec F S1x1x8 .i32) (x3 : Vec F S32768x96 .fp8e4m3) (x4 : Vec F S32768x1 .f32) (x5 : Vec F S128x2560 .bf16)
    (hin : InTable (F := F) x1 x2) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5 ∗ (∃ d, owns (c : Thread nD τ) arg6 fullShare d)
        ∗ (∃ f, (arg7.view.loc (c : Thread nD τ) ↦[arg7.view.set]{fullShare} f) ∗ ⌜k0_cond1 i ≠ 1#1 → TabTo arg7 x3 x4 32769 f⌝)
        ∗ (∃ f, arg8.view.loc (c : Thread nD τ) ↦[arg8.view.set]{fullShare} f)
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5
            ∗ owns (c : Thread nD τ) arg6 fullShare (blkOut x1 x2 x3 x4 x5)
            ∗ (∃ f, (arg7.view.loc (c : Thread nD τ) ↦[arg7.view.set]{fullShare} f) ∗ ⌜TabTo arg7 x3 x4 32769 f⌝)
            ∗ (∃ f, arg8.view.loc (c : Thread nD τ) ↦[arg8.view.set]{fullShare} f)) -∗ K ⟨⟩))
      ⊢ wp frame (wpE (defs₀ (F := F)) Variants.none (c : Thread nD τ) none) E (cc0_plaid i arg1 harg1 arg2 harg2 arg3 harg3 arg4 harg4 arg5 harg5 arg6 harg6 arg7 harg7 arg8 harg8) K := by
  simp only [cc0_plaid_eq_skeleton]; unfold cc0_plaid_skel
  unfold owns
  iintro ⟨⟨%f1, %h1, H1⟩, ⟨%f2, %h2, H2⟩, ⟨%f3, %h3, H3⟩, ⟨%f4, %h4, H4⟩, ⟨%f5, %h5, H5⟩, ⟨%d6, %f6, -, H6⟩, ⟨%f7, H7, %h7⟩, ⟨%f8, H8⟩, Hk⟩
  subst h1 h2 h3 h4 h5
  have htail : ∀ g7, TabTo arg7 (arg3.view.read (Elt F) f3) (arg4.view.read (Elt F) f4) 32769 g7 →
      iprop((arg1.view.loc (c : Thread nD τ) ↦[arg1.view.set]{fullShare} f1) ∗ (arg2.view.loc (c : Thread nD τ) ↦[arg2.view.set]{fullShare} f2)
        ∗ (arg3.view.loc (c : Thread nD τ) ↦[arg3.view.set]{fullShare} f3) ∗ (arg4.view.loc (c : Thread nD τ) ↦[arg4.view.set]{fullShare} f4)
        ∗ (arg5.view.loc (c : Thread nD τ) ↦[arg5.view.set]{fullShare} f5) ∗ (arg6.view.loc (c : Thread nD τ) ↦[arg6.view.set]{fullShare} f6)
        ∗ (arg7.view.loc (c : Thread nD τ) ↦[arg7.view.set]{fullShare} g7) ∗ (arg8.view.loc (c : Thread nD τ) ↦[arg8.view.set]{fullShare} f8)
        ∗ (iprop((∃ f, ⌜arg1.view.read (Elt F) f = arg1.view.read (Elt F) f1⌝ ∗ (arg1.view.loc (c : Thread nD τ) ↦[arg1.view.set]{fullShare} f))
            ∗ (∃ f, ⌜arg2.view.read (Elt F) f = arg2.view.read (Elt F) f2⌝ ∗ (arg2.view.loc (c : Thread nD τ) ↦[arg2.view.set]{fullShare} f))
            ∗ (∃ f, ⌜arg3.view.read (Elt F) f = arg3.view.read (Elt F) f3⌝ ∗ (arg3.view.loc (c : Thread nD τ) ↦[arg3.view.set]{fullShare} f))
            ∗ (∃ f, ⌜arg4.view.read (Elt F) f = arg4.view.read (Elt F) f4⌝ ∗ (arg4.view.loc (c : Thread nD τ) ↦[arg4.view.set]{fullShare} f))
            ∗ (∃ f, ⌜arg5.view.read (Elt F) f = arg5.view.read (Elt F) f5⌝ ∗ (arg5.view.loc (c : Thread nD τ) ↦[arg5.view.set]{fullShare} f))
            ∗ (∃ f, ⌜arg6.view.read (Elt F) f = blkOut (arg1.view.read (Elt F) f1) (arg2.view.read (Elt F) f2) (arg3.view.read (Elt F) f3) (arg4.view.read (Elt F) f4) (arg5.view.read (Elt F) f5)⌝
                ∗ (arg6.view.loc (c : Thread nD τ) ↦[arg6.view.set]{fullShare} f))
            ∗ (∃ f, (arg7.view.loc (c : Thread nD τ) ↦[arg7.view.set]{fullShare} f) ∗ ⌜TabTo arg7 (arg3.view.read (Elt F) f3) (arg4.view.read (Elt F) f4) 32769 f⌝)
            ∗ (∃ f, arg8.view.loc (c : Thread nD τ) ↦[arg8.view.set]{fullShare} f)) -∗ K ⟨⟩))
      ⊢ wp frame (wpE (defs₀ (F := F)) Variants.none (c : Thread nD τ) none) E
          (do Scf.Loop.for k0_t2_loop k0_t2_ok ⟨⟩ (k0_t2_body i arg1 harg1 arg2 harg2 arg3 harg3 arg4 harg4 arg5 harg5 arg6 harg6 arg7 harg7 arg8 harg8); pure ⟨⟩) K := by
    intro g7 hg7
    iintro ⟨H1, H2, H3, H4, H5, H6, H7, H8, Hk⟩
    iapply (loop2_run Variants.none c none E i arg1 harg1 arg2 harg2 arg3 harg3 arg4 harg4 arg5 harg5 arg6 harg6 arg7 harg7 arg8 harg8 f1 f2 f5 g7
      (fun d j hj => (hin d j hj).trans (by decide)) K)
    unfold Inv2
    isplitl [H1 H2 H5 H6 H7 H8]
    · isplitl [H1]; · iexact H1
      isplitl [H7]; · iexact H7
      isplitl [H8]; · iexists f8; iexact H8
      isplitl [H2]; · iexact H2
      isplitl [H5]; · iexact H5
      iexists f6; isplitl [H6]; · iexact H6
      ipureintro; exact fun d q hd => absurd hd (Nat.not_lt_zero _)
    iintro ⟨H1, H7, H8, H2, H5, %g6, H6, %hg6⟩
    iapply Hk
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists g6; isplitr
      · ipureintro
        funext y
        have hy : y = ix3 0 (y 1) (y 2) := by
          funext a
          have h0 : (y 0).val < 1 := (y 0).isLt
          match a with
          | ⟨0, _⟩ => exact Fin.ext (by show (y 0).val = 0; omega)
          | ⟨1, _⟩ => rfl
          | ⟨2, _⟩ => rfl
        refine (congrArg (arg6.view.read (Elt F) g6) hy).trans ((hg6 (y 1) (y 2) (y 1).isLt).trans ?_)
        exact congrArg (fun g => k0_pay4 g (arg5.view.read (Elt F) f5) (ix3 0 0 (y 2))) (gath_eq hin hg7 (y 1))
      iexact H6
    isplitl [H7]
    · iexists g7; isplitl [H7]; · iexact H7
      ipureintro; exact hg7
    iexact H8
  by_cases hc : k0_cond1 i = 1#1
  · rw [dif_pos hc]
    iapply (branch_run Variants.none c none E i arg1 harg1 arg2 harg2 arg3 harg3 arg4 harg4 arg5 harg5 arg6 harg6 arg7 harg7 arg8 harg8 hc f3 f4 _ K)
    isplitl [H3 H4 H7]
    · unfold Inv1
      isplitl [H3]; · iexact H3
      isplitl [H4]; · iexact H4
      iexists f7; isplitl [H7]; · iexact H7
      ipureintro; exact fun r l hr => absurd hr (Nat.not_lt_zero _)
    unfold Inv1
    iintro ⟨H3, H4, %g7, H7, %hg7⟩
    iapply (htail g7 hg7)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact Hk
  · rw [dif_neg hc]
    iapply (htail f7 (h7 hc))
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact Hk

end Cert.KernelIdeal.Hand

end
-- ==== Proof.Run.lean ====
/- The kernel's run: at every grid point the body leaves the output block at `blkOut` of the input blocks, so the run ends
   with the output array at those blocks, with the arguments unchanged and with every semaphore counter at zero. -/
module

public import proofs.«01_k».proof.Proof.Body
public import Idealize.ShloMosaic.Lib.Claim

@[expose] public section

noncomputable section

namespace Cert.KernelIdeal.Hand

open Idealize.ShloMosaic Idealize.ShloMosaic.TcCoe Idealize.ShloMosaic.Tactic Idealize.ShloMosaic.Pipeline
open Idealize.SL Idealize.SL.RA Idealize.SL.BI
open scoped Idealize.SL.BI
open Idealize.SL.BI.BIBase Idealize.SL.BI.Laws Idealize.SL.ProofMode Idealize.SL.Sem
open Idealize.ShloMosaic.ValueIdx (ix3 eq_ix3 ix2 eq_ix2)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first grid point. -/
def pt0 : Fin cfg0.N := ⟨0, by decide⟩

/-- The body decodes the table exactly at the first point. -/
theorem cond_iff (t : Fin cfg0.N) : k0_cond1 (grid0.coords t) = 1#1 ↔ t.val = 0 := by
  have ht : t.val < 125 := N_0 ▸ t.isLt
  have hc : ((grid0.coords t) 0).val = t.val := by
    rw [Grid.coords_val (G := grid0) t 0 (S := 1) (B := 125) (by decide) rfl]
    omega
  have h : ∀ n : Fin 125, (Scalar.cmpi .ne (Scalar.extui (Scalar.cmpi .eq (BitVec.ofNat 32 n.val) 0#32) : BitVec 32) 0#32 : BitVec 1) = 1#1 ↔ n.val = 0 := by decide
  show (Scalar.cmpi .ne (Scalar.extui (Scalar.cmpi .eq (BitVec.ofNat 32 ((grid0.coords t) 0).val) 0#32) : BitVec 32) 0#32 : BitVec 1) = 1#1 ↔ t.val = 0
  rw [hc]
  exact h ⟨t.val, ht⟩

/-- The block of codes is the same at every point. -/
theorem iblk2_const (c : Dev nD) (t : Fin cfg0.N) : iblk m c 2 t = iblk m c 2 pt0 := rfl

/-- The block of scales is the same at every point. -/
theorem iblk3_const (c : Dev nD) (t : Fin cfg0.N) : iblk m c 3 t = iblk m c 3 pt0 := rfl

/-- What the core holds besides the windows before point `n`: the scratch table, decoded once a point has run; the gather
    buffer at anything; the generator register. -/
def Inv (c : Dev nD) (n : ℕ) : sProp 𝕄 :=
  iprop(((∃ f : Buf (Elt F) ((c : Thread nD τ).loc cc0_scratch0), (((c : Thread nD τ).loc cc0_scratch0) ↦{fullShare} f)
        ∗ ⌜n ≠ 0 → TabTo (Memref.whole cc0_scratch0) (iblk m c 2 pt0) (iblk m c 3 pt0) 32769 f⌝)
      ∗ (∃ f : Buf (Elt F) ((c : Thread nD τ).loc cc0_scratch1), ((c : Thread nD τ).loc cc0_scratch1) ↦{fullShare} f))
    ∗ ∃ r, prngReg c r)

/-- The pipeline's proof data: the arrays as the region finds them, every input block in place after the body, the output
    block at `blkOut` of the input blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => blkOut (iblk m c 0 t) (iblk m c 1 t) (iblk m c 2 t) (iblk m c 3 t) (iblk m c 4 t)
  Φ t := Inv m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t
    = blkOut (iblk m c 0 t) (iblk m c 1 t) (iblk m c 2 t) (iblk m c 3 t) (iblk m c 4 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- Every document's slots pick rows of the table, at every point. -/
def Picks : Prop := ∀ (c : Dev nD) (t : Fin cfg0.N), InTable (F := F) (iblk m c 0 t) (iblk m c 1 t)

set_option maxRecDepth 65536 in
set_option maxHeartbeats 4000000 in
/-- The body at any point. -/
theorem sound_body (hin : Picks m) (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl,
    show (dats m 0 c).Φ t.succ = Inv m c (t.val + 1) from rfl, show (dats m 0 c).Φ t.castSucc = Inv m c t.val from rfl,
    after0_0, after0_1, after0_2, after0_3, after0_4, after0_5]
  unfold Inv
  iintro ⟨⟨⟨⟨%f7, H7, %h7⟩, ⟨%f8, H8⟩⟩, Hr⟩, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ _ _ _ _ (iblk m c 0 t) (iblk m c 1 t) (iblk m c 2 t) (iblk m c 3 t) (iblk m c 4 t) (hin c t) _)
  isplitl [H0]; · iexact H0
  isplitl [H1]; · iexact H1
  isplitl [H2]; · iexact H2
  isplitl [H3]; · iexact H3
  isplitl [H4]; · iexact H4
  isplitl [H5]; · iexists _; iexact H5
  isplitl [H7]
  · iexists f7
    rw [show ((Memref.whole cc0_scratch0 : Memref sig .tc .vmem S32776x1x128 .f32).view.set) = Finset.univ from View.set_whole _]
    isplitl [H7]; · iexact H7
    ipureintro
    intro hc
    rw [iblk2_const, iblk3_const]
    exact h7 fun h => hc ((cond_iff t).mpr h)
  isplitl [H8]
  · iexists f8
    rw [show ((Memref.whole cc0_scratch1 : Memref sig .tc .vmem S144x1x128 .f32).view.set) = Finset.univ from View.set_whole _]
    iexact H8
  rw [show ((Memref.whole cc0_scratch0 : Memref sig .tc .vmem S32776x1x128 .f32).view.set) = Finset.univ from View.set_whole _,
    show ((Memref.whole cc0_scratch1 : Memref sig .tc .vmem S144x1x128 .f32).view.set) = Finset.univ from View.set_whole _]
  iintro ⟨H0, H1, H2, H3, H4, H5, ⟨%g7, H7, %hg7⟩, ⟨%g8, H8⟩⟩
  isplitl [H7 H8 Hr]
  · isplitl [H7 H8]
    · isplitl [H7]
      · iexists g7; isplitl [H7]; · iexact H7
        ipureintro
        intro _
        rw [iblk2_const, iblk3_const] at hg7
        exact hg7
      iexists g8; iexact H8
    iexact Hr
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (hin : Picks m) (c : Dev nD) : BodyObligation (dats (F := F) m 0 c) (defs₀ (F := F)) Variants.none () Set.univ := fun t => by
  rw [bigSep_W0, bigSep_W0, defs₀_row]
  exact triple_restated (sound_body m hin c t) rfl .rfl fun _ => .rfl

/-- At the start the scratch holds anything. -/
theorem inv_in (c : Dev nD) : Pipeline.ΦA spec0 c ⊢ (dats m 0 c).Φ 0 := by
  rw [show (dats m 0 c).Φ 0 = Inv m c 0 from rfl]
  unfold Pipeline.ΦA Inv
  rw [scopedRest0_eq]
  iintro ⟨⟨⟨%f, H7⟩, H8⟩, Hr⟩
  isplitr [Hr]
  · isplitl [H7]
    · iexists f; isplitl [H7]; · iexact H7
      ipureintro; exact fun h => absurd rfl h
    iexact H8
  iexact Hr

/-- At the end too. -/
theorem inv_out (c : Dev nD) : (dats m 0 c).Φ (Fin.last cfg0.N) ⊢ Pipeline.ΦA spec0 c := by
  rw [show (dats m 0 c).Φ (Fin.last cfg0.N) = Inv m c cfg0.N from rfl]
  unfold Pipeline.ΦA Inv
  rw [scopedRest0_eq]
  iintro ⟨⟨⟨%f, H7, -⟩, H8⟩, Hr⟩
  isplitr [Hr]
  · isplitl [H7]
    · iexists f; iexact H7
    iexact H8
  iexact Hr

-- the implicit arguments are found by unifying its conclusion with this one, which takes unfolding plain definitions in a
-- metavariable's type
set_option backward.isDefEq.respectTransparency.types false in
set_option maxHeartbeats 800000 in
/-- The run ends with the output array at the blocks the body leaves and every counter at zero. -/
theorem run_main_quiescent (hin : Picks m) : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m hin c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := inv_in m) (hout := inv_out m)

/-- The same without the counters. -/
theorem run_main (hin : Picks m) : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ hin)

/-- The frame: the arguments end unchanged and the counters at zero. -/
theorem frame (hin : Picks m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ hin)) ((θ_run defs _ _).mono (fun _ h => h.2) (run_main_quiescent m ρ hin))

end Cert.KernelIdeal.Hand

end
-- ==== Proof.Pre.lean ====
/- What the precondition says at an index: every token within a document's length names a centroid, and every scale is at
   least zero and below infinity. -/
module

public import proofs.«01_k».proof.Proof.Gen.Pre_well_formed
public import Idealize.ShloMosaic.Lib.ReduceAll
public import Idealize.ShloMosaic.Lib.Pointwise
public import Idealize.ShloMosaic.Lib.ValueIdx

@[expose] public section

namespace Cert.Pre

open Idealize.ShloMosaic hiding ix1 ix2
open Cert.Pre_well_formed Cert.Pre_well_formed.Gen
open Idealize.ShloMosaic.ValueIdx (ix2 ix1)

variable {F : FTy → Type} [FloatOps F]

variable (q : FVec F S40x64x96 .bf16) (codes : FVec F S32768x96 .fp8e4m3) (scale : FVec F S32768 .f32) (ids : IVec S1000x135 32)
  (lens : IVec S1000 32)

/-- The result has one index. -/
instance : Subsingleton S_.Idx := ⟨fun a b => funext fun i => i.elim0⟩

/-- A token within its document's length names a centroid. -/
theorem id_lt (h : Pre_well_formed.fn (F := F) q codes scale ids lens = fun _ => 1#1) (n : Fin 1000) (j : Fin 135)
    (hj : (BitVec.ofNat 32 j.val).slt (lens (ix1 n)) = true) : (ids (ix2 n j)).toNat < 32768 := by
  have e := congrFun h (fun i => i.elim0)
  dsimp only [fn, fn_part1] at e
  have e1 := (IntOp.andi_eq_one.mp e).1
  have e2 := Host.reduce_andi_all _ _ _ _ _ e1 (ix2 n j)
  pointwise at e2
  have hl : lens (Idealize.ShloMosaic.ix1 (ix2 n j 0)) = lens (ix1 n) :=
    congrArg lens (funext fun a => by fin_cases a; rfl)
  rw [hl] at e2
  have e3 : IntOp.ori (IntOp.andi (BitVec.ofBool ((0#32).sle (ids (ix2 n j)))) (BitVec.ofBool ((ids (ix2 n j)).slt 32768#32)))
      (~~~ (BitVec.ofBool ((BitVec.ofNat 32 j.val).slt (lens (ix1 n))))) = 1#1 := e2
  rw [hj] at e3
  have key : ∀ a b : Bool, IntOp.ori (IntOp.andi (BitVec.ofBool a) (BitVec.ofBool b)) (~~~ (BitVec.ofBool true)) = 1#1 →
      a = true ∧ b = true := by decide
  obtain ⟨hge, hlt⟩ := key _ _ e3
  simp only [BitVec.sle, BitVec.slt, decide_eq_true_eq, BitVec.toInt, BitVec.toNat_ofNat] at hge hlt
  omega

/-- A scale is at least zero and below infinity. -/
theorem scale_fin (h : Pre_well_formed.fn (F := F) q codes scale ids lens = fun _ => 1#1) (k : Fin 32768) :
    FloatOps.cmpf (φ := .f32) .oge (scale (ix1 k)) (FloatOps.ofBits .f32 0x00000000#32) = 1#1
      ∧ FloatOps.cmpf (φ := .f32) .olt (scale (ix1 k)) (FloatOps.ofBits .f32 0x7F800000#32) = 1#1 := by
  have e := congrFun h (fun i => i.elim0)
  dsimp only [fn, fn_part1] at e
  have e1 := (IntOp.andi_eq_one.mp e).2
  have e2 := Host.reduce_andi_all _ _ _ _ _ e1 (ix1 k)
  exact IntOp.andi_eq_one.mp e2

end Cert.Pre
-- ==== Proof.Picks.lean ====
/- The kernel's input blocks at an index, and that under the precondition every document's slots pick rows of the table. -/
module

public import proofs.«01_k».proof.Proof.Run
public import proofs.«01_k».proof.Proof.Pre
public import Idealize.ShloMosaic.Lib.Pipeline.ValueKit
public import Idealize.ShloMosaic.Lib.StableHlo.ReadAt

@[expose] public section

set_option maxRecDepth 16384

noncomputable section

namespace Cert.KernelIdeal.Hand

open Idealize.ShloMosaic hiding ix1 ix2 ix3
open Idealize.ShloMosaic.TcCoe Idealize.ShloMosaic.Tactic Idealize.ShloMosaic.Pipeline
open Idealize.ShloMosaic.ValueIdx (ix3 eq_ix3 ix2 eq_ix2 ix1)
open Cert.KernelIdeal.Gen

variable {F : FTy → Type} [FloatOps F]

variable (m : (ℓ : Loc nD τ sig) → Buf (Elt F) ℓ)

/-- The number of document `d` of block `t`. -/
def docNo (t : Fin cfg0.N) (d : Fin 8) : Fin 1000 := ⟨8 * t.val + d.val, by
  have h : t.val < 125 := N_0 ▸ (show t.val < grid0.N from t.isLt)
  have := d.isLt; omega⟩

/-- The number of block `t` in the reshaped arrays. -/
def blkNo (t : Fin cfg0.N) : Fin 125 := ⟨t.val, N_0 ▸ (show t.val < grid0.N from t.isLt)⟩

/-- The block indices of the windows, at every point. -/
theorem idx0_0 : ∀ t : Fin cfg0.N, ((cfg0.win 0).index t 0 = t.val ∧ (cfg0.win 0).index t 1 = 0 ∧ (cfg0.win 0).index t 2 = 0) := by
  decide +kernel
theorem idx0_1 : ∀ t : Fin cfg0.N, ((cfg0.win 1).index t 0 = t.val ∧ (cfg0.win 1).index t 1 = 0 ∧ (cfg0.win 1).index t 2 = 0) := by
  decide +kernel

/-- The ids' array, as the region finds it. -/
theorem V_ids (c : Dev nD) (y : S125x8x135.Idx) :
    V m c main_v3 y = shapeCast S125x8x135 (m ((c : Thread nD τ).loc main_arg3)) shapeCasts_S1000x135_S125x8x135 y := by
  unfold V V0
  simp only [hostOps0, hostOps0_1, hostOps0_2, List.flatten_cons, List.flatten_nil, List.append_nil, List.cons_append, List.nil_append]
  after_reads_simp
  rfl

/-- The lengths' array, as the region finds it. -/
theorem V_lens (c : Dev nD) (y : S125x1x8.Idx) :
    V m c main_v4 y = shapeCast S125x1x8 (m ((c : Thread nD τ).loc main_arg4)) shapeCasts_S1000_S125x1x8 y := by
  unfold V V0
  simp only [hostOps0, hostOps0_1, hostOps0_2, List.flatten_cons, List.flatten_nil, List.append_nil, List.cons_append, List.nil_append]
  after_reads_simp
  rfl

/-- The reshaped ids at document `d` of block `t`. -/
theorem cast_ids {α : Type} (x : S1000x135.Idx → α) (h : S1000x135.ShapeCasts S125x8x135) (t : Fin cfg0.N) (d : Fin 8) (j : Fin 135) :
    shapeCast S125x8x135 x h (ix3 (blkNo t) d j) = x (ix2 (docNo t d) j) := by
  refine shapeCast_apply x h _ _ ?_
  rw [Shape.rowMajor_val_three, Shape.rowMajor_val_two]
  show (8 * t.val + d.val) * 135 + j.val = (t.val * 8 + d.val) * 135 + j.val
  omega

/-- The reshaped lengths at document `d` of block `t`. -/
theorem cast_lens {α : Type} (x : S1000.Idx → α) (h : S1000.ShapeCasts S125x1x8) (t : Fin cfg0.N) (d : Fin 8) :
    shapeCast S125x1x8 x h (ix3 (blkNo t) 0 d) = x (ix1 (docNo t d)) := by
  refine shapeCast_apply x h _ _ ?_
  rw [Shape.rowMajor_val_three, Shape.rowMajor_val_one]
  show 8 * t.val + d.val = (t.val * 1 + 0) * 8 + d.val
  omega

/-- The id block at an index. -/
theorem iblk0_apply (c : Dev nD) (t : Fin cfg0.N) (d : Fin 8) (j : Fin 135) :
    iblk m c 0 t (ix3 0 d j) = m ((c : Thread nD τ).loc main_arg3) (ix2 (docNo t d) j) := by
  obtain ⟨e0, e1, e2⟩ := idx0_0 t
  have hx : ((cfg0.win 0).blk t).view.emb (ix3 0 d j) = ix3 (blkNo t) d j := by
    blk_ext [e0, e1, e2, blkNo]
  unfold iblk
  rw [View.read_apply, cast_eq, hx]
  exact (V_ids m c _).trans (cast_ids _ _ t d j)

/-- The length block at an index. -/
theorem iblk1_apply (c : Dev nD) (t : Fin cfg0.N) (d : Fin 8) :
    iblk m c 1 t (ix3 0 0 d) = m ((c : Thread nD τ).loc main_arg4) (ix1 (docNo t d)) := by
  obtain ⟨e0, e1, e2⟩ := idx0_1 t
  have hx : ((cfg0.win 1).blk t).view.emb (ix3 0 0 d) = ix3 (blkNo t) 0 d := by
    blk_ext [e0, e1, e2, blkNo]
  unfold iblk
  rw [View.read_apply, cast_eq, hx]
  exact (V_lens m c _).trans (cast_lens _ _ t d)

/-- If every token within its document's length names a row below 32768, every slot picks a row of the table: the token's
    row when the slot is within the length, the zero row otherwise. -/
theorem picks_of (h : ∀ (c : Dev nD) (n : Fin 1000) (j : Fin 135),
      (BitVec.ofNat 32 j.val).slt (m ((c : Thread nD τ).loc main_arg4) (ix1 n)) = true →
      (m ((c : Thread nD τ).loc main_arg3) (ix2 n j)).toNat < 32768) : Picks m := by
  intro c t d j hj
  have hm : min j 134 < 135 := by omega
  show (pick (iblk m c 1 t (ix3 0 0 d)) (iblk m c 0 t (ix3 0 d ⟨min j 134, hm⟩)) j).toNat ≤ 32768
  rw [iblk0_apply, iblk1_apply]
  generalize hl : m ((c : Thread nD τ).loc main_arg4) (ix1 (docNo t d)) = len
  have h' := h c (docNo t d) ⟨min j 134, hm⟩
  rw [hl] at h'
  generalize m ((c : Thread nD τ).loc main_arg3) (ix2 (docNo t d) ⟨min j 134, hm⟩) = w at *
  have hp : pick len w j = if (BitVec.ofNat 32 j).slt len = true then w else 32768#32 := by
    show Scalar.select (BitVec.ofBool ((BitVec.ofNat 32 j).slt len)) w 32768#32 = _
    cases (BitVec.ofNat 32 j).slt len <;> rfl
  rw [hp]
  split
  · rename_i hs
    refine (h' ?_).le
    simp only [BitVec.slt, decide_eq_true_eq, BitVec.toInt, BitVec.toNat_ofNat] at hs ⊢
    split at hs <;> split at hs <;> split <;> omega
  · decide

end Cert.KernelIdeal.Hand

end
-- ==== Proof.Exact.Slots.lean ====
/- One document of the kernel's second loop, step by step: 144 slots, each of which looks up one token id in scalar
   memory, picks a table row by it (or the zero row past the document's length) and copies the row into the gather
   buffer. Every slot takes the same five steps, so each step has one rule here, stated for any slot. -/
module

public import proofs.«01_k».proof.Proof.Gen.Kernel.Skeleton
public import Idealize.ShloMosaic.Lib.Exec
public import Idealize.ShloMosaic.Lib.Tactic
public import Idealize.ShloMosaic.Lib.Pipeline.Kit
public import Idealize.ShloMosaic.Lib.Pipeline.Value
public import Idealize.ShloMosaic.Lib.ValueIdxCore

@[expose] public section

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix3 eq_ix3)
open Cert.Kernel.Gen

/-- The slot a document's token `j` picks: its id when the token is within the length, else the zero row. -/
def pick (len w : BitVec 32) (j : ℕ) : BitVec 32 :=
  Scalar.select (Scalar.cmpi .sgt len (BitVec.ofNat 32 j)) w 32768#32

/-- The offsets at which the slot loads from the table: the picked row. -/
def slotOff (len w : BitVec 32) (j : ℕ) : Fin 3 → ℕ :=
  ![(Scalar.indexCast (Scalar.select (Scalar.cmpi .sgt len (BitVec.ofNat 32 j)) w 32768#32)).toNat, 0, 0]

/-- They name the picked row. -/
theorem slotOff_eq (len w : BitVec 32) (j : ℕ) : slotOff len w j = ![(pick len w j).toNat, 0, 0] := rfl

variable {F : FTy → Type} [FloatOps F]

local notation "𝕄" => MT nD τ sig Unit (Elt F) ℕ (UR sig nD τ) ℕ

/-- The word a slot reads: token `j` of row `d` of the id block; the slots past the last token read it again. -/
def word (arg1 : Memref sig .tc .smem S1x8x135 .i32) (X1 : BufTy.Contents (Elt F) arg1.view.ty) (d : Fin 8) (j : ℕ) : BitVec 32 :=
  arg1.view.read (Elt F) X1 (ix3 0 d ⟨min j 134, by omega⟩)

/-- The length of document `d` of the block. -/
def lenAt (arg2 : Memref sig .tc .smem S1x1x8 .i32) (X2 : BufTy.Contents (Elt F) arg2.view.ty) (d : Fin 8) : BitVec 32 :=
  arg2.view.read (Elt F) X2 (ix3 0 0 d)

/-- The table row a slot picks. -/
def rowAt (arg7 : Memref sig .tc .vmem S32776x1x128 .f32) (X7 : BufTy.Contents (Elt F) arg7.view.ty) (n : ℕ) : Vec F S1x1x128 .f32 :=
  fun y => arg7.view.read (Elt F) X7 (ix3 ⟨min n 32775, by omega⟩ 0 (y 2))

/-- The one index of a unit rectangle of a rank-3 array, by its offsets. -/
theorem unit1_idx {n0 n1 n2 m2 : ℕ} {a b o : ℕ} {inb : ∀ x, (![a, b, o] : Fin 3 → ℕ) x + (⟨3, ![1, 1, m2]⟩ : Shape).size x ≤ (⟨3, ![n0, n1, n2]⟩ : Shape).size x}
    (y : (⟨3, ![1, 1, m2]⟩ : Shape).Idx) (ha : a < n0) (hb : b < n1) (ho : o + (y 2).val < n2) :
    (Rect.unit (s := ⟨3, ![n0, n1, n2]⟩) ![a, b, o] (⟨3, ![1, 1, m2]⟩ : Shape).size inb).emb y = ix3 ⟨a, ha⟩ ⟨b, hb⟩ ⟨o + (y 2).val, ho⟩ := by
  have h0 : (y 0).val < 1 := (y 0).isLt
  have h1 : (y 1).val < 1 := (y 1).isLt
  funext x
  match x with
  | ⟨0, _⟩ => exact Fin.ext (by show a + 1 * (y 0).val = a; omega)
  | ⟨1, _⟩ => exact Fin.ext (by show b + 1 * (y 1).val = b; omega)
  | ⟨2, _⟩ => exact Fin.ext (by show o + 1 * (y 2).val = o + (y 2).val; omega)

/-- The word read at a slot's offsets. -/
theorem read_word {arg1 : Memref sig .tc .smem S1x8x135 .i32} (X1 : BufTy.Contents (Elt F) arg1.view.ty) {d : Fin 8} {n : ℕ}
    {off : Fin 3 → ℕ} {inb : ∀ a, off a + S1x1x1.size a ≤ S1x8x135.size a} (y : S1x1x1.Idx) (hoff : off = ![0, d.val, min n 134]) :
    (arg1.access (Rect.unit (s := S1x8x135) off S1x1x1.size inb)).read (Elt F) X1 y = word arg1 X1 d n := by
  subst hoff
  have h2 : (y 2).val < 1 := (y 2).isLt
  refine (congrArg (arg1.view.read (Elt F) X1) (unit1_idx (n0 := 1) (n1 := 8) (n2 := 135) (m2 := 1) y (by omega) d.isLt (by omega))).trans ?_
  refine congrArg (arg1.view.read (Elt F) X1) (congrArg (ix3 0 d) (Fin.ext ?_))
  show min n 134 + (y 2).val = min n 134
  omega

/-- The length read at a document's offsets. -/
theorem read_len {arg2 : Memref sig .tc .smem S1x1x8 .i32} (X2 : BufTy.Contents (Elt F) arg2.view.ty) {e : Fin 8}
    {off : Fin 3 → ℕ} {inb : ∀ a, off a + S1x1x1.size a ≤ S1x1x8.size a} (y : S1x1x1.Idx) (hoff : off = ![0, 0, e.val]) :
    (arg2.access (Rect.unit (s := S1x1x8) off S1x1x1.size inb)).read (Elt F) X2 y = lenAt arg2 X2 e := by
  subst hoff
  have h2 : (y 2).val < 1 := (y 2).isLt
  refine (congrArg (arg2.view.read (Elt F) X2) (unit1_idx (n0 := 1) (n1 := 1) (n2 := 8) (m2 := 1) y (by omega) (by omega) (by omega))).trans ?_
  refine congrArg (arg2.view.read (Elt F) X2) (congrArg (ix3 0 0) (Fin.ext ?_))
  show e.val + (y 2).val = e.val
  omega

/-- A picked row is inside the table. -/
theorem pick_le {off : Fin 3 → ℕ} {p : ℕ} (hoff : off = ![p, 0, 0]) (inb : ∀ a, off a + S1x1x128.size a ≤ S32776x1x128.size a) : p ≤ 32775 := by
  have := inb 0
  subst hoff
  have h : p + 1 ≤ 32776 := this
  omega

/-- The row read at a slot's offsets. -/
theorem read_row {arg7 : Memref sig .tc .vmem S32776x1x128 .f32} (X7 : BufTy.Contents (Elt F) arg7.view.ty) {p : ℕ}
    {off : Fin 3 → ℕ} {inb : ∀ a, off a + S1x1x128.size a ≤ S32776x1x128.size a} (hoff : off = ![p, 0, 0]) :
    arg7.view.readAt (Elt F) (Rect.unit (s := S32776x1x128) off S1x1x128.size inb).toLoadRect X7 = rowAt arg7 X7 p := by
  have hp := pick_le hoff inb
  subst hoff
  funext y
  have h2 : (y 2).val < 128 := (y 2).isLt
  refine (congrArg (arg7.view.read (Elt F) X7) (unit1_idx (n0 := 32776) (n1 := 1) (n2 := 128) (m2 := 128) y (by omega) (by omega) (by omega))).trans ?_
  refine congrArg (arg7.view.read (Elt F) X7) ?_
  have e0 : (⟨p, by omega⟩ : Fin 32776) = ⟨min p 32775, by omega⟩ := Fin.ext (by show p = min p 32775; omega)
  have e2 : (⟨0 + (y 2).val, by omega⟩ : Fin 128) = y 2 := Fin.ext (Nat.zero_add _)
  show ix3 (⟨p, _⟩ : Fin 32776) (⟨0, _⟩ : Fin 1) (⟨0 + (y 2).val, _⟩ : Fin 128) = ix3 ⟨min p 32775, _⟩ 0 (y 2)
  rw [e0, e2]
  rfl

variable (𝒱 : Variants) (c : Dev nD) (bd : Option 𝒱.V) (E : Set ℕ)

/-- The gather buffer's first `n` rows are the picked ones. -/
def Filled (arg8 : Memref sig .tc .vmem S144x1x128 .f32) (G : ℕ → Vec F S1x1x128 .f32) (n : ℕ) (f : BufTy.Contents (Elt F) arg8.view.ty) : Prop :=
  ∀ (j : Fin 144) (l : Fin 128), j.val < n → arg8.view.read (Elt F) f (ix3 j 0 l) = G j.val (ix3 0 0 l)

/-- Storing row `n` fills it and keeps the rows before it. -/
theorem Filled.store {arg8 : Memref sig .tc .vmem S144x1x128 .f32} {G : ℕ → Vec F S1x1x128 .f32} {n : ℕ} {f : BufTy.Contents (Elt F) arg8.view.ty}
    (hf : Filled arg8 G n f) {inb : ∀ a, (![n, 0, 0] : Fin 3 → ℕ) a + S1x1x128.size a ≤ S144x1x128.size a} {w : S1x1x128.Idx → Elt F .f32} (hw : w = G n) :
    Filled arg8 G (n + 1) ((arg8.access (Rect.unit (s := S144x1x128) ![n, 0, 0] S1x1x128.size inb)).write (Elt F) f w Finset.univ) := by
  intro j l hj
  by_cases hjn : j.val = n
  · have hi : (Rect.unit (s := S144x1x128) ![n, 0, 0] S1x1x128.size inb).emb (ix3 0 0 l) = ix3 j 0 l := by
      refine (unit1_idx (n0 := 144) (n1 := 1) (n2 := 128) (m2 := 128) (ix3 0 0 l) (hjn ▸ j.isLt) Nat.one_pos (by show 0 + l.val < 128; omega)).trans ?_
      have e0 : (⟨n, hjn ▸ j.isLt⟩ : Fin 144) = j := Fin.ext hjn.symm
      have e2 : (⟨0 + l.val, by omega⟩ : Fin 128) = l := Fin.ext (Nat.zero_add _)
      show ix3 (⟨n, _⟩ : Fin 144) (⟨0, _⟩ : Fin 1) (⟨0 + l.val, _⟩ : Fin 128) = ix3 j 0 l
      rw [e0, e2]
      rfl
    have hr := View.read_slice_write_emb (v := arg8.view) (Val := Elt F) (Rect.unit (s := S144x1x128) ![n, 0, 0] S1x1x128.size inb) f w
      (M := Finset.univ) (x := ix3 0 0 l) (Finset.mem_univ _)
    rw [hi] at hr
    exact hr.trans (by rw [hw, hjn])
  · have hmem : (ix3 j 0 l : S144x1x128.Idx) ∉ Finset.univ.map (Rect.unit (s := S144x1x128) ![n, 0, 0] S1x1x128.size inb).emb := by
      intro hmem
      obtain ⟨x, -, hx⟩ := Finset.mem_map.mp hmem
      have h0 : ((Rect.unit (s := S144x1x128) ![n, 0, 0] S1x1x128.size inb).emb x 0).val = j.val := congrArg (fun z => (z 0).val) hx
      have h1 : n + 1 * (x 0).val = j.val := h0
      have h2 : (x 0).val < 1 := (x 0).isLt
      omega
    have hr := View.read_slice_write_of_not_mem (v := arg8.view) (Val := Elt F) (Rect.unit (s := S144x1x128) ![n, 0, 0] S1x1x128.size inb) f w
      Finset.univ hmem
    exact hr.trans (hf j l (by omega))

/-- What is held between two steps of a document: the ids, the table, the gather buffer with its first `n` rows
    picked, and the rest `R`. -/
def St (arg1 : Memref sig .tc .smem S1x8x135 .i32) (X1 : BufTy.Contents (Elt F) arg1.view.ty)
    (arg7 : Memref sig .tc .vmem S32776x1x128 .f32) (X7 : BufTy.Contents (Elt F) arg7.view.ty)
    (arg8 : Memref sig .tc .vmem S144x1x128 .f32) (R : sProp 𝕄) (d : Fin 8) (len : BitVec 32) (n : ℕ) : sProp 𝕄 :=
  iprop((arg1.view.loc (c : Thread nD τ) ↦[arg1.view.set]{fullShare} X1)
    ∗ (arg7.view.loc (c : Thread nD τ) ↦[arg7.view.set]{fullShare} X7)
    ∗ (∃ f, (arg8.view.loc (c : Thread nD τ) ↦[arg8.view.set]{fullShare} f)
        ∗ ⌜Filled arg8 (fun j => rowAt arg7 X7 (pick len (word arg1 X1 d j) j).toNat) n f⌝)
    ∗ R)

/-- A row reshaped to a vector and back is the row. -/
theorem pay_eq (x : Vec F S1x1x128 .f32) : shapeCast S1x1x128 (shapeCast S128 x shapeCasts_S1x1x128_S128) shapeCasts_S128_S1x1x128 = x :=
  shapeCast_shapeCast x _ _

variable {arg1 : Memref sig .tc .smem S1x8x135 .i32} {X1 : BufTy.Contents (Elt F) arg1.view.ty}
  {arg7 : Memref sig .tc .vmem S32776x1x128 .f32} {X7 : BufTy.Contents (Elt F) arg7.view.ty}
  {arg8 : Memref sig .tc .vmem S144x1x128 .f32} {d : Fin 8} {len : BitVec 32} {n : ℕ}
  {α β : Type}

/-- One operation, then the rest. -/
theorem lift_bind (e : TpuEff nD τ sig (Elt F) Λ₀ .tc α) (K : α → Prog (TpuEff nD τ sig (Elt F) Λ₀ .tc) β) :
    (Prog.lift e >>= K) = Prog.op e K := rfl

/-- Reading the id of the slot. -/
theorem step_word {R : sProp 𝕄} {off : Fin 3 → ℕ} {inb : ∀ a, off a + S1x1x1.size a ≤ S1x8x135.size a}
    {h1 : S1x1x1.numel = 1} {hp : EltTy.packing .i32 = EltTy.packing .i32}
    {K : Elt F .i32 → Prog (TpuEff nD τ sig (Elt F) Λ₀ .tc) α} {Q : α → sProp 𝕄}
    (hoff : off = ![0, d.val, min n 134])
    (h : St c arg1 X1 arg7 X7 arg8 R d len n ⊢ wp frame (wpE (defs₀ (F := F)) 𝒱 (c : Thread nD τ) bd) E (K (word arg1 X1 d n)) Q) :
    St c arg1 X1 arg7 X7 arg8 R d len n
      ⊢ wp frame (wpE (defs₀ (F := F)) 𝒱 (c : Thread nD τ) bd) E (smemLoad arg1 (Rect.unit (s := S1x8x135) off S1x1x1.size inb) h1 hp >>= K) Q := by
  have hw := read_word X1 (inb := inb) (Shape.Idx.first (s := S1x1x1) (h1.symm ▸ Nat.one_pos)) hoff
  unfold St at h ⊢
  iintro ⟨H1, H7, H8, HR⟩
  rw [show smemLoad arg1 (Rect.unit (s := S1x8x135) off S1x1x1.size inb) h1 hp >>= K = smemLoadElt arg1 (Rect.unit (s := S1x8x135) off S1x1x1.size inb) (View.loads_smem_one hp h1) (Shape.Idx.first (s := S1x1x1) (h1.symm ▸ Nat.one_pos)) K from rfl]
  iapply (wp_smemLoadElt 𝒱 (c : Thread nD τ) bd E (m := arg1) (r := Rect.unit (s := S1x8x135) off S1x1x1.size inb) (k := K) (S := arg1.view.set) (f := X1) (View.set_slice_subset _ _)) $$ H1
  iintro H1
  rw [hw]
  iapply h
  isplitl [H1]; · iexact H1
  isplitl [H7]; · iexact H7
  isplitl [H8]; · iexact H8
  iexact HR

/-- Reading the document's length. -/
theorem step_len {R : sProp 𝕄} {arg2 : Memref sig .tc .smem S1x1x8 .i32} {X2 : BufTy.Contents (Elt F) arg2.view.ty} {e : Fin 8}
    {off : Fin 3 → ℕ} {inb : ∀ a, off a + S1x1x1.size a ≤ S1x1x8.size a}
    {h1 : S1x1x1.numel = 1} {hp : EltTy.packing .i32 = EltTy.packing .i32}
    {K : Elt F .i32 → Prog (TpuEff nD τ sig (Elt F) Λ₀ .tc) α} {Q : α → sProp 𝕄}
    (hoff : off = ![0, 0, e.val])
    (h : St c arg1 X1 arg7 X7 arg8 (iprop((arg2.view.loc (c : Thread nD τ) ↦[arg2.view.set]{fullShare} X2) ∗ R)) d len n
      ⊢ wp frame (wpE (defs₀ (F := F)) 𝒱 (c : Thread nD τ) bd) E (K (lenAt arg2 X2 e)) Q) :
    St c arg1 X1 arg7 X7 arg8 (iprop((arg2.view.loc (c : Thread nD τ) ↦[arg2.view.set]{fullShare} X2) ∗ R)) d len n
      ⊢ wp frame (wpE (defs₀ (F := F)) 𝒱 (c : Thread nD τ) bd) E (smemLoad arg2 (Rect.unit (s := S1x1x8) off S1x1x1.size inb) h1 hp >>= K) Q := by
  have hw := read_len X2 (inb := inb) (Shape.Idx.first (s := S1x1x1) (h1.symm ▸ Nat.one_pos)) hoff
  unfold St at h ⊢
  iintro ⟨H1, H7, H8, H2, HR⟩
  rw [show smemLoad arg2 (Rect.unit (s := S1x1x8) off S1x1x1.size inb) h1 hp >>= K = smemLoadElt arg2 (Rect.unit (s := S1x1x8) off S1x1x1.size inb) (View.loads_smem_one hp h1) (Shape.Idx.first (s := S1x1x1) (h1.symm ▸ Nat.one_pos)) K from rfl]
  iapply (wp_smemLoadElt 𝒱 (c : Thread nD τ) bd E (m := arg2) (r := Rect.unit (s := S1x1x8) off S1x1x1.size inb) (k := K) (S := arg2.view.set) (f := X2) (View.set_slice_subset _ _)) $$ H2
  iintro H2
  rw [hw]
  iapply h
  isplitl [H1]; · iexact H1
  isplitl [H7]; · iexact H7
  isplitl [H8]; · iexact H8
  isplitl [H2]; · iexact H2
  iexact HR

/-- The slot's in-bounds condition holds. -/
theorem step_check {R : sProp 𝕄} {P : Prop} {dec : Decidable P} {K : PLift P → Prog (TpuEff nD τ sig (Elt F) Λ₀ .tc) α} {Q : α → sProp 𝕄}
    (hin : ∀ j, j < 144 → (pick len (word arg1 X1 d j) j).toNat ≤ 32775)
    (hP : (∀ a, (slotOff len (word arg1 X1 d n) n) a + S1x1x128.size a ≤ S32776x1x128.size a) → P) (hn : n < 144)
    (h : ∀ hP : P, St c arg1 X1 arg7 X7 arg8 R d len n ⊢ wp frame (wpE (defs₀ (F := F)) 𝒱 (c : Thread nD τ) bd) E (K ⟨hP⟩) Q) :
    St c arg1 X1 arg7 X7 arg8 R d len n ⊢ wp frame (wpE (defs₀ (F := F)) 𝒱 (c : Thread nD τ) bd) E (Prog.lift (TpuEff.assume P dec) >>= K) Q :=
  have hp : P := hP fun a => match a with
    | ⟨0, _⟩ => Nat.succ_le_succ (hin n hn)
    | ⟨1, _⟩ => Nat.le_refl 1
    | ⟨2, _⟩ => Nat.le_refl 128
  (h hp).trans (wp_assume 𝒱 (c : Thread nD τ) bd E hp)

/-- Loading the picked table row. -/
theorem step_row {R : sProp 𝕄} {off : Fin 3 → ℕ} {inb : ∀ a, off a + S1x1x128.size a ≤ S32776x1x128.size a}
    {hl : arg7.view.LoadsAt (Rect.unit (s := S32776x1x128) off S1x1x128.size inb).toLoadRect}
    {K : Vec F S1x1x128 .f32 → Prog (TpuEff nD τ sig (Elt F) Λ₀ .tc) α} {Q : α → sProp 𝕄}
    (hoff : off = slotOff len (word arg1 X1 d n) n)
    (h : St c arg1 X1 arg7 X7 arg8 R d len n ⊢ wp frame (wpE (defs₀ (F := F)) 𝒱 (c : Thread nD τ) bd) E (K (rowAt arg7 X7 (pick len (word arg1 X1 d n) n).toNat)) Q) :
    St c arg1 X1 arg7 X7 arg8 R d len n
      ⊢ wp frame (wpE (defs₀ (F := F)) 𝒱 (c : Thread nD τ) bd) E (Prog.lift (.load arg7 (Rect.unit (s := S32776x1x128) off S1x1x128.size inb).toLoadRect hl) >>= K) Q := by
  have hv := read_row X7 (inb := inb) hoff
  unfold St at h ⊢
  rw [lift_bind]
  iintro ⟨H1, H7, H8, HR⟩
  iapply (wp_load 𝒱 (c : Thread nD τ) bd E (m := arg7) (r := (Rect.unit (s := S32776x1x128) off S1x1x128.size inb).toLoadRect) (hl := hl) (k := K) (S := arg7.view.set) (f := X7) (View.setOn_subset_set _ _)) $$ H7
  iintro H7
  rw [hv]
  iapply h
  isplitl [H1]; · iexact H1
  isplitl [H7]; · iexact H7
  isplitl [H8]; · iexact H8
  iexact HR

/-- Loading a row of the gather buffer, which the body does before every store and does not use. -/
theorem step_dead {R : sProp 𝕄} {r : LoadRect S144x1x128} {hl : arg8.view.LoadsAt r}
    {K : (r.shape.Idx → Elt F .f32) → Prog (TpuEff nD τ sig (Elt F) Λ₀ .tc) α} {Q : α → sProp 𝕄}
    (h : ∀ v, St c arg1 X1 arg7 X7 arg8 R d len n ⊢ wp frame (wpE (defs₀ (F := F)) 𝒱 (c : Thread nD τ) bd) E (K v) Q) :
    St c arg1 X1 arg7 X7 arg8 R d len n
      ⊢ wp frame (wpE (defs₀ (F := F)) 𝒱 (c : Thread nD τ) bd) E (Prog.lift (.load arg8 r hl) >>= K) Q := by
  unfold St at h ⊢
  rw [lift_bind]
  iintro ⟨H1, H7, ⟨%f, H8, %hf⟩, HR⟩
  iapply (wp_load 𝒱 (c : Thread nD τ) bd E (m := arg8) (r := r) (hl := hl) (k := K) (S := arg8.view.set) (f := f) (View.setOn_subset_set _ _)) $$ H8
  iintro H8
  iapply (h (arg8.view.readAt (Elt F) r f))
  isplitl [H1]; · iexact H1
  isplitl [H7]; · iexact H7
  isplitl [H8]
  · iexists f; isplitl [H8]; · iexact H8
    ipureintro; exact hf
  iexact HR

/-- Storing the picked row into row `j` of the gather buffer: one more row is filled. -/
theorem step_store {R : sProp 𝕄} {j : ℕ} {inb : ∀ a, (![j, 0, 0] : Fin 3 → ℕ) a + S1x1x128.size a ≤ S144x1x128.size a}
    {w : FVec F S1x1x128 .f32}
    {hx : (arg8.access (Rect.unit (s := S144x1x128) ![j, 0, 0] S1x1x128.size inb)).Stores Finset.univ}
    {hm : Finset.univ = Finset.univ ∨ ∀ a, (Rect.unit (s := S144x1x128) ![j, 0, 0] S1x1x128.size inb).stride a = 1}
    {K : PUnit → Prog (TpuEff nD τ sig (Elt F) Λ₀ .tc) α} {Q : α → sProp 𝕄}
    (hn : n = j) (hw : w = rowAt arg7 X7 (pick len (word arg1 X1 d j) j).toNat)
    (h : St c arg1 X1 arg7 X7 arg8 R d len (j + 1) ⊢ wp frame (wpE (defs₀ (F := F)) 𝒱 (c : Thread nD τ) bd) E (K ⟨⟩) Q) :
    St c arg1 X1 arg7 X7 arg8 R d len n
      ⊢ wp frame (wpE (defs₀ (F := F)) 𝒱 (c : Thread nD τ) bd) E
          (Prog.lift (.store arg8 (Rect.unit (s := S144x1x128) ![j, 0, 0] S1x1x128.size inb) w Finset.univ hx hm) >>= K) Q := by
  subst hn
  unfold St at h ⊢
  rw [lift_bind]
  iintro ⟨H1, H7, ⟨%f, H8, %hf⟩, HR⟩
  iapply (wp_store 𝒱 (c : Thread nD τ) bd E (m := arg8) (r := Rect.unit (s := S144x1x128) ![n, 0, 0] S1x1x128.size inb) (w := w) (Mk := Finset.univ) (hx := hx) (hm := hm) (k := K) (S := arg8.view.set) (f := f)
    (by rw [View.setOn_univ]; exact View.set_slice_subset _ _)) $$ H8
  iintro H8
  iapply h
  isplitl [H1]; · iexact H1
  isplitl [H7]; · iexact H7
  isplitl [H8]
  · iexists _; isplitl [H8]; · iexact H8
    ipureintro; exact hf.store hw
  iexact HR

/-- A last operation is that operation and then a return. -/
theorem step_tail {e : TpuEff nD τ sig (Elt F) Λ₀ .tc α} {Q : α → sProp 𝕄} {H : sProp 𝕄}
    (h : H ⊢ wp frame (wpE (defs₀ (F := F)) 𝒱 (c : Thread nD τ) bd) E (Prog.lift e >>= pure) Q) :
    H ⊢ wp frame (wpE (defs₀ (F := F)) 𝒱 (c : Thread nD τ) bd) E (Prog.lift e) Q := h

/-- The end of a part: it returns a value. -/
theorem step_ret {a : α} {Q : α → sProp 𝕄} {H : sProp 𝕄} (h : H ⊢ Q a) :
    H ⊢ wp frame (wpE (defs₀ (F := F)) 𝒱 (c : Thread nD τ) bd) E (pure a) Q :=
  h.trans (le_wp_ret _ _ _ a Q)

/-- The start of a part: run it, then the rest. -/
theorem step_part {p : Prog (TpuEff nD τ sig (Elt F) Λ₀ .tc) α} {K : α → Prog (TpuEff nD τ sig (Elt F) Λ₀ .tc) β} {Q : β → sProp 𝕄} {H : sProp 𝕄}
    (h : H ⊢ wp frame (wpE (defs₀ (F := F)) 𝒱 (c : Thread nD τ) bd) E p (fun a => wp frame (wpE (defs₀ (F := F)) 𝒱 (c : Thread nD τ) bd) E (K a) Q)) :
    H ⊢ wp frame (wpE (defs₀ (F := F)) 𝒱 (c : Thread nD τ) bd) E (p >>= K) Q := by
  rw [wp_bind]; exact h

end Cert.Kernel.Hand

end
-- ==== Proof.Exact.Doc.lean ====
/- One document of the kernel's second loop: what its 144 slots leave in the gather buffer, and what it then stores. -/
module

public import proofs.«01_k».proof.Proof.Exact.Slots

@[expose] public section

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix3 eq_ix3)
open Cert.Kernel.Gen

/-- The loop over a block's documents makes eight trips. -/
theorem t2_trips : k0_t2_loop.trips = 8 := by decide

/-- The row of the block that trip `k` works on, as the body computes it. -/
def docIx (k : Fin k0_t2_loop.trips) : Fin 8 :=
  ⟨(Scalar.indexCast (Scf.iv 0#32 1#32 k) : Index).toNat, by
    have h : ∀ k : Fin 8, (Scalar.indexCast (Scf.iv 0#32 1#32 k) : Index).toNat < 8 := by decide
    exact h ⟨k.val, t2_trips ▸ k.isLt⟩⟩

/-- It is the trip's number. -/
theorem docIx_val (k : Fin k0_t2_loop.trips) : (docIx k).val = k.val := by
  have h : ∀ k : Fin 8, (Scalar.indexCast (Scf.iv 0#32 1#32 k) : Index).toNat = k.val := by decide
  exact h ⟨k.val, t2_trips ▸ k.isLt⟩

variable {F : FTy → Type} [FloatOps F]

local notation "𝕄" => MT nD τ sig Unit (Elt F) ℕ (UR sig nD τ) ℕ

variable (𝒱 : Variants) (c : Dev nD) (bd : Option 𝒱.V) (E : Set ℕ)

set_option maxRecDepth 65536 in
set_option maxHeartbeats 40000000 in
/-- The first 143 slots of a document. -/
theorem slots_run (i : grid0.Coords) (arg1 : Memref sig .tc .smem S1x8x135 .i32) (harg1 : arg1.IsWhole) (arg2 : Memref sig .tc .smem S1x1x8 .i32) (harg2 : arg2.IsWhole)
    (arg3 : Memref sig .tc .vmem S32768x96 .fp8e4m3) (harg3 : arg3.IsWhole) (arg4 : Memref sig .tc .vmem S32768x1 .f32) (harg4 : arg4.IsWhole)
    (arg5 : Memref sig .tc .vmem S128x2560 .bf16) (harg5 : arg5.IsWhole) (arg6 : Memref sig .tc .vmem S1x8x2560 .f32) (harg6 : arg6.IsWhole)
    (arg7 : Memref sig .tc .vmem S32776x1x128 .f32) (harg7 : arg7.IsWhole) (arg8 : Memref sig .tc .vmem S144x1x128 .f32) (harg8 : arg8.IsWhole)
    {X1 : BufTy.Contents (Elt F) arg1.view.ty} {X2 : BufTy.Contents (Elt F) arg2.view.ty} {X7 : BufTy.Contents (Elt F) arg7.view.ty} {R : sProp 𝕄}
    (k : Fin k0_t2_loop.trips)
    (hin : ∀ j, j < 144 → (pick (lenAt (F := F) arg2 X2 (docIx k)) (word (F := F) arg1 X1 (docIx k) j) j).toNat ≤ 32775)
    {Q : (Σ' (arg9 : BitVec 32) (v5 : Elt F .i32), BitVec 1) → sProp 𝕄}
    (h : ∀ a b, St c arg1 X1 arg7 X7 arg8 (iprop((arg2.view.loc (c : Thread nD τ) ↦[arg2.view.set]{fullShare} X2) ∗ R)) (docIx k) (lenAt (F := F) arg2 X2 (docIx k)) 143
      ⊢ Q ⟨a, lenAt (F := F) arg2 X2 (docIx k), b⟩) :
    St c arg1 X1 arg7 X7 arg8 (iprop((arg2.view.loc (c : Thread nD τ) ↦[arg2.view.set]{fullShare} X2) ∗ R)) (docIx k) (lenAt (F := F) arg2 X2 (docIx k)) 0
      ⊢ wp frame (wpE (defs₀ (F := F)) 𝒱 (c : Thread nD τ) bd) E (k0_part51 (F := F) i arg1 harg1 arg2 harg2 arg3 harg3 arg4 harg4 arg5 harg5 arg6 harg6 arg7 harg7 arg8 harg8 0#32 1#32 k) Q := by
  rw [k0_part51_eq_skeleton]; unfold k0_part51_skel
  refine step_part (F := F) 𝒱 c bd E ?_
  rw [k0_part1_eq_skeleton]; unfold k0_part1_skel
  refine step_len (F := F) (e := docIx k) 𝒱 c bd E ?_ ?_
  · rfl
  repeat first
    | ((with_reducible apply (step_word (F := F) 𝒱 c bd E ?_ ?_)); · rfl)
    | ((with_reducible apply (step_check (F := F) 𝒱 c bd E hin ?_ ?_ fun _ => ?_)); (· exact fun h => h); (· decide))
    | ((with_reducible apply (step_row (F := F) 𝒱 c bd E ?_ ?_)); · rfl)
    | (with_reducible apply (step_dead (F := F) 𝒱 c bd E fun _ => ?_))
    | ((with_reducible apply (step_store (F := F) 𝒱 c bd E ?_ ?_ ?_)); (· rfl); (· first | exact pay_eq (F := F) _ | (refine Eq.trans ?_ (pay_eq (F := F) _); rfl)))
    | (with_reducible apply (step_tail (F := F) 𝒱 c bd E ?_))
    | (with_reducible apply (step_ret (F := F) 𝒱 c bd E ?_))
    | ((with_reducible apply (step_part (F := F) 𝒱 c bd E ?_)); first
      | (rw [k0_part1_eq_skeleton]; unfold k0_part1_skel)
      | (rw [k0_part2_eq_skeleton]; unfold k0_part2_skel)
      | (rw [k0_part3_eq_skeleton]; unfold k0_part3_skel)
      | (rw [k0_part4_eq_skeleton]; unfold k0_part4_skel)
      | (rw [k0_part5_eq_skeleton]; unfold k0_part5_skel)
      | (rw [k0_part6_eq_skeleton]; unfold k0_part6_skel)
      | (rw [k0_part7_eq_skeleton]; unfold k0_part7_skel)
      | (rw [k0_part8_eq_skeleton]; unfold k0_part8_skel)
      | (rw [k0_part9_eq_skeleton]; unfold k0_part9_skel)
      | (rw [k0_part10_eq_skeleton]; unfold k0_part10_skel)
      | (rw [k0_part11_eq_skeleton]; unfold k0_part11_skel)
      | (rw [k0_part12_eq_skeleton]; unfold k0_part12_skel)
      | (rw [k0_part13_eq_skeleton]; unfold k0_part13_skel)
      | (rw [k0_part14_eq_skeleton]; unfold k0_part14_skel)
      | (rw [k0_part15_eq_skeleton]; unfold k0_part15_skel)
      | (rw [k0_part16_eq_skeleton]; unfold k0_part16_skel)
      | (rw [k0_part17_eq_skeleton]; unfold k0_part17_skel)
      | (rw [k0_part18_eq_skeleton]; unfold k0_part18_skel)
      | (rw [k0_part19_eq_skeleton]; unfold k0_part19_skel)
      | (rw [k0_part20_eq_skeleton]; unfold k0_part20_skel)
      | (rw [k0_part21_eq_skeleton]; unfold k0_part21_skel)
      | (rw [k0_part22_eq_skeleton]; unfold k0_part22_skel)
      | (rw [k0_part23_eq_skeleton]; unfold k0_part23_skel)
      | (rw [k0_part24_eq_skeleton]; unfold k0_part24_skel)
      | (rw [k0_part25_eq_skeleton]; unfold k0_part25_skel)
      | (rw [k0_part26_eq_skeleton]; unfold k0_part26_skel)
      | (rw [k0_part27_eq_skeleton]; unfold k0_part27_skel)
      | (rw [k0_part28_eq_skeleton]; unfold k0_part28_skel)
      | (rw [k0_part29_eq_skeleton]; unfold k0_part29_skel)
      | (rw [k0_part30_eq_skeleton]; unfold k0_part30_skel)
      | (rw [k0_part31_eq_skeleton]; unfold k0_part31_skel)
      | (rw [k0_part32_eq_skeleton]; unfold k0_part32_skel)
      | (rw [k0_part33_eq_skeleton]; unfold k0_part33_skel)
      | (rw [k0_part34_eq_skeleton]; unfold k0_part34_skel)
      | (rw [k0_part35_eq_skeleton]; unfold k0_part35_skel)
      | (rw [k0_part36_eq_skeleton]; unfold k0_part36_skel)
      | (rw [k0_part37_eq_skeleton]; unfold k0_part37_skel)
      | (rw [k0_part38_eq_skeleton]; unfold k0_part38_skel)
      | (rw [k0_part39_eq_skeleton]; unfold k0_part39_skel)
      | (rw [k0_part40_eq_skeleton]; unfold k0_part40_skel)
      | (rw [k0_part41_eq_skeleton]; unfold k0_part41_skel)
      | (rw [k0_part42_eq_skeleton]; unfold k0_part42_skel)
      | (rw [k0_part43_eq_skeleton]; unfold k0_part43_skel)
      | (rw [k0_part44_eq_skeleton]; unfold k0_part44_skel)
      | (rw [k0_part45_eq_skeleton]; unfold k0_part45_skel)
      | (rw [k0_part46_eq_skeleton]; unfold k0_part46_skel)
      | (rw [k0_part47_eq_skeleton]; unfold k0_part47_skel)
      | (rw [k0_part48_eq_skeleton]; unfold k0_part48_skel)
      | (rw [k0_part49_eq_skeleton]; unfold k0_part49_skel)
      | (rw [k0_part50_eq_skeleton]; unfold k0_part50_skel))
  exact h _ _

end Cert.Kernel.Hand

end
-- ==== Proof.Exact.Trip.lean ====
/- One trip of the kernel's second loop: the document's 144 slots are gathered, and its row of scores is stored. Then
   the loop: after its eight trips the output block holds the eight rows. -/
module

public import proofs.«01_k».proof.Proof.Exact.Doc

@[expose] public section

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix3 eq_ix3 ix2 eq_ix2)
open Cert.Kernel.Gen

variable {F : FTy → Type} [FloatOps F]

local notation "𝕄" => MT nD τ sig Unit (Elt F) ℕ (UR sig nD τ) ℕ

variable (𝒱 : Variants) (c : Dev nD) (bd : Option 𝒱.V) (E : Set ℕ)

section

variable (arg1 : Memref sig .tc .smem S1x8x135 .i32) (X1 : BufTy.Contents (Elt F) arg1.view.ty)
  (arg2 : Memref sig .tc .smem S1x1x8 .i32) (X2 : BufTy.Contents (Elt F) arg2.view.ty)
  (arg5 : Memref sig .tc .vmem S128x2560 .bf16) (X5 : BufTy.Contents (Elt F) arg5.view.ty)
  (arg6 : Memref sig .tc .vmem S1x8x2560 .f32)
  (arg7 : Memref sig .tc .vmem S32776x1x128 .f32) (X7 : BufTy.Contents (Elt F) arg7.view.ty)
  (arg8 : Memref sig .tc .vmem S144x1x128 .f32)

/-- The gathered rows of document `d`. -/
def gath (d : Fin 8) : Vec F S144x1x128 .f32 :=
  fun y => rowAt arg7 X7 (pick (lenAt (F := F) arg2 X2 d) (word (F := F) arg1 X1 d (y 0).val) (y 0).val).toNat (ix3 0 0 (y 2))

/-- The row of scores stored for document `d`. -/
def docOut (d : Fin 8) : Vec F S1x1x2560 .f32 := k0_pay4 (gath arg1 X1 arg2 X2 arg7 X7 d) (arg5.view.read (Elt F) X5)

/-- The first `n` rows of the output block are stored. -/
def Rows (G : Fin 8 → Vec F S1x1x2560 .f32) (n : ℕ) (f : BufTy.Contents (Elt F) arg6.view.ty) : Prop :=
  ∀ (d : Fin 8) (q : Fin 2560), d.val < n → arg6.view.read (Elt F) f (ix3 0 d q) = G d (ix3 0 0 q)

variable {arg6} in
/-- Storing row `n` adds it and keeps the rows before it. -/
theorem Rows.store {G : Fin 8 → Vec F S1x1x2560 .f32} {n : ℕ} {f : BufTy.Contents (Elt F) arg6.view.ty} {e : Fin 8}
    (hf : Rows arg6 G n f) (he : e.val = n) {off : Fin 3 → ℕ} (hoff : off = ![0, e.val, 0])
    {inb : ∀ a, off a + S1x1x2560.size a ≤ S1x8x2560.size a} {w : S1x1x2560.Idx → Elt F .f32} (hw : w = G e) :
    Rows arg6 G (n + 1) ((arg6.access (Rect.unit (s := S1x8x2560) off S1x1x2560.size inb)).write (Elt F) f w Finset.univ) := by
  subst hoff he hw
  intro d q hd
  by_cases hdn : d = e
  · subst hdn
    have hi : (Rect.unit (s := S1x8x2560) ![0, d.val, 0] S1x1x2560.size inb).emb (ix3 0 0 q) = ix3 0 d q := by
      refine (unit1_idx (n0 := 1) (n1 := 8) (n2 := 2560) (m2 := 2560) (ix3 0 0 q) Nat.one_pos d.isLt (by show 0 + q.val < 2560; omega)).trans ?_
      have e2 : (⟨0 + q.val, by omega⟩ : Fin 2560) = q := Fin.ext (Nat.zero_add _)
      show ix3 (⟨0, _⟩ : Fin 1) d (⟨0 + q.val, _⟩ : Fin 2560) = ix3 0 d q
      rw [e2]
      rfl
    have hr := View.read_slice_write_emb (v := arg6.view) (Val := Elt F) (Rect.unit (s := S1x8x2560) ![0, d.val, 0] S1x1x2560.size inb) f (G d)
      (M := Finset.univ) (x := ix3 0 0 q) (Finset.mem_univ _)
    rw [hi] at hr
    exact hr
  · have hne : d.val ≠ e.val := fun h => hdn (Fin.ext h)
    have hmem : (ix3 0 d q : S1x8x2560.Idx) ∉ Finset.univ.map (Rect.unit (s := S1x8x2560) ![0, e.val, 0] S1x1x2560.size inb).emb := by
      intro hmem
      obtain ⟨x, -, hx⟩ := Finset.mem_map.mp hmem
      have h0 : ((Rect.unit (s := S1x8x2560) ![0, e.val, 0] S1x1x2560.size inb).emb x 1).val = d.val := congrArg (fun z => (z 1).val) hx
      have h1 : e.val + 1 * (x 1).val = d.val := h0
      have h2 : (x 1).val < 1 := (x 1).isLt
      omega
    have hr := View.read_slice_write_of_not_mem (v := arg6.view) (Val := Elt F) (Rect.unit (s := S1x8x2560) ![0, e.val, 0] S1x1x2560.size inb) f (G e)
      Finset.univ hmem
    exact hr.trans (hf d q (by omega))

/-- Once all 144 rows are filled the gather buffer reads as the gathered rows. -/
theorem Filled.read {arg8 : Memref sig .tc .vmem S144x1x128 .f32} {G : ℕ → Vec F S1x1x128 .f32} {f : BufTy.Contents (Elt F) arg8.view.ty}
    (hf : Filled arg8 G 144 f) {inb : ∀ a, (![0, 0, 0] : Fin 3 → ℕ) a + S144x1x128.size a ≤ S144x1x128.size a} :
    arg8.view.readAt (Elt F) (Rect.unit (s := S144x1x128) ![0, 0, 0] S144x1x128.size inb).toLoadRect f = fun y => G (y 0).val (ix3 0 0 (y 2)) := by
  funext y
  have h1 : (y 1).val < 1 := (y 1).isLt
  have hy : (Rect.unit (s := S144x1x128) ![0, 0, 0] S144x1x128.size inb).emb y = ix3 (y 0) 0 (y 2) := by
    funext x
    match x with
    | ⟨0, _⟩ => exact Fin.ext (by show 0 + 1 * (y 0).val = (y 0).val; omega)
    | ⟨1, _⟩ => exact Fin.ext (by show 0 + 1 * (y 1).val = 0; omega)
    | ⟨2, _⟩ => exact Fin.ext (by show 0 + 1 * (y 2).val = (y 2).val; omega)
  exact (congrArg (arg8.view.read (Elt F) f) hy).trans (hf (y 0) (y 2) (y 0).isLt)

/-- A load of a whole rank-2 array reads the array. -/
theorem read_whole5 {inb : ∀ a, (![0, 0] : Fin 2 → ℕ) a + S128x2560.size a ≤ S128x2560.size a} :
    arg5.view.readAt (Elt F) (Rect.unit (s := S128x2560) ![0, 0] S128x2560.size inb).toLoadRect X5 = arg5.view.read (Elt F) X5 := by
  funext y
  have hy : (Rect.unit (s := S128x2560) ![0, 0] S128x2560.size inb).emb y = y := by
    funext x
    match x with
    | ⟨0, _⟩ => exact Fin.ext (by show 0 + 1 * (y 0).val = (y 0).val; omega)
    | ⟨1, _⟩ => exact Fin.ext (by show 0 + 1 * (y 1).val = (y 1).val; omega)
  exact congrArg (arg5.view.read (Elt F) X5) hy

/-- What the loop holds after `n` trips: the inputs and the table as they were, the gather buffer at anything, the first
    `n` rows of the output block stored. -/
def Inv2 (n : ℕ) : sProp 𝕄 :=
  iprop((arg1.view.loc (c : Thread nD τ) ↦[arg1.view.set]{fullShare} X1)
    ∗ (arg7.view.loc (c : Thread nD τ) ↦[arg7.view.set]{fullShare} X7)
    ∗ (∃ f, arg8.view.loc (c : Thread nD τ) ↦[arg8.view.set]{fullShare} f)
    ∗ (arg2.view.loc (c : Thread nD τ) ↦[arg2.view.set]{fullShare} X2)
    ∗ (arg5.view.loc (c : Thread nD τ) ↦[arg5.view.set]{fullShare} X5)
    ∗ (∃ f, (arg6.view.loc (c : Thread nD τ) ↦[arg6.view.set]{fullShare} f) ∗ ⌜Rows arg6 (docOut arg1 X1 arg2 X2 arg5 X5 arg7 X7) n f⌝))

end

set_option maxRecDepth 65536 in
set_option maxHeartbeats 4000000 in
/-- One trip: it stores its document's row. -/
theorem trip_run (i : grid0.Coords) (arg1 : Memref sig .tc .smem S1x8x135 .i32) (harg1 : arg1.IsWhole) (arg2 : Memref sig .tc .smem S1x1x8 .i32) (harg2 : arg2.IsWhole)
    (arg3 : Memref sig .tc .vmem S32768x96 .fp8e4m3) (harg3 : arg3.IsWhole) (arg4 : Memref sig .tc .vmem S32768x1 .f32) (harg4 : arg4.IsWhole)
    (arg5 : Memref sig .tc .vmem S128x2560 .bf16) (harg5 : arg5.IsWhole) (arg6 : Memref sig .tc .vmem S1x8x2560 .f32) (harg6 : arg6.IsWhole)
    (arg7 : Memref sig .tc .vmem S32776x1x128 .f32) (harg7 : arg7.IsWhole) (arg8 : Memref sig .tc .vmem S144x1x128 .f32) (harg8 : arg8.IsWhole)
    (X1 : BufTy.Contents (Elt F) arg1.view.ty) (X2 : BufTy.Contents (Elt F) arg2.view.ty) (X5 : BufTy.Contents (Elt F) arg5.view.ty)
    (X7 : BufTy.Contents (Elt F) arg7.view.ty)
    (hin : ∀ (d : Fin 8) (j : ℕ), j < 144 → (pick (lenAt (F := F) arg2 X2 d) (word (F := F) arg1 X1 d j) j).toNat ≤ 32775)
    (k : Fin k0_t2_loop.trips) (acc : Unit) :
    Inv2 c arg1 X1 arg2 X2 arg5 X5 arg6 arg7 X7 arg8 k.val
      ⊢ wp frame (wpE (defs₀ (F := F)) 𝒱 (c : Thread nD τ) bd) E (k0_t2_body i arg1 harg1 arg2 harg2 arg3 harg3 arg4 harg4 arg5 harg5 arg6 harg6 arg7 harg7 arg8 harg8 k acc)
          (fun _ => Inv2 c arg1 X1 arg2 X2 arg5 X5 arg6 arg7 X7 arg8 (k.val + 1)) := by
  unfold k0_t2_body
  have hstart : Inv2 c arg1 X1 arg2 X2 arg5 X5 arg6 arg7 X7 arg8 k.val
      ⊢ St c arg1 X1 arg7 X7 arg8 (iprop((arg2.view.loc (c : Thread nD τ) ↦[arg2.view.set]{fullShare} X2)
        ∗ ((arg5.view.loc (c : Thread nD τ) ↦[arg5.view.set]{fullShare} X5)
        ∗ (∃ f, (arg6.view.loc (c : Thread nD τ) ↦[arg6.view.set]{fullShare} f) ∗ ⌜Rows arg6 (docOut arg1 X1 arg2 X2 arg5 X5 arg7 X7) k.val f⌝))))
        (docIx k) (lenAt (F := F) arg2 X2 (docIx k)) 0 := by
    unfold Inv2 St
    iintro ⟨H1, H7, ⟨%f8, H8⟩, HR⟩
    isplitl [H1]; · iexact H1
    isplitl [H7]; · iexact H7
    isplitl [H8]
    · iexists f8; isplitl [H8]; · iexact H8
      ipureintro; exact fun j l hj => absurd hj (Nat.not_lt_zero _)
    iexact HR
  refine hstart.trans (step_part (F := F) 𝒱 c bd E ?_)
  refine slots_run 𝒱 c bd E i arg1 harg1 arg2 harg2 arg3 harg3 arg4 harg4 arg5 harg5 arg6 harg6 arg7 harg7 arg8 harg8 k (hin (docIx k)) fun a b => ?_
  refine step_word (F := F) 𝒱 c bd E rfl ?_
  refine step_check (F := F) 𝒱 c bd E (hin (docIx k)) (fun h => h) (by decide) fun _ => ?_
  refine step_row (F := F) 𝒱 c bd E rfl ?_
  refine step_dead (F := F) 𝒱 c bd E fun _ => ?_
  refine step_store (F := F) 𝒱 c bd E rfl (pay_eq (F := F) _) ?_
  unfold St
  iintro ⟨H1, H7, ⟨%f, H8, %hf⟩, H2, H5, %f6, H6, %h6⟩
  rw [lift_bind]
  iapply (wp_load 𝒱 (c : Thread nD τ) bd E (m := arg8) (S := arg8.view.set) (f := f) (View.setOn_subset_set _ _)) $$ H8
  iintro H8
  rw [Filled.read hf, lift_bind]
  iapply (wp_load 𝒱 (c : Thread nD τ) bd E (m := arg5) (S := arg5.view.set) (f := X5) (View.setOn_subset_set _ _)) $$ H5
  iintro H5
  rw [read_whole5, lift_bind]
  iapply (wp_load 𝒱 (c : Thread nD τ) bd E (m := arg6) (S := arg6.view.set) (f := f6) (View.setOn_subset_set _ _)) $$ H6
  iintro H6
  rw [lift_bind]
  iapply (wp_store 𝒱 (c : Thread nD τ) bd E (m := arg6) (r := Rect.unit (s := S1x8x2560) (k0_off293 k) S1x1x2560.size (k0_off293_inb k)) (Mk := Finset.univ) (S := arg6.view.set) (f := f6)
    (by rw [View.setOn_univ]; exact View.set_slice_subset _ _)) $$ H6
  iintro H6
  iapply (step_ret (F := F) 𝒱 c bd E (H := Inv2 c arg1 X1 arg2 X2 arg5 X5 arg6 arg7 X7 arg8 (k.val + 1)) .rfl)
  unfold Inv2
  isplitl [H1]; · iexact H1
  isplitl [H7]; · iexact H7
  isplitl [H8]; · iexists f; iexact H8
  isplitl [H2]; · iexact H2
  isplitl [H5]; · iexact H5
  iexists _; isplitl [H6]; · iexact H6
  ipureintro
  exact h6.store (e := docIx k) (docIx_val k) rfl rfl

set_option maxRecDepth 65536 in
set_option maxHeartbeats 1000000 in
/-- The loop: it stores the eight rows, and what follows may use them. -/
theorem loop2_run (i : grid0.Coords) (arg1 : Memref sig .tc .smem S1x8x135 .i32) (harg1 : arg1.IsWhole) (arg2 : Memref sig .tc .smem S1x1x8 .i32) (harg2 : arg2.IsWhole)
    (arg3 : Memref sig .tc .vmem S32768x96 .fp8e4m3) (harg3 : arg3.IsWhole) (arg4 : Memref sig .tc .vmem S32768x1 .f32) (harg4 : arg4.IsWhole)
    (arg5 : Memref sig .tc .vmem S128x2560 .bf16) (harg5 : arg5.IsWhole) (arg6 : Memref sig .tc .vmem S1x8x2560 .f32) (harg6 : arg6.IsWhole)
    (arg7 : Memref sig .tc .vmem S32776x1x128 .f32) (harg7 : arg7.IsWhole) (arg8 : Memref sig .tc .vmem S144x1x128 .f32) (harg8 : arg8.IsWhole)
    (X1 : BufTy.Contents (Elt F) arg1.view.ty) (X2 : BufTy.Contents (Elt F) arg2.view.ty) (X5 : BufTy.Contents (Elt F) arg5.view.ty)
    (X7 : BufTy.Contents (Elt F) arg7.view.ty)
    (hin : ∀ (d : Fin 8) (j : ℕ), j < 144 → (pick (lenAt (F := F) arg2 X2 d) (word (F := F) arg1 X1 d j) j).toNat ≤ 32775)
    (Q : PUnit → sProp 𝕄) :
    iprop(Inv2 c arg1 X1 arg2 X2 arg5 X5 arg6 arg7 X7 arg8 0 ∗ (Inv2 c arg1 X1 arg2 X2 arg5 X5 arg6 arg7 X7 arg8 8 -∗ Q ⟨⟩))
      ⊢ wp frame (wpE (defs₀ (F := F)) 𝒱 (c : Thread nD τ) bd) E
          (do Scf.Loop.for k0_t2_loop k0_t2_ok ⟨⟩ (k0_t2_body i arg1 harg1 arg2 harg2 arg3 harg3 arg4 harg4 arg5 harg5 arg6 harg6 arg7 harg7 arg8 harg8); pure ⟨⟩) Q := by
  have hb := Scf.wp_for_bind (Fr := frame) (wpE (defs₀ (F := F)) 𝒱 (c : Thread nD τ) bd) E k0_t2_loop.lb k0_t2_loop.ub k0_t2_loop.st k0_t2_ok ()
    (k0_t2_body (F := F) i arg1 harg1 arg2 harg2 arg3 harg3 arg4 harg4 arg5 harg5 arg6 harg6 arg7 harg7 arg8 harg8)
    (fun n _ => Inv2 c arg1 X1 arg2 X2 arg5 X5 arg6 arg7 X7 arg8 n)
    (fun k acc => trip_run 𝒱 c bd E i arg1 harg1 arg2 harg2 arg3 harg3 arg4 harg4 arg5 harg5 arg6 harg6 arg7 harg7 arg8 harg8 X1 X2 X5 X7 hin k acc)
    (kk := fun _ => pure PUnit.unit) (Q := Q)
  iintro ⟨HI, Hk⟩
  iapply hb $$ HI
  iintro %acc HI
  iapply (le_wp_ret _ _ _ PUnit.unit Q)
  iapply Hk
  have e8 : Scf.trips k0_t2_loop.lb k0_t2_loop.ub k0_t2_loop.st = 8 := t2_trips
  rw [e8]
  iexact HI

end Cert.Kernel.Hand

end
-- ==== Proof.Exact.Table.lean ====
/- The kernel's first loop, run at the first grid point only: it decodes the code table, 256 rows per trip, into scratch,
   and a row of zeros is stored after them. -/
module

public import proofs.«01_k».proof.Proof.Exact.Trip

@[expose] public section

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx (ix3 eq_ix3 ix2 eq_ix2)
open Cert.Kernel.Gen

/-- The decoding loop makes 128 trips. -/
theorem t1_trips : k0_t1_loop.trips = 128 := by decide

/-- Trip `k` works on the rows from `256 k` on. -/
theorem off_val (k : Fin k0_t1_loop.trips) : (Scalar.indexCast (Scalar.muli (Scf.iv 0#32 1#32 k) 256#32) : Index).toNat = 256 * k.val := by
  have h : ∀ k : Fin 128, (Scalar.indexCast (Scalar.muli (Scf.iv 0#32 1#32 k) 256#32) : Index).toNat = 256 * k.val := by decide
  exact h ⟨k.val, t1_trips ▸ k.isLt⟩

theorem off1_eq (k : Fin k0_t1_loop.trips) : k0_off1 k = ![256 * k.val, 0] :=
  (show k0_off1 k = ![(Scalar.indexCast (Scalar.muli (Scf.iv 0#32 1#32 k) 256#32) : Index).toNat, 0] from rfl).trans (by rw [off_val])
theorem off2_eq (k : Fin k0_t1_loop.trips) : k0_off2 k = ![256 * k.val, 0] :=
  (show k0_off2 k = ![(Scalar.indexCast (Scalar.muli (Scf.iv 0#32 1#32 k) 256#32) : Index).toNat, 0] from rfl).trans (by rw [off_val])
theorem off3_eq (k : Fin k0_t1_loop.trips) : k0_off3 k = ![256 * k.val, 0, 0] :=
  (show k0_off3 k = ![(Scalar.indexCast (Scalar.muli (Scf.iv 0#32 1#32 k) 256#32) : Index).toNat, 0, 0] from rfl).trans (by rw [off_val])

variable {F : FTy → Type} [FloatOps F]

local notation "𝕄" => MT nD τ sig Unit (Elt F) ℕ (UR sig nD τ) ℕ

variable (𝒱 : Variants) (c : Dev nD) (bd : Option 𝒱.V) (E : Set ℕ)

/-- The 256 rows of codes from row `256 k` on. -/
def codeBlk (C : Vec F S32768x96 .fp8e4m3) (k : ℕ) : Vec F S256x96 .fp8e4m3 :=
  fun y => C (ix2 ⟨min (256 * k + (y 0).val) 32767, by omega⟩ (y 1))

/-- The scales of those rows. -/
def scaleBlk (Sc : Vec F S32768x1 .f32) (k : ℕ) : Vec F S256x1 .f32 :=
  fun y => Sc (ix2 ⟨min (256 * k + (y 0).val) 32767, by omega⟩ 0)

/-- Entry `(r, l)` of the decoded table: decoded codes for the first 32768 rows, then zeros. -/
def tabAt (C : Vec F S32768x96 .fp8e4m3) (Sc : Vec F S32768x1 .f32) (r : ℕ) (l : Fin 128) : Elt F .f32 :=
  if r < 32768 then k0_pay1 (codeBlk C (r / 256)) (scaleBlk Sc (r / 256)) (ix3 ⟨r % 256, Nat.mod_lt _ (by decide)⟩ 0 l)
  else k0_pay2 (F := F) (ix3 0 0 l)

/-- The first `n` rows of the scratch table are decoded. -/
def TabTo (arg7 : Memref sig .tc .vmem S32776x1x128 .f32) (C : Vec F S32768x96 .fp8e4m3) (Sc : Vec F S32768x1 .f32) (n : ℕ)
    (f : BufTy.Contents (Elt F) arg7.view.ty) : Prop :=
  ∀ (r : Fin 32776) (l : Fin 128), r.val < n → arg7.view.read (Elt F) f (ix3 r 0 l) = tabAt C Sc r.val l

/-- Storing `m` rows from row `n` on adds them and keeps the rows before. -/
theorem TabTo.store {arg7 : Memref sig .tc .vmem S32776x1x128 .f32} {C : Vec F S32768x96 .fp8e4m3} {Sc : Vec F S32768x1 .f32} {n m : ℕ}
    {f : BufTy.Contents (Elt F) arg7.view.ty} (hf : TabTo arg7 C Sc n f) {off : Fin 3 → ℕ} (hoff : off = ![n, 0, 0])
    {inb : ∀ a, off a + (⟨3, ![m, 1, 128]⟩ : Shape).size a ≤ S32776x1x128.size a} {w : (⟨3, ![m, 1, 128]⟩ : Shape).Idx → Elt F .f32}
    (hw : ∀ (r : Fin m) (l : Fin 128), w (ix3 r 0 l) = tabAt C Sc (n + r.val) l) :
    TabTo arg7 C Sc (n + m) ((arg7.access (Rect.unit (s := S32776x1x128) off (⟨3, ![m, 1, 128]⟩ : Shape).size inb)).write (Elt F) f w Finset.univ) := by
  subst hoff
  intro r l hr
  by_cases hrn : r.val < n
  · have hmem : (ix3 r 0 l : S32776x1x128.Idx) ∉ Finset.univ.map (Rect.unit (s := S32776x1x128) ![n, 0, 0] (⟨3, ![m, 1, 128]⟩ : Shape).size inb).emb := by
      intro hmem
      obtain ⟨x, -, hx⟩ := Finset.mem_map.mp hmem
      have h0 : ((Rect.unit (s := S32776x1x128) ![n, 0, 0] (⟨3, ![m, 1, 128]⟩ : Shape).size inb).emb x 0).val = r.val := congrArg (fun z => (z 0).val) hx
      have h1 : n + 1 * (x 0).val = r.val := h0
      omega
    have hr' := View.read_slice_write_of_not_mem (v := arg7.view) (Val := Elt F) (Rect.unit (s := S32776x1x128) ![n, 0, 0] (⟨3, ![m, 1, 128]⟩ : Shape).size inb) f w
      Finset.univ hmem
    exact hr'.trans (hf r l hrn)
  · have hi : (Rect.unit (s := S32776x1x128) ![n, 0, 0] (⟨3, ![m, 1, 128]⟩ : Shape).size inb).emb (ix3 ⟨r.val - n, by omega⟩ 0 l) = ix3 r 0 l := by
      funext x
      match x with
      | ⟨0, _⟩ => exact Fin.ext (by show n + 1 * (r.val - n) = r.val; omega)
      | ⟨1, _⟩ => exact Fin.ext (by show 0 + 1 * 0 = 0; omega)
      | ⟨2, _⟩ => exact Fin.ext (by show 0 + 1 * l.val = l.val; omega)
    have hr' := View.read_slice_write_emb (v := arg7.view) (Val := Elt F) (Rect.unit (s := S32776x1x128) ![n, 0, 0] (⟨3, ![m, 1, 128]⟩ : Shape).size inb) f w
      (M := Finset.univ) (x := ix3 ⟨r.val - n, by omega⟩ 0 l) (Finset.mem_univ _)
    rw [hi] at hr'
    refine hr'.trans ((hw ⟨r.val - n, by omega⟩ l).trans ?_)
    show tabAt C Sc (n + (r.val - n)) l = tabAt C Sc r.val l
    rw [show n + (r.val - n) = r.val by omega]

/-- A block of rows of a rank-2 array, read at its offsets. -/
theorem read_blk3 {arg3 : Memref sig .tc .vmem S32768x96 .fp8e4m3} (X3 : BufTy.Contents (Elt F) arg3.view.ty) {k : ℕ} (hk : k < 128)
    {off : Fin 2 → ℕ} {inb : ∀ a, off a + S256x96.size a ≤ S32768x96.size a} (hoff : off = ![256 * k, 0]) :
    arg3.view.readAt (Elt F) (Rect.unit (s := S32768x96) off S256x96.size inb).toLoadRect X3 = codeBlk (arg3.view.read (Elt F) X3) k := by
  subst hoff
  funext y
  have h0 : (y 0).val < 256 := (y 0).isLt
  have hy : (Rect.unit (s := S32768x96) ![256 * k, 0] S256x96.size inb).emb y = ix2 ⟨min (256 * k + (y 0).val) 32767, by omega⟩ (y 1) := by
    funext x
    match x with
    | ⟨0, _⟩ => exact Fin.ext (by show 256 * k + 1 * (y 0).val = min (256 * k + (y 0).val) 32767; omega)
    | ⟨1, _⟩ => exact Fin.ext (by show 0 + 1 * (y 1).val = (y 1).val; omega)
  exact congrArg (arg3.view.read (Elt F) X3) hy

/-- The same of the scales. -/
theorem read_blk4 {arg4 : Memref sig .tc .vmem S32768x1 .f32} (X4 : BufTy.Contents (Elt F) arg4.view.ty) {k : ℕ} (hk : k < 128)
    {off : Fin 2 → ℕ} {inb : ∀ a, off a + S256x1.size a ≤ S32768x1.size a} (hoff : off = ![256 * k, 0]) :
    arg4.view.readAt (Elt F) (Rect.unit (s := S32768x1) off S256x1.size inb).toLoadRect X4 = scaleBlk (arg4.view.read (Elt F) X4) k := by
  subst hoff
  funext y
  have h0 : (y 0).val < 256 := (y 0).isLt
  have h1 : (y 1).val < 1 := (y 1).isLt
  have hy : (Rect.unit (s := S32768x1) ![256 * k, 0] S256x1.size inb).emb y = ix2 ⟨min (256 * k + (y 0).val) 32767, by omega⟩ 0 := by
    funext x
    match x with
    | ⟨0, _⟩ => exact Fin.ext (by show 256 * k + 1 * (y 0).val = min (256 * k + (y 0).val) 32767; omega)
    | ⟨1, _⟩ => exact Fin.ext (by show 0 + 1 * (y 1).val = 0; omega)
  exact congrArg (arg4.view.read (Elt F) X4) hy

/-- What the decoding loop holds after `n` trips: the codes and scales as they were, the first `256 n` rows decoded. -/
def Inv1 (arg3 : Memref sig .tc .vmem S32768x96 .fp8e4m3) (X3 : BufTy.Contents (Elt F) arg3.view.ty)
    (arg4 : Memref sig .tc .vmem S32768x1 .f32) (X4 : BufTy.Contents (Elt F) arg4.view.ty)
    (arg7 : Memref sig .tc .vmem S32776x1x128 .f32) (n : ℕ) : sProp 𝕄 :=
  iprop((arg3.view.loc (c : Thread nD τ) ↦[arg3.view.set]{fullShare} X3)
    ∗ (arg4.view.loc (c : Thread nD τ) ↦[arg4.view.set]{fullShare} X4)
    ∗ (∃ f, (arg7.view.loc (c : Thread nD τ) ↦[arg7.view.set]{fullShare} f)
        ∗ ⌜TabTo arg7 (arg3.view.read (Elt F) X3) (arg4.view.read (Elt F) X4) n f⌝))

set_option maxRecDepth 65536 in
set_option maxHeartbeats 4000000 in
/-- One trip: it decodes 256 more rows. -/
theorem decode_run (i : grid0.Coords) (arg1 : Memref sig .tc .smem S1x8x135 .i32) (harg1 : arg1.IsWhole) (arg2 : Memref sig .tc .smem S1x1x8 .i32) (harg2 : arg2.IsWhole)
    (arg3 : Memref sig .tc .vmem S32768x96 .fp8e4m3) (harg3 : arg3.IsWhole) (arg4 : Memref sig .tc .vmem S32768x1 .f32) (harg4 : arg4.IsWhole)
    (arg5 : Memref sig .tc .vmem S128x2560 .bf16) (harg5 : arg5.IsWhole) (arg6 : Memref sig .tc .vmem S1x8x2560 .f32) (harg6 : arg6.IsWhole)
    (arg7 : Memref sig .tc .vmem S32776x1x128 .f32) (harg7 : arg7.IsWhole) (arg8 : Memref sig .tc .vmem S144x1x128 .f32) (harg8 : arg8.IsWhole)
    (h1 : k0_cond1 i = 1#1)
    (X3 : BufTy.Contents (Elt F) arg3.view.ty) (X4 : BufTy.Contents (Elt F) arg4.view.ty) (k : Fin k0_t1_loop.trips) (acc : Unit) :
    Inv1 c arg3 X3 arg4 X4 arg7 (256 * k.val)
      ⊢ wp frame (wpE (defs₀ (F := F)) 𝒱 (c : Thread nD τ) bd) E (k0_t1_body i arg1 harg1 arg2 harg2 arg3 harg3 arg4 harg4 arg5 harg5 arg6 harg6 arg7 harg7 arg8 harg8 h1 k acc)
          (fun _ => Inv1 c arg3 X3 arg4 X4 arg7 (256 * (k.val + 1))) := by
  have hk : k.val < 128 := t1_trips ▸ k.isLt
  unfold k0_t1_body Inv1
  iintro ⟨H3, H4, %f, H7, %hf⟩
  rw [lift_bind]
  iapply (wp_load 𝒱 (c : Thread nD τ) bd E (m := arg3) (S := arg3.view.set) (f := X3) (View.setOn_subset_set _ _)) $$ H3
  iintro H3
  rw [read_blk3 X3 hk (off1_eq k), lift_bind]
  iapply (wp_load 𝒱 (c : Thread nD τ) bd E (m := arg4) (S := arg4.view.set) (f := X4) (View.setOn_subset_set _ _)) $$ H4
  iintro H4
  rw [read_blk4 X4 hk (off2_eq k), lift_bind]
  iapply (wp_load 𝒱 (c : Thread nD τ) bd E (m := arg7) (S := arg7.view.set) (f := f) (View.setOn_subset_set _ _)) $$ H7
  iintro H7
  rw [lift_bind]
  iapply (wp_store 𝒱 (c : Thread nD τ) bd E (m := arg7) (r := Rect.unit (s := S32776x1x128) (k0_off3 k) S256x1x128.size (k0_off3_inb i k h1)) (Mk := Finset.univ) (S := arg7.view.set) (f := f)
    (by rw [View.setOn_univ]; exact View.set_slice_subset _ _)) $$ H7
  iintro H7
  iapply (step_ret (F := F) 𝒱 c bd E (H := Inv1 c arg3 X3 arg4 X4 arg7 (256 * (k.val + 1))) .rfl)
  unfold Inv1
  isplitl [H3]; · iexact H3
  isplitl [H4]; · iexact H4
  iexists _; isplitl [H7]; · iexact H7
  ipureintro
  refine hf.store (off3_eq k) fun r l => ?_
  have hr : r.val < 256 := r.isLt
  unfold tabAt
  rw [if_pos (by omega)]
  have e1 : (256 * k.val + r.val) / 256 = k.val := by omega
  have e2 : (⟨(256 * k.val + r.val) % 256, Nat.mod_lt _ (by decide)⟩ : Fin 256) = r := Fin.ext (by show (256 * k.val + r.val) % 256 = r.val; omega)
  rw [e1, e2]

set_option maxRecDepth 65536 in
set_option maxHeartbeats 4000000 in
/-- The whole branch: the loop, then the row of zeros; what follows may use the decoded table. -/
theorem branch_run (i : grid0.Coords) (arg1 : Memref sig .tc .smem S1x8x135 .i32) (harg1 : arg1.IsWhole) (arg2 : Memref sig .tc .smem S1x1x8 .i32) (harg2 : arg2.IsWhole)
    (arg3 : Memref sig .tc .vmem S32768x96 .fp8e4m3) (harg3 : arg3.IsWhole) (arg4 : Memref sig .tc .vmem S32768x1 .f32) (harg4 : arg4.IsWhole)
    (arg5 : Memref sig .tc .vmem S128x2560 .bf16) (harg5 : arg5.IsWhole) (arg6 : Memref sig .tc .vmem S1x8x2560 .f32) (harg6 : arg6.IsWhole)
    (arg7 : Memref sig .tc .vmem S32776x1x128 .f32) (harg7 : arg7.IsWhole) (arg8 : Memref sig .tc .vmem S144x1x128 .f32) (harg8 : arg8.IsWhole)
    (h1 : k0_cond1 i = 1#1)
    (X3 : BufTy.Contents (Elt F) arg3.view.ty) (X4 : BufTy.Contents (Elt F) arg4.view.ty) (p : Prog (TpuEff nD τ sig (Elt F) Λ₀ .tc) PUnit) (Q : PUnit → sProp 𝕄) :
    iprop(Inv1 c arg3 X3 arg4 X4 arg7 0 ∗ (Inv1 c arg3 X3 arg4 X4 arg7 32769 -∗ wp frame (wpE (defs₀ (F := F)) 𝒱 (c : Thread nD τ) bd) E p Q))
      ⊢ wp frame (wpE (defs₀ (F := F)) 𝒱 (c : Thread nD τ) bd) E
          (do
            Scf.Loop.for k0_t1_loop (k0_t1_ok i h1) ⟨⟩ (k0_t1_body i arg1 harg1 arg2 harg2 arg3 harg3 arg4 harg4 arg5 harg5 arg6 harg6 arg7 harg7 arg8 harg8 h1)
            let v6 : Vec F S1x1x128 .f32 ← Prog.lift (.load arg7 (Rect.unit (s := S32776x1x128) ![32768, 0, 0] S1x1x128.size inb_S32776x1x128_S1x1x128_32768_0_0).toLoadRect (View.loadsAt_vmem h_S1x1x128))
            Prog.lift (.store arg7 (Rect.unit (s := S32776x1x128) ![32768, 0, 0] S1x1x128.size inb_S32776x1x128_S1x1x128_32768_0_0) (k0_pay2 (F := F)) Finset.univ (View.stores_vmem_bits_univ h_S1x1x128 rfl) (.inl rfl))
            p) Q := by
  have hb := fun kk => Scf.wp_for_bind (Fr := frame) (wpE (defs₀ (F := F)) 𝒱 (c : Thread nD τ) bd) E k0_t1_loop.lb k0_t1_loop.ub k0_t1_loop.st (k0_t1_ok i h1) ()
    (k0_t1_body (F := F) i arg1 harg1 arg2 harg2 arg3 harg3 arg4 harg4 arg5 harg5 arg6 harg6 arg7 harg7 arg8 harg8 h1)
    (fun n _ => Inv1 c arg3 X3 arg4 X4 arg7 (256 * n))
    (fun k acc => decode_run 𝒱 c bd E i arg1 harg1 arg2 harg2 arg3 harg3 arg4 harg4 arg5 harg5 arg6 harg6 arg7 harg7 arg8 harg8 h1 X3 X4 k acc)
    (kk := kk) (Q := Q)
  iintro ⟨HI, Hk⟩
  iapply (hb _) $$ HI
  iintro %acc HI
  have e8 : Scf.trips k0_t1_loop.lb k0_t1_loop.ub k0_t1_loop.st = 128 := t1_trips
  rw [e8]
  unfold Inv1
  icases HI with ⟨H3, H4, %f, H7, %hf⟩
  rw [lift_bind]
  iapply (wp_load 𝒱 (c : Thread nD τ) bd E (m := arg7) (S := arg7.view.set) (f := f) (View.setOn_subset_set _ _)) $$ H7
  iintro H7
  rw [lift_bind]
  iapply (wp_store 𝒱 (c : Thread nD τ) bd E (m := arg7) (r := Rect.unit (s := S32776x1x128) ![32768, 0, 0] S1x1x128.size inb_S32776x1x128_S1x1x128_32768_0_0) (Mk := Finset.univ) (S := arg7.view.set) (f := f)
    (by rw [View.setOn_univ]; exact View.set_slice_subset _ _)) $$ H7
  iintro H7
  iapply Hk
  isplitl [H3]; · iexact H3
  isplitl [H4]; · iexact H4
  iexists _; isplitl [H7]; · iexact H7
  ipureintro
  refine TabTo.store (n := 32768) (m := 1) hf rfl fun r l => ?_
  have hr : r.val < 1 := r.isLt
  unfold tabAt
  rw [if_neg (by omega)]
  have e2 : r = 0 := Fin.ext (by show r.val = 0; omega)
  rw [e2]

end Cert.Kernel.Hand

end
-- ==== Proof.Exact.Body.lean ====
/- What one run of the kernel's body leaves: the output block as a function of the five input blocks. At the first grid
   point the body decodes the table first; later points find it in scratch. -/
module

public import proofs.«01_k».proof.Proof.Exact.Table
public import proofs.«01_k».proof.Proof.Gen.Kernel.Frame

@[expose] public section

noncomputable section

namespace Cert.Kernel.Hand

open Idealize.ShloMosaic Idealize.ShloMosaic.TcCoe Idealize.ShloMosaic.Tactic Idealize.ShloMosaic.Pipeline
open Idealize.SL Idealize.SL.RA Idealize.SL.BI
open scoped Idealize.SL.BI
open Idealize.SL.BI.BIBase Idealize.SL.BI.Laws Idealize.SL.ProofMode Idealize.SL.Sem
open Idealize.ShloMosaic.ValueIdx (ix3 eq_ix3 ix2 eq_ix2)
open Cert.Kernel.Gen

variable {F : FTy → Type} [FloatOps F]

local notation "𝕄" => MT nD τ sig Unit (Elt F) ℕ (UR sig nD τ) ℕ

/-- The table row that slot `j` of document `d` picks, from the id block and the length block. -/
def slotRow (x1 : Vec F S1x8x135 .i32) (x2 : Vec F S1x1x8 .i32) (d : Fin 8) (j : ℕ) : ℕ :=
  (pick (x2 (ix3 0 0 d)) (x1 (ix3 0 d ⟨min j 134, by omega⟩)) j).toNat

/-- The rows gathered for document `d`, from the input blocks. -/
def lhsAt (x1 : Vec F S1x8x135 .i32) (x2 : Vec F S1x1x8 .i32) (x3 : Vec F S32768x96 .fp8e4m3) (x4 : Vec F S32768x1 .f32) (d : Fin 8) :
    Vec F S144x1x128 .f32 :=
  fun z => tabAt x3 x4 (slotRow (F := F) x1 x2 d (z 0).val) (z 2)

/-- The output block, from the input blocks. -/
def blkOut (x1 : Vec F S1x8x135 .i32) (x2 : Vec F S1x1x8 .i32) (x3 : Vec F S32768x96 .fp8e4m3) (x4 : Vec F S32768x1 .f32)
    (x5 : Vec F S128x2560 .bf16) : Vec F S1x8x2560 .f32 :=
  fun y => k0_pay4 (lhsAt x1 x2 x3 x4 (y 1)) x5 (ix3 0 0 (y 2))

/-- Every slot of the block picks a row that the table has. -/
def InTable (x1 : Vec F S1x8x135 .i32) (x2 : Vec F S1x1x8 .i32) : Prop :=
  ∀ (d : Fin 8) (j : ℕ), j < 144 → slotRow (F := F) x1 x2 d j ≤ 32768

/-- With the table decoded, the gathered rows are the decoded ones. -/
theorem gath_eq {arg1 : Memref sig .tc .smem S1x8x135 .i32} {X1 : BufTy.Contents (Elt F) arg1.view.ty}
    {arg2 : Memref sig .tc .smem S1x1x8 .i32} {X2 : BufTy.Contents (Elt F) arg2.view.ty}
    {arg7 : Memref sig .tc .vmem S32776x1x128 .f32} {X7 : BufTy.Contents (Elt F) arg7.view.ty}
    {x3 : Vec F S32768x96 .fp8e4m3} {x4 : Vec F S32768x1 .f32}
    (hin : InTable (F := F) (arg1.view.read (Elt F) X1) (arg2.view.read (Elt F) X2)) (h7 : TabTo arg7 x3 x4 32769 X7) (d : Fin 8) :
    gath arg1 X1 arg2 X2 arg7 X7 d = lhsAt (F := F) (arg1.view.read (Elt F) X1) (arg2.view.read (Elt F) X2) x3 x4 d := by
  funext z
  have hz : (z 0).val < 144 := (z 0).isLt
  have hp := hin d (z 0).val hz
  have h := h7 ⟨min (slotRow (F := F) (arg1.view.read (Elt F) X1) (arg2.view.read (Elt F) X2) d (z 0).val) 32775, by omega⟩ (z 2)
    (by show min _ 32775 < 32769; omega)
  refine Eq.trans ?_ (h.trans ?_)
  · rfl
  · show tabAt x3 x4 (min _ 32775) (z 2) = tabAt x3 x4 _ (z 2)
    rw [Nat.min_eq_left (by omega)]

set_option maxRecDepth 65536 in
set_option maxHeartbeats 4000000 in
/-- The body: from the input blocks and a table decoded already (or about to be, at the first point) it leaves the
    output block at `blkOut` and the table decoded. -/
theorem sound_kernel (c : Dev nD) (E : Set ℕ) (i : grid0.Coords) (arg1 : Memref sig .tc .smem S1x8x135 .i32) (harg1 : arg1.IsWhole) (arg2 : Memref sig .tc .smem S1x1x8 .i32) (harg2 : arg2.IsWhole)
    (arg3 : Memref sig .tc .vmem S32768x96 .fp8e4m3) (harg3 : arg3.IsWhole) (arg4 : Memref sig .tc .vmem S32768x1 .f32) (harg4 : arg4.IsWhole)
    (arg5 : Memref sig .tc .vmem S128x2560 .bf16) (harg5 : arg5.IsWhole) (arg6 : Memref sig .tc .vmem S1x8x2560 .f32) (harg6 : arg6.IsWhole)
    (arg7 : Memref sig .tc .vmem S32776x1x128 .f32) (harg7 : arg7.IsWhole) (arg8 : Memref sig .tc .vmem S144x1x128 .f32) (harg8 : arg8.IsWhole)
    (x1 : Vec F S1x8x135 .i32) (x2 : Vec F S1x1x8 .i32) (x3 : Vec F S32768x96 .fp8e4m3) (x4 : Vec F S32768x1 .f32) (x5 : Vec F S128x2560 .bf16)
    (hin : InTable (F := F) x1 x2) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare x5 ∗ (∃ d, owns (c : Thread nD τ) arg6 fullShare d)
        ∗ (∃ f, (arg7.view.loc (c : Thread nD τ) ↦[arg7.view.set]{fullShare} f) ∗ ⌜k0_cond1 i ≠ 1#1 → TabTo arg7 x3 x4 32769 f⌝)
        ∗ (∃ f, arg8.view.loc (c : Thread nD τ) ↦[arg8.view.set]{fullShare} f)
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare x5
            ∗ owns (c : Thread nD τ) arg6 fullShare (blkOut x1 x2 x3 x4 x5)
            ∗ (∃ f, (arg7.view.loc (c : Thread nD τ) ↦[arg7.view.set]{fullShare} f) ∗ ⌜TabTo arg7 x3 x4 32769 f⌝)
            ∗ (∃ f, arg8.view.loc (c : Thread nD τ) ↦[arg8.view.set]{fullShare} f)) -∗ K ⟨⟩))
      ⊢ wp frame (wpE (defs₀ (F := F)) Variants.none (c : Thread nD τ) none) E (cc0_plaid i arg1 harg1 arg2 harg2 arg3 harg3 arg4 harg4 arg5 harg5 arg6 harg6 arg7 harg7 arg8 harg8) K := by
  simp only [cc0_plaid_eq_skeleton]; unfold cc0_plaid_skel
  unfold owns
  iintro ⟨⟨%f1, %h1, H1⟩, ⟨%f2, %h2, H2⟩, ⟨%f3, %h3, H3⟩, ⟨%f4, %h4, H4⟩, ⟨%f5, %h5, H5⟩, ⟨%d6, %f6, -, H6⟩, ⟨%f7, H7, %h7⟩, ⟨%f8, H8⟩, Hk⟩
  subst h1 h2 h3 h4 h5
  have htail : ∀ g7, TabTo arg7 (arg3.view.read (Elt F) f3) (arg4.view.read (Elt F) f4) 32769 g7 →
      iprop((arg1.view.loc (c : Thread nD τ) ↦[arg1.view.set]{fullShare} f1) ∗ (arg2.view.loc (c : Thread nD τ) ↦[arg2.view.set]{fullShare} f2)
        ∗ (arg3.view.loc (c : Thread nD τ) ↦[arg3.view.set]{fullShare} f3) ∗ (arg4.view.loc (c : Thread nD τ) ↦[arg4.view.set]{fullShare} f4)
        ∗ (arg5.view.loc (c : Thread nD τ) ↦[arg5.view.set]{fullShare} f5) ∗ (arg6.view.loc (c : Thread nD τ) ↦[arg6.view.set]{fullShare} f6)
        ∗ (arg7.view.loc (c : Thread nD τ) ↦[arg7.view.set]{fullShare} g7) ∗ (arg8.view.loc (c : Thread nD τ) ↦[arg8.view.set]{fullShare} f8)
        ∗ (iprop((∃ f, ⌜arg1.view.read (Elt F) f = arg1.view.read (Elt F) f1⌝ ∗ (arg1.view.loc (c : Thread nD τ) ↦[arg1.view.set]{fullShare} f))
            ∗ (∃ f, ⌜arg2.view.read (Elt F) f = arg2.view.read (Elt F) f2⌝ ∗ (arg2.view.loc (c : Thread nD τ) ↦[arg2.view.set]{fullShare} f))
            ∗ (∃ f, ⌜arg3.view.read (Elt F) f = arg3.view.read (Elt F) f3⌝ ∗ (arg3.view.loc (c : Thread nD τ) ↦[arg3.view.set]{fullShare} f))
            ∗ (∃ f, ⌜arg4.view.read (Elt F) f = arg4.view.read (Elt F) f4⌝ ∗ (arg4.view.loc (c : Thread nD τ) ↦[arg4.view.set]{fullShare} f))
            ∗ (∃ f, ⌜arg5.view.read (Elt F) f = arg5.view.read (Elt F) f5⌝ ∗ (arg5.view.loc (c : Thread nD τ) ↦[arg5.view.set]{fullShare} f))
            ∗ (∃ f, ⌜arg6.view.read (Elt F) f = blkOut (arg1.view.read (Elt F) f1) (arg2.view.read (Elt F) f2) (arg3.view.read (Elt F) f3) (arg4.view.read (Elt F) f4) (arg5.view.read (Elt F) f5)⌝
                ∗ (arg6.view.loc (c : Thread nD τ) ↦[arg6.view.set]{fullShare} f))
            ∗ (∃ f, (arg7.view.loc (c : Thread nD τ) ↦[arg7.view.set]{fullShare} f) ∗ ⌜TabTo arg7 (arg3.view.read (Elt F) f3) (arg4.view.read (Elt F) f4) 32769 f⌝)
            ∗ (∃ f, arg8.view.loc (c : Thread nD τ) ↦[arg8.view.set]{fullShare} f)) -∗ K ⟨⟩))
      ⊢ wp frame (wpE (defs₀ (F := F)) Variants.none (c : Thread nD τ) none) E
          (do Scf.Loop.for k0_t2_loop k0_t2_ok ⟨⟩ (k0_t2_body i arg1 harg1 arg2 harg2 arg3 harg3 arg4 harg4 arg5 harg5 arg6 harg6 arg7 harg7 arg8 harg8); pure ⟨⟩) K := by
    intro g7 hg7
    iintro ⟨H1, H2, H3, H4, H5, H6, H7, H8, Hk⟩
    iapply (loop2_run Variants.none c none E i arg1 harg1 arg2 harg2 arg3 harg3 arg4 harg4 arg5 harg5 arg6 harg6 arg7 harg7 arg8 harg8 f1 f2 f5 g7
      (fun d j hj => (hin d j hj).trans (by decide)) K)
    unfold Inv2
    isplitl [H1 H2 H5 H6 H7 H8]
    · isplitl [H1]; · iexact H1
      isplitl [H7]; · iexact H7
      isplitl [H8]; · iexists f8; iexact H8
      isplitl [H2]; · iexact H2
      isplitl [H5]; · iexact H5
      iexists f6; isplitl [H6]; · iexact H6
      ipureintro; exact fun d q hd => absurd hd (Nat.not_lt_zero _)
    iintro ⟨H1, H7, H8, H2, H5, %g6, H6, %hg6⟩
    iapply Hk
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists g6; isplitr
      · ipureintro
        funext y
        have hy : y = ix3 0 (y 1) (y 2) := by
          funext a
          have h0 : (y 0).val < 1 := (y 0).isLt
          match a with
          | ⟨0, _⟩ => exact Fin.ext (by show (y 0).val = 0; omega)
          | ⟨1, _⟩ => rfl
          | ⟨2, _⟩ => rfl
        refine (congrArg (arg6.view.read (Elt F) g6) hy).trans ((hg6 (y 1) (y 2) (y 1).isLt).trans ?_)
        exact congrArg (fun g => k0_pay4 g (arg5.view.read (Elt F) f5) (ix3 0 0 (y 2))) (gath_eq hin hg7 (y 1))
      iexact H6
    isplitl [H7]
    · iexists g7; isplitl [H7]; · iexact H7
      ipureintro; exact hg7
    iexact H8
  by_cases hc : k0_cond1 i = 1#1
  · rw [dif_pos hc]
    iapply (branch_run Variants.none c none E i arg1 harg1 arg2 harg2 arg3 harg3 arg4 harg4 arg5 harg5 arg6 harg6 arg7 harg7 arg8 harg8 hc f3 f4 _ K)
    isplitl [H3 H4 H7]
    · unfold Inv1
      isplitl [H3]; · iexact H3
      isplitl [H4]; · iexact H4
      iexists f7; isplitl [H7]; · iexact H7
      ipureintro; exact fun r l hr => absurd hr (Nat.not_lt_zero _)
    unfold Inv1
    iintro ⟨H3, H4, %g7, H7, %hg7⟩
    iapply (htail g7 hg7)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact Hk
  · rw [dif_neg hc]
    iapply (htail f7 (h7 hc))
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact Hk

end Cert.Kernel.Hand

end
-- ==== Proof.Exact.Run.lean ====
/- The kernel's run: at every grid point the body leaves the output block at `blkOut` of the input blocks, so the run ends
   with the output array at those blocks, with the arguments unchanged and with every semaphore counter at zero. -/
module

public import proofs.«01_k».proof.Proof.Exact.Body
public import Idealize.ShloMosaic.Lib.Claim

@[expose] public section

noncomputable section

namespace Cert.Kernel.Hand

open Idealize.ShloMosaic Idealize.ShloMosaic.TcCoe Idealize.ShloMosaic.Tactic Idealize.ShloMosaic.Pipeline
open Idealize.SL Idealize.SL.RA Idealize.SL.BI
open scoped Idealize.SL.BI
open Idealize.SL.BI.BIBase Idealize.SL.BI.Laws Idealize.SL.ProofMode Idealize.SL.Sem
open Idealize.ShloMosaic.ValueIdx (ix3 eq_ix3 ix2 eq_ix2)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first grid point. -/
def pt0 : Fin cfg0.N := ⟨0, by decide⟩

/-- The body decodes the table exactly at the first point. -/
theorem cond_iff (t : Fin cfg0.N) : k0_cond1 (grid0.coords t) = 1#1 ↔ t.val = 0 := by
  have ht : t.val < 125 := N_0 ▸ t.isLt
  have hc : ((grid0.coords t) 0).val = t.val := by
    rw [Grid.coords_val (G := grid0) t 0 (S := 1) (B := 125) (by decide) rfl]
    omega
  have h : ∀ n : Fin 125, (Scalar.cmpi .ne (Scalar.extui (Scalar.cmpi .eq (BitVec.ofNat 32 n.val) 0#32) : BitVec 32) 0#32 : BitVec 1) = 1#1 ↔ n.val = 0 := by decide
  show (Scalar.cmpi .ne (Scalar.extui (Scalar.cmpi .eq (BitVec.ofNat 32 ((grid0.coords t) 0).val) 0#32) : BitVec 32) 0#32 : BitVec 1) = 1#1 ↔ t.val = 0
  rw [hc]
  exact h ⟨t.val, ht⟩

/-- The block of codes is the same at every point. -/
theorem iblk2_const (c : Dev nD) (t : Fin cfg0.N) : iblk m c 2 t = iblk m c 2 pt0 := rfl

/-- The block of scales is the same at every point. -/
theorem iblk3_const (c : Dev nD) (t : Fin cfg0.N) : iblk m c 3 t = iblk m c 3 pt0 := rfl

/-- What the core holds besides the windows before point `n`: the scratch table, decoded once a point has run; the gather
    buffer at anything; the generator register. -/
def Inv (c : Dev nD) (n : ℕ) : sProp 𝕄 :=
  iprop(((∃ f : Buf (Elt F) ((c : Thread nD τ).loc cc0_scratch0), (((c : Thread nD τ).loc cc0_scratch0) ↦{fullShare} f)
        ∗ ⌜n ≠ 0 → TabTo (Memref.whole cc0_scratch0) (iblk m c 2 pt0) (iblk m c 3 pt0) 32769 f⌝)
      ∗ (∃ f : Buf (Elt F) ((c : Thread nD τ).loc cc0_scratch1), ((c : Thread nD τ).loc cc0_scratch1) ↦{fullShare} f))
    ∗ ∃ r, prngReg c r)

/-- The pipeline's proof data: the arrays as the region finds them, every input block in place after the body, the output
    block at `blkOut` of the input blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => blkOut (iblk m c 0 t) (iblk m c 1 t) (iblk m c 2 t) (iblk m c 3 t) (iblk m c 4 t)
  Φ t := Inv m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t
    = blkOut (iblk m c 0 t) (iblk m c 1 t) (iblk m c 2 t) (iblk m c 3 t) (iblk m c 4 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- Every document's slots pick rows of the table, at every point. -/
def Picks : Prop := ∀ (c : Dev nD) (t : Fin cfg0.N), InTable (F := F) (iblk m c 0 t) (iblk m c 1 t)

set_option maxRecDepth 65536 in
set_option maxHeartbeats 4000000 in
/-- The body at any point. -/
theorem sound_body (hin : Picks m) (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl,
    show (dats m 0 c).Φ t.succ = Inv m c (t.val + 1) from rfl, show (dats m 0 c).Φ t.castSucc = Inv m c t.val from rfl,
    after0_0, after0_1, after0_2, after0_3, after0_4, after0_5]
  unfold Inv
  iintro ⟨⟨⟨⟨%f7, H7, %h7⟩, ⟨%f8, H8⟩⟩, Hr⟩, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ _ _ _ _ (iblk m c 0 t) (iblk m c 1 t) (iblk m c 2 t) (iblk m c 3 t) (iblk m c 4 t) (hin c t) _)
  isplitl [H0]; · iexact H0
  isplitl [H1]; · iexact H1
  isplitl [H2]; · iexact H2
  isplitl [H3]; · iexact H3
  isplitl [H4]; · iexact H4
  isplitl [H5]; · iexists _; iexact H5
  isplitl [H7]
  · iexists f7
    rw [show ((Memref.whole cc0_scratch0 : Memref sig .tc .vmem S32776x1x128 .f32).view.set) = Finset.univ from View.set_whole _]
    isplitl [H7]; · iexact H7
    ipureintro
    intro hc
    rw [iblk2_const, iblk3_const]
    exact h7 fun h => hc ((cond_iff t).mpr h)
  isplitl [H8]
  · iexists f8
    rw [show ((Memref.whole cc0_scratch1 : Memref sig .tc .vmem S144x1x128 .f32).view.set) = Finset.univ from View.set_whole _]
    iexact H8
  rw [show ((Memref.whole cc0_scratch0 : Memref sig .tc .vmem S32776x1x128 .f32).view.set) = Finset.univ from View.set_whole _,
    show ((Memref.whole cc0_scratch1 : Memref sig .tc .vmem S144x1x128 .f32).view.set) = Finset.univ from View.set_whole _]
  iintro ⟨H0, H1, H2, H3, H4, H5, ⟨%g7, H7, %hg7⟩, ⟨%g8, H8⟩⟩
  isplitl [H7 H8 Hr]
  · isplitl [H7 H8]
    · isplitl [H7]
      · iexists g7; isplitl [H7]; · iexact H7
        ipureintro
        intro _
        rw [iblk2_const, iblk3_const] at hg7
        exact hg7
      iexists g8; iexact H8
    iexact Hr
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (hin : Picks m) (c : Dev nD) : BodyObligation (dats (F := F) m 0 c) (defs₀ (F := F)) Variants.none () Set.univ := fun t => by
  rw [bigSep_W0, bigSep_W0, defs₀_row]
  exact triple_restated (sound_body m hin c t) rfl .rfl fun _ => .rfl

/-- At the start the scratch holds anything. -/
theorem inv_in (c : Dev nD) : Pipeline.ΦA spec0 c ⊢ (dats m 0 c).Φ 0 := by
  rw [show (dats m 0 c).Φ 0 = Inv m c 0 from rfl]
  unfold Pipeline.ΦA Inv
  rw [scopedRest0_eq]
  iintro ⟨⟨⟨%f, H7⟩, H8⟩, Hr⟩
  isplitr [Hr]
  · isplitl [H7]
    · iexists f; isplitl [H7]; · iexact H7
      ipureintro; exact fun h => absurd rfl h
    iexact H8
  iexact Hr

/-- At the end too. -/
theorem inv_out (c : Dev nD) : (dats m 0 c).Φ (Fin.last cfg0.N) ⊢ Pipeline.ΦA spec0 c := by
  rw [show (dats m 0 c).Φ (Fin.last cfg0.N) = Inv m c cfg0.N from rfl]
  unfold Pipeline.ΦA Inv
  rw [scopedRest0_eq]
  iintro ⟨⟨⟨%f, H7, -⟩, H8⟩, Hr⟩
  isplitr [Hr]
  · isplitl [H7]
    · iexists f; iexact H7
    iexact H8
  iexact Hr

-- the implicit arguments are found by unifying its conclusion with this one, which takes unfolding plain definitions in a
-- metavariable's type
set_option backward.isDefEq.respectTransparency.types false in
set_option maxHeartbeats 800000 in
/-- The run ends with the output array at the blocks the body leaves and every counter at zero. -/
theorem run_main_quiescent (hin : Picks m) : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m hin c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := inv_in m) (hout := inv_out m)

/-- The same without the counters. -/
theorem run_main (hin : Picks m) : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ hin)

/-- The frame: the arguments end unchanged and the counters at zero. -/
theorem frame (hin : Picks m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ hin)) ((θ_run defs _ _).mono (fun _ h => h.2) (run_main_quiescent m ρ hin))

end Cert.Kernel.Hand

end
-- ==== Proof.Exact.Picks.lean ====
/- The kernel's input blocks at an index, and that under the precondition every document's slots pick rows of the table. -/
module

public import proofs.«01_k».proof.Proof.Exact.Run
public import proofs.«01_k».proof.Proof.Pre
public import Idealize.ShloMosaic.Lib.Pipeline.ValueKit
public import Idealize.ShloMosaic.Lib.StableHlo.ReadAt

@[expose] public section

set_option maxRecDepth 16384

noncomputable section

namespace Cert.Kernel.Hand

open Idealize.ShloMosaic hiding ix1 ix2 ix3
open Idealize.ShloMosaic.TcCoe Idealize.ShloMosaic.Tactic Idealize.ShloMosaic.Pipeline
open Idealize.ShloMosaic.ValueIdx (ix3 eq_ix3 ix2 eq_ix2 ix1)
open Cert.Kernel.Gen

variable {F : FTy → Type} [FloatOps F]

variable (m : (ℓ : Loc nD τ sig) → Buf (Elt F) ℓ)

/-- The number of document `d` of block `t`. -/
def docNo (t : Fin cfg0.N) (d : Fin 8) : Fin 1000 := ⟨8 * t.val + d.val, by
  have h : t.val < 125 := N_0 ▸ (show t.val < grid0.N from t.isLt)
  have := d.isLt; omega⟩

/-- The number of block `t` in the reshaped arrays. -/
def blkNo (t : Fin cfg0.N) : Fin 125 := ⟨t.val, N_0 ▸ (show t.val < grid0.N from t.isLt)⟩

/-- The block indices of the windows, at every point. -/
theorem idx0_0 : ∀ t : Fin cfg0.N, ((cfg0.win 0).index t 0 = t.val ∧ (cfg0.win 0).index t 1 = 0 ∧ (cfg0.win 0).index t 2 = 0) := by
  decide +kernel
theorem idx0_1 : ∀ t : Fin cfg0.N, ((cfg0.win 1).index t 0 = t.val ∧ (cfg0.win 1).index t 1 = 0 ∧ (cfg0.win 1).index t 2 = 0) := by
  decide +kernel

/-- The ids' array, as the region finds it. -/
theorem V_ids (c : Dev nD) (y : S125x8x135.Idx) :
    V m c main_v3 y = shapeCast S125x8x135 (m ((c : Thread nD τ).loc main_arg3)) shapeCasts_S1000x135_S125x8x135 y := by
  unfold V V0
  simp only [hostOps0, hostOps0_1, hostOps0_2, List.flatten_cons, List.flatten_nil, List.append_nil, List.cons_append, List.nil_append]
  after_reads_simp
  rfl

/-- The lengths' array, as the region finds it. -/
theorem V_lens (c : Dev nD) (y : S125x1x8.Idx) :
    V m c main_v4 y = shapeCast S125x1x8 (m ((c : Thread nD τ).loc main_arg4)) shapeCasts_S1000_S125x1x8 y := by
  unfold V V0
  simp only [hostOps0, hostOps0_1, hostOps0_2, List.flatten_cons, List.flatten_nil, List.append_nil, List.cons_append, List.nil_append]
  after_reads_simp
  rfl

/-- The reshaped ids at document `d` of block `t`. -/
theorem cast_ids {α : Type} (x : S1000x135.Idx → α) (h : S1000x135.ShapeCasts S125x8x135) (t : Fin cfg0.N) (d : Fin 8) (j : Fin 135) :
    shapeCast S125x8x135 x h (ix3 (blkNo t) d j) = x (ix2 (docNo t d) j) := by
  refine shapeCast_apply x h _ _ ?_
  rw [Shape.rowMajor_val_three, Shape.rowMajor_val_two]
  show (8 * t.val + d.val) * 135 + j.val = (t.val * 8 + d.val) * 135 + j.val
  omega

/-- The reshaped lengths at document `d` of block `t`. -/
theorem cast_lens {α : Type} (x : S1000.Idx → α) (h : S1000.ShapeCasts S125x1x8) (t : Fin cfg0.N) (d : Fin 8) :
    shapeCast S125x1x8 x h (ix3 (blkNo t) 0 d) = x (ix1 (docNo t d)) := by
  refine shapeCast_apply x h _ _ ?_
  rw [Shape.rowMajor_val_three, Shape.rowMajor_val_one]
  show 8 * t.val + d.val = (t.val * 1 + 0) * 8 + d.val
  omega

/-- The id block at an index. -/
theorem iblk0_apply (c : Dev nD) (t : Fin cfg0.N) (d : Fin 8) (j : Fin 135) :
    iblk m c 0 t (ix3 0 d j) = m ((c : Thread nD τ).loc main_arg3) (ix2 (docNo t d) j) := by
  obtain ⟨e0, e1, e2⟩ := idx0_0 t
  have hx : ((cfg0.win 0).blk t).view.emb (ix3 0 d j) = ix3 (blkNo t) d j := by
    blk_ext [e0, e1, e2, blkNo]
  unfold iblk
  rw [View.read_apply, cast_eq, hx]
  exact (V_ids m c _).trans (cast_ids _ _ t d j)

/-- The length block at an index. -/
theorem iblk1_apply (c : Dev nD) (t : Fin cfg0.N) (d : Fin 8) :
    iblk m c 1 t (ix3 0 0 d) = m ((c : Thread nD τ).loc main_arg4) (ix1 (docNo t d)) := by
  obtain ⟨e0, e1, e2⟩ := idx0_1 t
  have hx : ((cfg0.win 1).blk t).view.emb (ix3 0 0 d) = ix3 (blkNo t) 0 d := by
    blk_ext [e0, e1, e2, blkNo]
  unfold iblk
  rw [View.read_apply, cast_eq, hx]
  exact (V_lens m c _).trans (cast_lens _ _ t d)

/-- If every token within its document's length names a row below 32768, every slot picks a row of the table: the token's
    row when the slot is within the length, the zero row otherwise. -/
theorem picks_of (h : ∀ (c : Dev nD) (n : Fin 1000) (j : Fin 135),
      (BitVec.ofNat 32 j.val).slt (m ((c : Thread nD τ).loc main_arg4) (ix1 n)) = true →
      (m ((c : Thread nD τ).loc main_arg3) (ix2 n j)).toNat < 32768) : Picks m := by
  intro c t d j hj
  have hm : min j 134 < 135 := by omega
  show (pick (iblk m c 1 t (ix3 0 0 d)) (iblk m c 0 t (ix3 0 d ⟨min j 134, hm⟩)) j).toNat ≤ 32768
  rw [iblk0_apply, iblk1_apply]
  generalize hl : m ((c : Thread nD τ).loc main_arg4) (ix1 (docNo t d)) = len
  have h' := h c (docNo t d) ⟨min j 134, hm⟩
  rw [hl] at h'
  generalize m ((c : Thread nD τ).loc main_arg3) (ix2 (docNo t d) ⟨min j 134, hm⟩) = w at *
  have hp : pick len w j = if (BitVec.ofNat 32 j).slt len = true then w else 32768#32 := by
    show Scalar.select (BitVec.ofBool ((BitVec.ofNat 32 j).slt len)) w 32768#32 = _
    cases (BitVec.ofNat 32 j).slt len <;> rfl
  rw [hp]
  split
  · rename_i hs
    refine (h' ?_).le
    simp only [BitVec.slt, decide_eq_true_eq, BitVec.toInt, BitVec.toNat_ofNat] at hs ⊢
    split at hs <;> split at hs <;> split <;> omega
  · decide

end Cert.Kernel.Hand

end
-- ==== Proof.Frames.lean ====
/- The two kernel frames: under the precondition the kernel, over machine floats and over the extended reals, terminates without
   fault, leaves its arguments unchanged and every semaphore counter at zero. -/
module

public import proofs.«01_k».proof.Defs
public import proofs.«01_k».proof.Proof.Picks
public import proofs.«01_k».proof.Proof.Exact.Picks

@[expose] public section

namespace Cert.Proof

open Idealize.ShloMosaic hiding ix1 ix2
open Idealize.ShloMosaic.TcCoe Idealize.SL.Sem
open Idealize.ShloMosaic.ValueIdx (ix2 ix1)

/-- Under the precondition over the extended reals every slot picks a row of the table. -/
theorem picks_ideal (m : (ℓ : Loc Cert.KernelIdeal.nD Cert.KernelIdeal.τ Cert.KernelIdeal.sig) → Buf (Elt Ideal) ℓ)
    (h : Cert.Pre_KernelIdeal m) : Cert.KernelIdeal.Hand.Picks m :=
  Cert.KernelIdeal.Hand.picks_of m fun c n j hj => Cert.Pre.id_lt _ _ _ _ _ (h c) n j hj

/-- The kernel's frame over the extended reals. -/
theorem frame_ideal : Cert.quiescent_KernelIdeal := fun m g h =>
  Cert.KernelIdeal.Hand.frame m g (picks_ideal m h)

/-- The kernel's frame over machine floats. -/
theorem frame_bits : Cert.quiescent_Kernel := fun m g h =>
  Cert.Kernel.Hand.frame m g (Cert.Kernel.Hand.picks_of m fun c n j hj => Cert.Pre.id_lt _ _ _ _ _ (h c) n j hj)

end Cert.Proof
-- ==== Proof.Spec.lean ====
/- What both programs compute, over the extended reals: for every document, query and query token the best thresholded score among
   the document's tokens; and the two equations between sums and maxima by which the kernel's way of computing it gives the same. -/
module

public import Idealize.ShloMosaic.PureOps.Ideal
public import Idealize.ShloMosaic.Lib.Pointwise

@[expose] public section

noncomputable section

namespace Cert.Spec

open Idealize.ShloMosaic

/-- The threshold that is taken off every score. -/
def thr : EReal := Ideal.ofBits FTy.f32 0x3EE66666#32

/-- The threshold is not negative. -/
theorem thr_nonneg : 0 ≤ thr := by
  unfold thr
  simp [Ideal.ofBits, Ideal.ieee]
  exact mul_nonneg (EReal.coe_nonneg.mpr (by norm_num)) (EReal.coe_nonneg.mpr (by norm_num))

/-- The least float is the bottom of the extended reals. -/
theorem bot_bits : Ideal.ofBits FTy.f32 0xFF800000#32 = ⊥ := by
  simp [Ideal.ofBits, Ideal.ieee]

/-- Nothing minus the threshold is at most nothing. -/
theorem max_zero_thr : max (0 - thr) 0 = 0 := by
  refine max_eq_right ?_
  rw [zero_sub, EReal.neg_le_zero]
  exact thr_nonneg

/-- The arrays of the problem. -/
abbrev Q := (⟨3, ![40, 64, 96]⟩ : Shape).Idx → EReal
abbrev Codes := (⟨2, ![32768, 96]⟩ : Shape).Idx → EReal
abbrev Scale := (⟨1, ![32768]⟩ : Shape).Idx → EReal
abbrev Ids := (⟨2, ![1000, 135]⟩ : Shape).Idx → BitVec 32
abbrev Lens := (⟨1, ![1000]⟩ : Shape).Idx → BitVec 32

/-- The row a token names. -/
def tok (w : BitVec 32) : Fin 32768 := ⟨min w.toNat 32767, by omega⟩

/-- The score of row `k` for token `i` of query `b`: the product of the codes with the query token, times the row's scale. -/
def raw (q : Q) (codes : Codes) (scale : Scale) (b : Fin 40) (i : Fin 64) (k : Fin 32768) : EReal :=
  (∑ d : Fin 96, codes (ix2 k d) * q (ix3 b i d)) * scale (ix1 k)

/-- The thresholded score. -/
def hit (q : Q) (codes : Codes) (scale : Scale) (b : Fin 40) (i : Fin 64) (k : Fin 32768) : EReal :=
  max (raw q codes scale b i k - thr) 0

/-- The best thresholded score of document `n`'s tokens for token `i` of query `b`; a position past the document's length counts zero. -/
def best (q : Q) (codes : Codes) (scale : Scale) (ids : Ids) (lens : Lens) (n : Fin 1000) (b : Fin 40) (i : Fin 64) : EReal :=
  Finset.univ.fold max ⊥ fun j : Fin 135 =>
    if (BitVec.ofNat 32 j.val).slt (lens (ix1 n)) = true then hit q codes scale b i (tok (ids (ix2 n j))) else 0

/-- The array of them, by document, query and query token. -/
def bestArr (q : Q) (codes : Codes) (scale : Scale) (ids : Ids) (lens : Lens) : (⟨3, ![1000, 40, 64]⟩ : Shape).Idx → EReal :=
  fun y => best q codes scale ids lens (y 0) (y 1) (y 2)

/-- The score of slot `j`, of which there may be more than tokens: the slots after the last token repeat it. -/
def slotScore (q : Q) (codes : Codes) (scale : Scale) (ids : Ids) (lens : Lens) (n : Fin 1000) (b : Fin 40) (i : Fin 64) (j : Fin 144) :
    EReal :=
  if (BitVec.ofNat 32 j.val).slt (lens (ix1 n)) = true then raw q codes scale b i (tok (ids (ix2 n ⟨min j.val 134, by omega⟩))) else 0

/-- The maximum of slots, thresholded once, is the maximum of thresholded tokens, when every slot's thresholded value is at most a
    token's and every token's is at most a slot's. -/
theorem max_thr (x : Fin 144 → EReal) (y : Fin 135 → EReal) (T : EReal)
    (h1 : ∀ j : Fin 144, max (x j - T) 0 ≤ y ⟨min j.val 134, by omega⟩)
    (h2 : ∀ j : Fin 135, y j ≤ max (x ⟨j.val, by omega⟩ - T) 0) :
    max (Finset.univ.fold max ⊥ x - T) 0 = Finset.univ.fold max ⊥ y := by
  show max (Finset.univ.sup x - T) 0 = Finset.univ.sup y
  apply le_antisymm
  · obtain ⟨j, -, hj⟩ := Finset.exists_mem_eq_sup Finset.univ ⟨(0 : Fin 144), Finset.mem_univ _⟩ x
    rw [hj]
    exact (h1 j).trans (Finset.le_sup (f := y) (Finset.mem_univ _))
  · refine Finset.sup_le fun j _ => (h2 j).trans ?_
    exact max_le_max (EReal.sub_le_sub (Finset.le_sup (f := x) (Finset.mem_univ _)) le_rfl) le_rfl

/-- If slot `j` is within the length, so is the token it repeats. -/
theorem slt_min (len : BitVec 32) (j : Fin 144) (h : (BitVec.ofNat 32 j.val).slt len = true) :
    (BitVec.ofNat 32 (min j.val 134)).slt len = true := by
  have := j.isLt
  simp only [BitVec.slt, decide_eq_true_eq, BitVec.toInt, BitVec.toNat_ofNat] at h ⊢
  split at h <;> split at h <;> split <;> omega

/-- The best score from the slots: their maximum, thresholded once. -/
theorem best_of_slots (q : Q) (codes : Codes) (scale : Scale) (ids : Ids) (lens : Lens) (n : Fin 1000) (b : Fin 40) (i : Fin 64) :
    max (Finset.univ.fold max ⊥ (slotScore q codes scale ids lens n b i) - thr) 0 = best q codes scale ids lens n b i := by
  refine max_thr _ _ thr (fun j => ?_) fun j => ?_
  · unfold slotScore
    by_cases h : (BitVec.ofNat 32 j.val).slt (lens (ix1 n)) = true
    · rw [if_pos h, if_pos (slt_min _ _ h)]; exact le_rfl
    · rw [if_neg h, max_zero_thr]
      split
      · exact le_max_right _ _
      · exact le_rfl
  · have hj : (⟨min j.val 134, by omega⟩ : Fin 135) = j := Fin.ext (by show min j.val 134 = j.val; have := j.isLt; omega)
    unfold slotScore
    show _ ≤ max ((if (BitVec.ofNat 32 j.val).slt (lens (ix1 n)) = true then
      raw q codes scale b i (tok (ids (ix2 n ⟨min j.val 134, by omega⟩))) else 0) - thr) 0
    rw [hj]
    split
    · exact le_rfl
    · rw [max_zero_thr]

/-- A finite scale that is not negative comes out of a sum. -/
theorem sum_scale {ι : Type} (S : Finset ι) (f : ι → EReal) (s : EReal) (h0 : 0 ≤ s) (ht : s ≠ ⊤) :
    (∑ l ∈ S, f l) * s = ∑ l ∈ S, f l * s := by
  classical
  induction S using Finset.induction_on with
  | empty => simp
  | insert a S ha ih => rw [Finset.sum_insert ha, Finset.sum_insert ha, EReal.right_distrib_of_nonneg_of_ne_top h0 ht, ih]

/-- The product over 128 lanes, of which the last 32 hold zeros, with the scale inside, is the score. -/
theorem raw_of_lanes (q : Q) (codes : Codes) (scale : Scale) (b : Fin 40) (i : Fin 64) (k : Fin 32768)
    (h0 : 0 ≤ scale (ix1 k)) (ht : scale (ix1 k) ≠ ⊤) :
    ∑ l : Fin 128, ((if h : l.val < 96 then codes (ix2 k ⟨l.val, h⟩) else 0) * scale (ix1 k))
        * (if h : l.val < 96 then q (ix3 b i ⟨l.val, h⟩) else 0) = raw q codes scale b i k := by
  unfold raw
  rw [sum_scale _ _ _ h0 ht, show (128 : ℕ) = 96 + 32 from rfl, Fin.sum_univ_add]
  have hz : ∑ l : Fin 32, ((if h : (Fin.natAdd 96 l).val < 96 then codes (ix2 k ⟨(Fin.natAdd 96 l).val, h⟩) else 0) * scale (ix1 k))
      * (if h : (Fin.natAdd 96 l).val < 96 then q (ix3 b i ⟨(Fin.natAdd 96 l).val, h⟩) else 0) = 0 := by
    refine Finset.sum_eq_zero fun l _ => ?_
    rw [dif_neg (by simp), dif_neg (by simp), mul_zero]
  rw [hz, add_zero]
  refine Finset.sum_congr rfl fun l _ => ?_
  have hl : (Fin.castAdd 32 l).val < 96 := l.isLt
  rw [dif_pos hl, dif_pos hl]
  show codes (ix2 k l) * scale (ix1 k) * q (ix3 b i l) = codes (ix2 k l) * q (ix3 b i l) * scale (ix1 k)
  rw [mul_assoc, mul_comm (scale _), ← mul_assoc]

end Cert.Spec

end
-- ==== Proof.BlockValue.lean ====
/- What one block of the kernel computes, over the extended reals: for each of its eight documents the best scores. -/
module

public import proofs.«01_k».proof.Proof.Picks
public import proofs.«01_k».proof.Proof.Spec
public import Idealize.ShloMosaic.Lib.Pointwise
public import Idealize.ShloMosaic.Lib.IdealHost

@[expose] public section

set_option maxRecDepth 16384

noncomputable section

namespace Cert.KernelIdeal.Hand

open Idealize.ShloMosaic Idealize.ShloMosaic.TcCoe Idealize.ShloMosaic.Tactic Idealize.ShloMosaic.Pipeline
open Cert.KernelIdeal.Gen

/-- The scores of a block's document from the gathered rows `L` and the query tokens `Y`: the maximum over the slots of the products,
    thresholded. -/
theorem pay4_apply (L : Vec Ideal S144x1x128 .f32) (Y : Vec Ideal S128x2560 .bf16) (z : Fin 2560) :
    k0_pay4 (F := Ideal) L Y (ix3 0 0 z)
      = max (Finset.univ.fold max ⊥ (fun j : Fin 144 => ∑ l : Fin 128, (L (ix3 j 0 l) : EReal) * Y (ix2 l z)) - Spec.thr) 0 := by
  pointwise [k0_pay4]
  rw [show Ideal.ofBits FTy.f32 4286578688#32 = ⊥ from Spec.bot_bits]
  rfl

/-- A decoded row: codes in the first 96 lanes and zeros in the others, times the row's scale. -/
theorem pay1_apply (C : Vec Ideal S256x96 .fp8e4m3) (S : Vec Ideal S256x1 .f32) (r : Fin 256) (l : Fin 128) :
    k0_pay1 (F := Ideal) C S (ix3 r 0 l) = ((if h : l.val < 96 then C (ix2 r ⟨l.val, h⟩) else (0 : EReal)) * S (ix2 r 0) : EReal) := by
  pointwise [k0_pay1]
  simp

/-- The row of zeros. -/
theorem pay2_apply (l : Fin 128) : k0_pay2 (F := Ideal) (ix3 0 0 l) = (0 : EReal) := by
  pointwise [k0_pay2]

variable (m : (ℓ : Loc nD τ sig) → Buf (Elt Ideal) ℓ)

/-- The block indices of the windows that are whole arrays, at every point. -/
theorem idx0_2 : ∀ t : Fin cfg0.N, ((cfg0.win 2).index t 0 = 0 ∧ (cfg0.win 2).index t 1 = 0) := by
  decide +kernel
theorem idx0_3 : ∀ t : Fin cfg0.N, ((cfg0.win 3).index t 0 = 0 ∧ (cfg0.win 3).index t 1 = 0) := by
  decide +kernel
theorem idx0_4 : ∀ t : Fin cfg0.N, ((cfg0.win 4).index t 0 = 0 ∧ (cfg0.win 4).index t 1 = 0) := by
  decide +kernel

/-- The queries as the kernel takes them: a lane by a query token's number, with zeros in the last 32 lanes. -/
def padQ (q : FVec Ideal S40x64x96 .bf16) : FVec Ideal S128x2560 .bf16 :=
  pad S128x2560 ![0, 0] ![32, 0] ![0, 0]
    (transpose S96x2560 [1, 0] (shapeCast S2560x96 q shapeCasts_S40x64x96_S2560x96) transposes_S2560x96_S96x2560_1_0)
    (sitofp FTy.bf16 (constantI S_ 32 0#32) : FVec Ideal S_ .bf16) pads_S96x2560_S128x2560_0320_000 h_S_

/-- The number of token `i` of query `b`. -/
def qNo (b : Fin 40) (i : Fin 64) : Fin 2560 := ⟨64 * b.val + i.val, by omega⟩

/-- The reshaped queries at a query token's number. -/
theorem cast_query {α : Type} (x : S40x64x96.Idx → α) (h : S40x64x96.ShapeCasts S2560x96) (b : Fin 40) (i : Fin 64) (l : Fin 96) :
    shapeCast S2560x96 x h (ix2 (qNo b i) l) = x (ix3 b i l) := by
  refine shapeCast_apply x h _ _ ?_
  rw [Shape.rowMajor_val_three, Shape.rowMajor_val_two]
  show (b.val * 64 + i.val) * 96 + l.val = (64 * b.val + i.val) * 96 + l.val
  omega

/-- The reshaped scales at a row. -/
theorem cast_scale {α : Type} (x : S32768.Idx → α) (h : S32768.ShapeCasts S32768x1) (k : Fin 32768) :
    shapeCast S32768x1 x h (ix2 k 0) = x (ix1 k) := by
  refine shapeCast_apply x h _ _ ?_
  rw [Shape.rowMajor_val_two, Shape.rowMajor_val_one]
  show k.val = k.val * 1 + 0
  omega

/-- The integer zero as a number. -/
theorem sitofp_zero : (FloatOps.sitofp FTy.bf16 (0#32) : Ideal .bf16) = (0 : EReal) := by
  show (((0#32).toInt : ℝ) : EReal) = 0
  simp

/-- The queries at a lane: the query token's entry in the first 96 lanes, zero in the others. -/
theorem padQ_apply (q : FVec Ideal S40x64x96 .bf16) (b : Fin 40) (i : Fin 64) (l : Fin 128) :
    padQ q (ix2 l (qNo b i)) = if h : l.val < 96 then q (ix3 b i ⟨l.val, h⟩) else 0 := by
  have hp : padQ q (ix2 l (qNo b i))
      = if h : l.val < 96 then shapeCast S2560x96 q shapeCasts_S40x64x96_S2560x96 (ix2 (qNo b i) ⟨l.val, h⟩) else 0 := by
    generalize qNo b i = z
    generalize hx : shapeCast S2560x96 q shapeCasts_S40x64x96_S2560x96 = x
    unfold padQ
    rw [hx]
    pointwise
    split
    · rfl
    · exact sitofp_zero
  rw [hp]
  split
  · exact cast_query q _ b i _
  · rfl

/-- The scales' array, as the region finds it. -/
theorem V_scale (c : Dev nD) (y : S32768x1.Idx) :
    V m c main_v5 y = shapeCast S32768x1 (m ((c : Thread nD τ).loc main_arg2)) shapeCasts_S32768_S32768x1 y := by
  unfold V V0
  simp only [hostOps0, hostOps0_1, hostOps0_2, List.flatten_cons, List.flatten_nil, List.append_nil, List.cons_append, List.nil_append]
  after_reads_simp
  rfl

/-- The codes' array, as the region finds it. -/
theorem V_codes (c : Dev nD) (y : S32768x96.Idx) :
    V m c main_arg1 y = m ((c : Thread nD τ).loc main_arg1) y := by
  unfold V V0
  simp only [hostOps0, hostOps0_1, hostOps0_2, List.flatten_cons, List.flatten_nil, List.append_nil, List.cons_append, List.nil_append]
  after_reads_simp

/-- The queries' array, as the region finds it. -/
theorem V_query (c : Dev nD) (y : S128x2560.Idx) :
    V m c main_v2 y = padQ (m ((c : Thread nD τ).loc main_arg0)) y := by
  unfold V V0
  simp only [hostOps0, hostOps0_1, hostOps0_2, List.flatten_cons, List.flatten_nil, List.append_nil, List.cons_append, List.nil_append]
  after_reads_simp
  rfl

/-- The code block at an index. -/
theorem iblk2_apply (c : Dev nD) (t : Fin cfg0.N) (k : Fin 32768) (l : Fin 96) :
    iblk m c 2 t (ix2 k l) = m ((c : Thread nD τ).loc main_arg1) (ix2 k l) := by
  obtain ⟨e0, e1⟩ := idx0_2 t
  have hx : ((cfg0.win 2).blk t).view.emb (ix2 k l) = ix2 k l := by
    blk_ext [e0, e1]
  unfold iblk
  rw [View.read_apply, cast_eq, hx]
  exact V_codes m c _

/-- The scale block at an index. -/
theorem iblk3_apply (c : Dev nD) (t : Fin cfg0.N) (k : Fin 32768) :
    iblk m c 3 t (ix2 k 0) = m ((c : Thread nD τ).loc main_arg2) (ix1 k) := by
  obtain ⟨e0, e1⟩ := idx0_3 t
  have hx : ((cfg0.win 3).blk t).view.emb (ix2 k 0) = ix2 k 0 := by
    blk_ext [e0, e1]
  unfold iblk
  rw [View.read_apply, cast_eq, hx]
  exact (V_scale m c _).trans (cast_scale _ _ k)

/-- The query block at an index. -/
theorem iblk4_apply (c : Dev nD) (t : Fin cfg0.N) (b : Fin 40) (i : Fin 64) (l : Fin 128) :
    iblk m c 4 t (ix2 l (qNo b i))
      = (if h : l.val < 96 then (m ((c : Thread nD τ).loc main_arg0) : S40x64x96.Idx → EReal) (ix3 b i ⟨l.val, h⟩) else 0 : EReal) := by
  obtain ⟨e0, e1⟩ := idx0_4 t
  have hx : ((cfg0.win 4).blk t).view.emb (ix2 l (qNo b i)) = ix2 l (qNo b i) := by
    blk_ext [e0, e1]
  unfold iblk
  rw [View.read_apply, cast_eq, hx]
  exact (V_query m c _).trans (padQ_apply _ b i l)

/-- A row of the table below 32768, from any arrays of codes and scales. -/
theorem tabAt_row (C : Vec Ideal S32768x96 .fp8e4m3) (S : Vec Ideal S32768x1 .f32) (k : Fin 32768) (l : Fin 128) :
    tabAt C S k.val l = ((if h : l.val < 96 then C (ix2 k ⟨l.val, h⟩) else (0 : EReal)) * S (ix2 k 0) : EReal) := by
  unfold tabAt
  rw [if_pos k.isLt, ← ix3_eq_valueIdx, pay1_apply]
  have hk : ∀ h, (⟨min (256 * (k.val / 256) + k.val % 256) 32767, h⟩ : Fin 32768) = k := fun h =>
    Fin.ext (by show min (256 * (k.val / 256) + k.val % 256) 32767 = k.val; have := k.isLt; omega)
  have hC : ∀ l' : Fin 96, codeBlk C (k.val / 256) (ix2 ⟨k.val % 256, Nat.mod_lt _ (by decide)⟩ l') = C (ix2 k l') := fun l' => by
    exact (congrArg (fun r => C (ValueIdx.ix2 r l')) (hk (by omega))).trans (by rw [← ix2_eq_valueIdx])
  have hS : scaleBlk S (k.val / 256) (ix2 ⟨k.val % 256, Nat.mod_lt _ (by decide)⟩ 0) = S (ix2 k 0) := by
    exact (congrArg (fun r => S (ValueIdx.ix2 r 0)) (hk (by omega))).trans (by rw [← ix2_eq_valueIdx])
  rw [hS]
  simp only [hC]

/-- The zero row of the table. -/
theorem tabAt_zero (C : Vec Ideal S32768x96 .fp8e4m3) (S : Vec Ideal S32768x1 .f32) (l : Fin 128) :
    tabAt C S 32768 l = (0 : EReal) := by
  unfold tabAt
  rw [if_neg (by decide), ← ix3_eq_valueIdx, pay2_apply]

/-- The row slot `j` picks: its token's when the slot is within the length, the zero row otherwise. -/
theorem pick_eq (len w : BitVec 32) (j : ℕ) : pick len w j = if (BitVec.ofNat 32 j).slt len = true then w else 32768#32 := by
  show Scalar.select (BitVec.ofBool ((BitVec.ofNat 32 j).slt len)) w 32768#32 = _
  cases (BitVec.ofNat 32 j).slt len <;> rfl

section
variable (c : Dev nD)

/-- The five arguments on core `c`. -/
abbrev argQ : Spec.Q := m ((c : Thread nD τ).loc main_arg0)
abbrev argCodes : Spec.Codes := m ((c : Thread nD τ).loc main_arg1)
abbrev argScale : Spec.Scale := m ((c : Thread nD τ).loc main_arg2)
abbrev argIds : Spec.Ids := m ((c : Thread nD τ).loc main_arg3)
abbrev argLens : Spec.Lens := m ((c : Thread nD τ).loc main_arg4)

/-- The product of slot `j`'s gathered row with a query token is the slot's score. -/
theorem slot_sum (t : Fin cfg0.N) (d : Fin 8) (b : Fin 40) (i : Fin 64) (j : Fin 144)
    (hid : ∀ (n : Fin 1000) (j : Fin 135), (BitVec.ofNat 32 j.val).slt (argLens m c (ix1 n)) = true → (argIds m c (ix2 n j)).toNat < 32768)
    (hsc : ∀ k : Fin 32768, 0 ≤ argScale m c (ix1 k) ∧ argScale m c (ix1 k) ≠ ⊤) :
    ∑ l : Fin 128, ((lhsAt (iblk m c 0 t) (iblk m c 1 t) (iblk m c 2 t) (iblk m c 3 t) d (ix3 j 0 l) : EReal)
        * iblk m c 4 t (ix2 l (qNo b i)))
      = Spec.slotScore (argQ m c) (argCodes m c) (argScale m c) (argIds m c) (argLens m c) (docNo t d) b i j := by
  have hm : min j.val 134 < 135 := by omega
  have hr : slotRow (iblk m c 0 t) (iblk m c 1 t) d j.val
      = (if (BitVec.ofNat 32 j.val).slt (argLens m c (ix1 (docNo t d))) = true then argIds m c (ix2 (docNo t d) ⟨min j.val 134, hm⟩)
          else 32768#32).toNat := by
    show (pick (iblk m c 1 t (ValueIdx.ix3 0 0 d)) (iblk m c 0 t (ValueIdx.ix3 0 d ⟨min j.val 134, hm⟩)) j.val).toNat = _
    rw [iblk0_apply, iblk1_apply, pick_eq, ← ix1_eq_valueIdx, ← ix2_eq_valueIdx]
  have hL : ∀ l : Fin 128, lhsAt (iblk m c 0 t) (iblk m c 1 t) (iblk m c 2 t) (iblk m c 3 t) d (ix3 j 0 l)
      = tabAt (iblk m c 2 t) (iblk m c 3 t) (slotRow (iblk m c 0 t) (iblk m c 1 t) d j.val) l := fun l => rfl
  simp only [hL, hr]
  unfold Spec.slotScore
  by_cases hj : (BitVec.ofNat 32 j.val).slt (argLens m c (ix1 (docNo t d))) = true
  · have hk := hid (docNo t d) ⟨min j.val 134, hm⟩ (Spec.slt_min _ j hj)
    have ht : (argIds m c (ix2 (docNo t d) ⟨min j.val 134, hm⟩)).toNat = (Spec.tok (argIds m c (ix2 (docNo t d) ⟨min j.val 134, hm⟩))).val := by
      show _ = min _ 32767
      omega
    rw [if_pos hj, if_pos hj, ht]
    generalize Spec.tok (argIds m c (ix2 (docNo t d) ⟨min j.val 134, hm⟩)) = k
    rw [← Spec.raw_of_lanes _ _ _ _ _ _ (hsc k).1 (hsc k).2]
    refine Finset.sum_congr rfl fun l _ => ?_
    rw [tabAt_row, iblk4_apply, iblk3_apply]
    simp only [iblk2_apply]
  · rw [if_neg hj, if_neg hj]
    refine Finset.sum_eq_zero fun l _ => ?_
    rw [show (32768#32).toNat = 32768 from rfl, tabAt_zero, zero_mul]

/-- The block of output that point `t` writes: the best scores of its documents. -/
theorem blkOut_apply (t : Fin cfg0.N) (d : Fin 8) (b : Fin 40) (i : Fin 64)
    (hid : ∀ (n : Fin 1000) (j : Fin 135), (BitVec.ofNat 32 j.val).slt (argLens m c (ix1 n)) = true → (argIds m c (ix2 n j)).toNat < 32768)
    (hsc : ∀ k : Fin 32768, 0 ≤ argScale m c (ix1 k) ∧ argScale m c (ix1 k) ≠ ⊤) :
    blkOut (iblk m c 0 t) (iblk m c 1 t) (iblk m c 2 t) (iblk m c 3 t) (iblk m c 4 t) (ix3 0 d (qNo b i))
      = Spec.best (argQ m c) (argCodes m c) (argScale m c) (argIds m c) (argLens m c) (docNo t d) b i := by
  show k0_pay4 (F := Ideal) (lhsAt (iblk m c 0 t) (iblk m c 1 t) (iblk m c 2 t) (iblk m c 3 t) d) (iblk m c 4 t)
    (ValueIdx.ix3 0 0 (qNo b i)) = _
  rw [← ix3_eq_valueIdx, pay4_apply, ← Spec.best_of_slots]
  refine congrArg (fun f => max (Finset.fold max ⊥ f Finset.univ - Spec.thr) 0) (funext fun j => ?_)
  exact slot_sum m c t d b i j hid hsc

end

end Cert.KernelIdeal.Hand

end
-- ==== Proof.KernelValue.lean ====
/- What the kernel's results hold, over the extended reals: the best scores, and their sum over the query tokens, transposed. -/
module

public import proofs.«01_k».proof.Proof.BlockValue

@[expose] public section

set_option maxRecDepth 16384

noncomputable section

namespace Cert.KernelIdeal.Hand

open Idealize.ShloMosaic Idealize.ShloMosaic.TcCoe Idealize.ShloMosaic.Tactic Idealize.ShloMosaic.Pipeline
open Cert.KernelIdeal.Gen

variable (m : (ℓ : Loc nD τ sig) → Buf (Elt Ideal) ℓ) (c : Dev nD)

/-- Every token within its document's length names a row of the table, and every scale is a finite number that is not negative. -/
def Good : Prop :=
  (∀ (n : Fin 1000) (j : Fin 135), (BitVec.ofNat 32 j.val).slt (argLens m c (ix1 n)) = true → (argIds m c (ix2 n j)).toNat < 32768)
    ∧ ∀ k : Fin 32768, 0 ≤ argScale m c (ix1 k) ∧ argScale m c (ix1 k) ≠ ⊤

/-- The best scores of the arguments. -/
abbrev bestOf : FVec Ideal S1000x40x64 .f32 := Spec.bestArr (argQ m c) (argCodes m c) (argScale m c) (argIds m c) (argLens m c)

/-- The best scores as the kernel writes them: by block, document of the block and query token's number. -/
def blocks : S125x8x2560.Idx → EReal := fun y =>
  Spec.best (argQ m c) (argCodes m c) (argScale m c) (argIds m c) (argLens m c)
    ⟨8 * (y 0).val + (y 1).val, by have h0 : (y 0).val < 125 := (y 0).isLt; have h1 : (y 1).val < 8 := (y 1).isLt; omega⟩
    ⟨(y 2).val / 64, by have h2 : (y 2).val < 2560 := (y 2).isLt; omega⟩ ⟨(y 2).val % 64, Nat.mod_lt _ (by decide)⟩

/-- The block index of the output window, at every point. -/
theorem idx0_5 : ∀ t : Fin cfg0.N, ((cfg0.win 5).index t 0 = t.val ∧ (cfg0.win 5).index t 1 = 0 ∧ (cfg0.win 5).index t 2 = 0) := by
  decide +kernel

/-- The array that the kernel's call returns. -/
theorem out_eq (h : Good m c) : (dats m 0 c).arrAt 5 (cfgs 0).N = blocks m c := by
  refine (dats m 0 c).arrAt_eq_of_covers 5 _ (by decide +kernel) fun t hf y => ?_
  blk_simp
  obtain ⟨e0, e1, e2⟩ := idx0_5 t
  obtain ⟨d, b, i, rfl⟩ : ∃ (d : Fin 8) (b : Fin 40) (i : Fin 64), y = ix3 0 d (qNo b i) := by
    have h0 : (y 0).val < 1 := (y 0).isLt
    have h2 : (y 2).val < 2560 := (y 2).isLt
    refine ⟨y 1, ⟨(y 2).val / 64, by omega⟩, ⟨(y 2).val % 64, Nat.mod_lt _ (by decide)⟩, ?_⟩
    funext a
    match a with
    | ⟨0, _⟩ => exact Fin.ext (by show (y 0).val = 0; omega)
    | ⟨1, _⟩ => rfl
    | ⟨2, _⟩ => exact Fin.ext (by show (y 2).val = 64 * ((y 2).val / 64) + (y 2).val % 64; omega)
  have hx : ((cfg0.win 5).blk t).view.emb (ix3 0 d (qNo b i)) = ix3 (blkNo t) d (qNo b i) := by
    blk_ext [e0, e1, e2, blkNo]
  rw [after0_5]
  refine (blkOut_apply m c t d b i h.1 h.2).trans ?_
  refine Eq.trans ?_ (congrArg (blocks m c) hx).symm
  have hi := i.isLt
  show _ = Spec.best _ _ _ _ _ ⟨8 * t.val + d.val, _⟩ ⟨(64 * b.val + i.val) / 64, _⟩ ⟨(64 * b.val + i.val) % 64, _⟩
  have hb' : (64 * b.val + i.val) / 64 = b.val := by omega
  have hi' : (64 * b.val + i.val) % 64 = i.val := by omega
  simp only [hb', hi']
  rfl

/-- The blocks reshaped are the best scores. -/
theorem cast_blocks : shapeCast S1000x40x64 (blocks m c) shapeCasts_S125x8x2560_S1000x40x64 = bestOf m c := by
  funext y
  obtain ⟨n, b, i, rfl⟩ : ∃ (n : Fin 1000) (b : Fin 40) (i : Fin 64), y = ix3 n b i := ⟨y 0, y 1, y 2, by funext a; fin_cases a <;> rfl⟩
  have hn := n.isLt
  have hi := i.isLt
  have e := shapeCast_apply (blocks m c) shapeCasts_S125x8x2560_S1000x40x64 (ix3 n b i)
    (ix3 ⟨n.val / 8, by omega⟩ ⟨n.val % 8, Nat.mod_lt _ (by decide)⟩ (qNo b i) : S125x8x2560.Idx) (by
      rw [Shape.rowMajor_val_three, Shape.rowMajor_val_three]
      show (n.val / 8 * 8 + n.val % 8) * 2560 + (64 * b.val + i.val) = (n.val * 40 + b.val) * 64 + i.val
      omega)
  refine e.trans ?_
  show Spec.best _ _ _ _ _ ⟨8 * (n.val / 8) + n.val % 8, _⟩ ⟨(64 * b.val + i.val) / 64, _⟩ ⟨(64 * b.val + i.val) % 64, _⟩ = Spec.best _ _ _ _ _ n b i
  have hb' : (64 * b.val + i.val) / 64 = b.val := by omega
  have hi' : (64 * b.val + i.val) % 64 = i.val := by omega
  have hn' : 8 * (n.val / 8) + n.val % 8 = n.val := by omega
  simp only [hb', hi', hn']

/-- The sum over the query tokens, transposed. -/
def sumOut (x : FVec Ideal S1000x40x64 .f32) : FVec Ideal S40x1000 .f32 :=
  transpose S40x1000 [1, 0] (Host.reduceAdd x (constant S_ FTy.f32 0x00000000#32) reducesTo_S1000x40x64_S1000x40_d2 h_S_)
    transposes_S1000x40_S40x1000_1_0

/-- The kernel's second result. -/
theorem tail7 (h : Good m c) : Pipeline.afterTail₀ cfgs (dats m) 0 (V0 m) [hostOps1] c main_v7 = bestOf m c := by
  unfold Pipeline.afterTail₀
  simp only [hostOps1, List.flatten_cons, List.flatten_nil, List.append_nil, List.cons_append, List.nil_append]
  after_reads_simp
  have hw : withArrays (cfgs 0).spec c (V0 m c) (fun w => (dats m 0 c).arrAt w (cfgs 0).N) (Proc.tc.devRef main_v6) = blocks m c :=
    (Pipeline.withArrays_arr (cfgs 0).spec (by exact (by decide : Function.Injective (Pipeline.arrRef spec0))) c (V0 m c) _ 5).trans (out_eq m c h)
  rw [hw]
  exact cast_blocks m c

/-- The kernel's first result is the sum of its second over the query tokens, transposed. -/
theorem tail9 : Pipeline.afterTail₀ cfgs (dats m) 0 (V0 m) [hostOps1] c main_v9
    = sumOut (Pipeline.afterTail₀ cfgs (dats m) 0 (V0 m) [hostOps1] c main_v7) := by
  unfold Pipeline.afterTail₀
  simp only [hostOps1, List.flatten_cons, List.flatten_nil, List.append_nil, List.cons_append, List.nil_append]
  after_reads_simp
  rfl

end Cert.KernelIdeal.Hand

end
-- ==== Proof.RefValue.lean ====
/- What the reference computes, over the extended reals: its second result, the best scores, at an index, and its first result as
   the sum of the best scores over the query tokens, transposed. -/
module

public import proofs.«01_k».proof.Proof.Gen.ReferenceIdeal.Frame
public import proofs.«01_k».proof.Proof.Spec
public import Idealize.ShloMosaic.Lib.StableHlo.ReadAt
public import Idealize.ShloMosaic.Lib.Pipeline.ValueKit
public import Idealize.ShloMosaic.Lib.Pointwise
public import Idealize.ShloMosaic.Lib.IdealHost

@[expose] public section

set_option maxRecDepth 16384

noncomputable section

namespace Cert.ReferenceIdeal.Hand

open Idealize.ShloMosaic Idealize.ShloMosaic.TcCoe Idealize.ShloMosaic.Tactic Idealize.ShloMosaic.Pipeline
open Cert.ReferenceIdeal.Gen

/-- Every row's thresholded score for every query token, as the reference's operations give it. -/
def scores (w : FVec Ideal S32768x96 .bf16) (q : FVec Ideal S40x64x96 .bf16) (s : FVec Ideal S32768 .f32) : FVec Ideal S32768x40x64 .f32 :=
  maximumf
    (subf
      (mulf (Host.dotGeneral dot_S32768x96_S40x64x96_S32768x40x64_1_2_0_01_n_n none w q : FVec Ideal S32768x40x64 .f32)
        (broadcastInDim S32768x40x64 ![0, 1, 2] bcast_S32768x1x1_S32768x40x64_0_1_2
          (broadcastInDim S32768x1x1 ![0] bcast_S32768_S32768x1x1_0 s)))
      (broadcastInDim S32768x40x64 ![] bcast_S_S32768x40x64 (constant S_ FTy.f32 0x3EE66666#32)))
    (broadcastInDim S32768x40x64 ![] bcast_S_S32768x40x64 (constant S_ FTy.f32 0x00000000#32))

/-- The tokens' row numbers, a negative one counted from the end, as the gather takes them. -/
def starts (ids : IVec S1000x135 32) : IVec S1000x135x1 32 :=
  broadcastInDim S1000x135x1 ![0, 1] bcast_S1000x135_S1000x135x1_0_1
    (select (cmpi .slt ids (broadcastInDim S1000x135 ![] bcast_S_S1000x135 (constantI S_ 32 0#32)))
      (addi ids (broadcastInDim S1000x135 ![] bcast_S_S1000x135 (constantI S_ 32 32768#32))) ids)

/-- Which positions are within their document's length. -/
def within (lens : IVec S1000 32) : IVec S1000x135x40x64 1 :=
  broadcastInDim S1000x135x40x64 ![0, 1, 2, 3] bcast_S1000x135x1x1_S1000x135x40x64_0_1_2_3
    (broadcastInDim S1000x135x1x1 ![0, 1] bcast_S1000x135_S1000x135x1x1_0_1
      (cmpi .slt
        (broadcastInDim S1000x135 ![0, 1] bcast_S1x135_S1000x135_0_1 (broadcastInDim S1x135 ![1] bcast_S135_S1x135_1 (iotaInDim S135 32 0)))
        (broadcastInDim S1000x135 ![0, 1] bcast_S1000x1_S1000x135_0_1 (broadcastInDim S1000x1 ![0] bcast_S1000_S1000x1_0 lens))))

/-- The reference's second result as its operations give it. -/
def refBest (w : FVec Ideal S32768x96 .bf16) (q : FVec Ideal S40x64x96 .bf16) (s : FVec Ideal S32768 .f32) (ids : IVec S1000x135 32)
    (lens : IVec S1000 32) : FVec Ideal S1000x40x64 .f32 :=
  Host.reduce FloatOps.maximumf
    (select (within lens)
      (Host.gather gather_S32768x40x64_S1000x135x1_S1000x135x40x64_23_0_n_n_0_2_14064 (scores w q s) (starts ids))
      (broadcastInDim S1000x135x40x64 ![] bcast_S_S1000x135x40x64 (constant S_ FTy.f32 0x00000000#32)))
    (constant S_ FTy.f32 0xFF800000#32) reducesTo_S1000x135x40x64_S1000x40x64_d1 h_S_

/-- A row's score at an index. -/
theorem scores_apply (w : FVec Ideal S32768x96 .bf16) (q : FVec Ideal S40x64x96 .bf16) (s : FVec Ideal S32768 .f32) (k : Fin 32768)
    (b : Fin 40) (i : Fin 64) : scores w q s (ix3 k b i) = Spec.hit q w s b i k := by
  pointwise [scores]
  rfl

/-- A token that names a row below 32768 is taken as it is. -/
theorem starts_apply (ids : IVec S1000x135 32) (n : Fin 1000) (j : Fin 135) (h : (ids (ix2 n j)).toNat < 32768) :
    starts ids (ix3 n j 0) = ids (ix2 n j) := by
  pointwise [starts]
  have hs : (ids (ix2 n j)).slt 0#32 = false := by
    simp only [BitVec.slt, decide_eq_false_iff_not, BitVec.toInt, BitVec.toNat_ofNat]
    split <;> omega
  show Scalar.select (BitVec.ofBool ((ids (ix2 n j)).slt 0#32)) _ _ = _
  rw [hs]
  rfl

/-- The mask at an index. -/
theorem within_apply (lens : IVec S1000 32) (n : Fin 1000) (j : Fin 135) (b : Fin 40) (i : Fin 64) :
    within lens (ix4 n j b i) = BitVec.ofBool ((BitVec.ofNat 32 j.val).slt (lens (ix1 n))) := by
  pointwise [within]
  rfl

/-- The gather at an index: the operand at the row its start index names. -/
theorem gather_apply (x : FVec Ideal S32768x40x64 .f32) (idx : IVec S1000x135x1 32) (n : Fin 1000) (j : Fin 135) (b : Fin 40) (i : Fin 64) :
    Host.gather gather_S32768x40x64_S1000x135x1_S1000x135x40x64_23_0_n_n_0_2_14064 x idx (ix4 n j b i)
      = x (ix3 ⟨min (idx (ix3 n j 0)).toInt.toNat 32767, by omega⟩ b i) := by
  unfold Host.gather
  congr 1
  funext a
  refine Fin.ext ?_
  show (gather_S32768x40x64_S1000x135x1_S1000x135x40x64_23_0_n_n_0_2_14064).start (ix4 n j b i) idx a
    + (gather_S32768x40x64_S1000x135x1_S1000x135x40x64_23_0_n_n_0_2_14064).batchCoord (ix4 n j b i) a
    + (gather_S32768x40x64_S1000x135x1_S1000x135x40x64_23_0_n_n_0_2_14064).offCoord (ix4 n j b i) a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    simp only [Nat.add_zero]
    unfold GatherDims.start
    rw [dif_pos (show (⟨0, by decide⟩ : Fin 3) ∈ (gather_S32768x40x64_S1000x135x1_S1000x135x40x64_23_0_n_n_0_2_14064).startIndexMap from
      List.mem_singleton.mpr rfl)]
    have hsi : (gather_S32768x40x64_S1000x135x1_S1000x135x40x64_23_0_n_n_0_2_14064).siIdx (ix4 n j b i)
        ⟨List.idxOf (⟨0, by decide⟩ : Fin 3) (gather_S32768x40x64_S1000x135x1_S1000x135x40x64_23_0_n_n_0_2_14064).startIndexMap,
          List.idxOf_lt_length_iff.2 (List.mem_singleton.mpr rfl)⟩ = ix3 n j 0 := by
      funext b; refine Fin.ext ?_
      match b with
      | ⟨0, _⟩ => rfl
      | ⟨1, _⟩ => rfl
      | ⟨2, _⟩ => rfl
    rw [hsi]
    rfl
  | ⟨1, _⟩ =>
    unfold GatherDims.start GatherDims.offCoord
    rw [dif_neg (show (⟨1, by decide⟩ : Fin 3) ∉ (gather_S32768x40x64_S1000x135x1_S1000x135x40x64_23_0_n_n_0_2_14064).startIndexMap from by
      intro h; exact Nat.succ_ne_zero 0 (congrArg Fin.val (List.mem_singleton.mp h)))]
    rw [dif_pos ((GatherDims.mem_sKept _ _).2 ⟨fun h => Nat.succ_ne_zero 0 (congrArg Fin.val (List.mem_singleton.mp h)), List.not_mem_nil⟩)]
    simp only [Nat.zero_add]
    rfl
  | ⟨2, _⟩ =>
    unfold GatherDims.start GatherDims.offCoord
    rw [dif_neg (show (⟨2, by decide⟩ : Fin 3) ∉ (gather_S32768x40x64_S1000x135x1_S1000x135x40x64_23_0_n_n_0_2_14064).startIndexMap from by
      intro h; exact Nat.succ_ne_zero 1 (congrArg Fin.val (List.mem_singleton.mp h)))]
    rw [dif_pos ((GatherDims.mem_sKept _ _).2 ⟨fun h => Nat.succ_ne_zero 1 (congrArg Fin.val (List.mem_singleton.mp h)), List.not_mem_nil⟩)]
    simp only [Nat.zero_add]
    rfl

/-- The reference's second result holds the best scores, when every token within its document's length names a row. -/
theorem refBest_eq (w : FVec Ideal S32768x96 .bf16) (q : FVec Ideal S40x64x96 .bf16) (s : FVec Ideal S32768 .f32) (ids : IVec S1000x135 32)
    (lens : IVec S1000 32)
    (h : ∀ (n : Fin 1000) (j : Fin 135), (BitVec.ofNat 32 j.val).slt (lens (ix1 n)) = true → (ids (ix2 n j)).toNat < 32768) :
    refBest w q s ids lens = Spec.bestArr q w s ids lens := by
  funext y
  obtain ⟨n, b, i, rfl⟩ : ∃ (n : Fin 1000) (b : Fin 40) (i : Fin 64), y = ix3 n b i := ⟨y 0, y 1, y 2, by funext a; fin_cases a <;> rfl⟩
  pointwise [refBest]
  show _ = Spec.best q w s ids lens n b i
  unfold Spec.best
  rw [show Ideal.ofBits FTy.f32 4286578688#32 = ⊥ from Spec.bot_bits]
  refine congrArg (fun f => Finset.fold max ⊥ f Finset.univ) (funext fun j => ?_)
  rw [within_apply, gather_apply, scores_apply]
  by_cases hj : (BitVec.ofNat 32 j.val).slt (lens (ix1 n)) = true
  · have hk := h n j hj
    rw [if_pos hj, hj]
    show Spec.hit q w s b i _ = _
    refine congrArg _ (Fin.ext ?_)
    show min (starts ids (ix3 n j 0)).toInt.toNat 32767 = min (ids (ix2 n j)).toNat 32767
    rw [starts_apply ids n j hk, BitVec.toInt_eq_toNat_of_lt (by omega)]
    rfl
  · rw [if_neg hj, Bool.eq_false_iff.mpr hj]
    rfl

/-- The sum over the query tokens, transposed. -/
def sumOut (x : FVec Ideal S1000x40x64 .f32) : FVec Ideal S40x1000 .f32 :=
  transpose S40x1000 [1, 0] (Host.reduceAdd x (constant S_ FTy.f32 0x00000000#32) reducesTo_S1000x40x64_S1000x40_d2 h_S_)
    transposes_S1000x40_S40x1000_1_0

variable (m : (ℓ : Loc nD τ sig) → Buf (Elt Ideal) ℓ)

/-- The reference's second result, after the call that widens the codes and the operations after it. -/
theorem tail24 (c : Dev nD) (w : FVec Ideal S32768x96 .bf16) (hw : (dats m 0 c).arrAt 1 (cfgs 0).N = w) :
   Pipeline.afterTail₀ cfgs (dats m) 0 (V0 m) [hostOps1, hostOps1_1, hostOps1_2] c main_v24
     = refBest w (m ((c : Thread nD τ).loc main_arg0)) (m ((c : Thread nD τ).loc main_arg2)) (m ((c : Thread nD τ).loc main_arg3)) (m ((c : Thread nD τ).loc main_arg4)) := by
  unfold Pipeline.afterTail₀
  simp only [hostOps1, hostOps1_1, hostOps1_2, List.flatten_cons, List.flatten_nil, List.append_nil, List.cons_append, List.nil_append]
  after_reads_simp
  rw [Pipeline.withArrays_of_ne _ c (V0 m c) _ main_arg0 (by exact (by decide : ∀ w, Pipeline.arrRef spec0 w ≠ main_arg0)),
    Pipeline.withArrays_of_ne _ c (V0 m c) _ main_arg2 (by exact (by decide : ∀ w, Pipeline.arrRef spec0 w ≠ main_arg2)),
    Pipeline.withArrays_of_ne _ c (V0 m c) _ main_arg3 (by exact (by decide : ∀ w, Pipeline.arrRef spec0 w ≠ main_arg3)),
    Pipeline.withArrays_of_ne _ c (V0 m c) _ main_arg4 (by exact (by decide : ∀ w, Pipeline.arrRef spec0 w ≠ main_arg4))]
  have hw' : withArrays (cfgs 0).spec c (V0 m c) (fun w => (dats m 0 c).arrAt w (cfgs 0).N) (Proc.tc.devRef main_v0) = w :=
    (Pipeline.withArrays_arr (cfgs 0).spec (by exact (by decide : Function.Injective (Pipeline.arrRef spec0))) c (V0 m c) _ 1).trans hw
  rw [hw']
  rfl

/-- The reference's first result is the sum of its second over the query tokens, transposed. -/
theorem tail26 (c : Dev nD) :
   Pipeline.afterTail₀ cfgs (dats m) 0 (V0 m) [hostOps1, hostOps1_1, hostOps1_2] c main_v26
     = sumOut (Pipeline.afterTail₀ cfgs (dats m) 0 (V0 m) [hostOps1, hostOps1_1, hostOps1_2] c main_v24) := by
  unfold Pipeline.afterTail₀
  simp only [hostOps1, hostOps1_1, hostOps1_2, List.flatten_cons, List.flatten_nil, List.append_nil, List.cons_append, List.nil_append]
  after_reads_simp
  rfl

/-- The widening call's block is the codes as they are. -/
theorem out0_1_apply (x : Vec Ideal S32768x96 .fp8e4m3) (y : S32768x96.Idx) : out0_1 x y = x y := by
  have hy : r0_0.emb y = y := by
    funext a
    match a with
    | ⟨0, _⟩ => exact Fin.ext (by show 0 + 1 * (y 0).val = (y 0).val; omega)
    | ⟨1, _⟩ => exact Fin.ext (by show 0 + 1 * (y 1).val = (y 1).val; omega)
  have h := View.canon_cons_emb (Val := Elt Ideal) (e := .bf16) r0_0 (k0_pay1 (View.ld x r0_0)) [] y
  rw [hy] at h
  refine h.trans ?_
  show x (r0_0.emb y) = x y
  rw [hy]

/-- The widening call returns the codes as they are. -/
theorem wide_eq (c : Dev nD) : (dats m 0 c).arrAt 1 (cfgs 0).N = fun y => m ((c : Thread nD τ).loc main_arg1) y := by
  refine (dats m 0 c).arrAt_eq_of_covers 1 _ (by decide +kernel) fun t hf y => ?_
  blk_simp
  rw [after0_1]
  exact out0_1_apply _ y

end Cert.ReferenceIdeal.Hand

end
-- ==== Proof.Algebraic.lean ====
/- The equation: under the precondition the kernel and the reference, over the extended reals, end with the same two results. -/
module

public import proofs.«01_k».proof.Proof.Frames
public import proofs.«01_k».proof.Proof.KernelValue
public import proofs.«01_k».proof.Proof.RefValue

@[expose] public section

set_option maxRecDepth 16384

noncomputable section

namespace Cert.Proof

open Idealize.ShloMosaic Idealize.ShloMosaic.TcCoe Idealize.SL.Sem

/-- A comparison that came out true over the extended reals. -/
theorem of_cmp {p : Prop} [Decidable p] (h : BitVec.ofBool (decide p) = 1#1) : p := by
  by_cases hp : p
  · exact hp
  · rw [decide_eq_false hp] at h
    exact absurd h (by decide)

/-- The bits of positive zero and of positive infinity. -/
theorem zero_bits : Ideal.ofBits FTy.f32 0x00000000#32 = 0 := by
  simp [Ideal.ofBits, Ideal.ieee]
theorem top_bits : Ideal.ofBits FTy.f32 0x7F800000#32 = ⊤ := by
  simp [Ideal.ofBits, Ideal.ieee]

/-- What the precondition says of the arguments. -/
theorem good (m : (ℓ : Loc Cert.KernelIdeal.nD Cert.KernelIdeal.τ Cert.KernelIdeal.sig) → Buf (Elt Ideal) ℓ)
    (h : Cert.Pre_KernelIdeal m) (c : Dev Cert.KernelIdeal.nD) : Cert.KernelIdeal.Hand.Good m c := by
  refine ⟨fun n j hj => ?_, fun k => ?_⟩
  · rw [ix1_eq_valueIdx] at hj
    rw [ix2_eq_valueIdx]
    exact Cert.Pre.id_lt _ _ _ _ _ (h c) n j hj
  · obtain ⟨h0, h1⟩ := Cert.Pre.scale_fin _ _ _ _ _ (h c) k
    rw [ix1_eq_valueIdx]
    have h0' := of_cmp h0
    have h1' := of_cmp h1
    refine ⟨?_, ?_⟩
    · exact zero_bits.symm.le.trans h0'
    · exact (lt_of_lt_of_eq h1' top_bits).ne

/-- The kernel's results and the reference's are the same. -/
theorem algebraic : Cert.algebraic_KernelIdeal_ReferenceIdeal := by
  intro m g m' g' hpre hargs
  refine ⟨fun c => Cert.KernelIdeal.Hand.sumOut (Cert.KernelIdeal.Hand.bestOf m c), fun c => Cert.KernelIdeal.Hand.bestOf m c, ?_, ?_⟩
  · refine (θ_run _ _ _).mono (fun r h c => ?_) (θ_run_and (Cert.KernelIdeal.Hand.run_main m g (picks_ideal m hpre))
      (Cert.KernelIdeal.Hand.frame m g (picks_ideal m hpre)))
    have hg := good m hpre c
    have h7 := Cert.KernelIdeal.Hand.tail7 m c hg
    refine ⟨?_, ?_, h.2.1 c⟩
    · refine ((h.1 c).2 Cert.KernelIdeal.main_v9 (Pipeline.mem_restRefs_of Cert.KernelIdeal.main_v9 (by decide) (by decide))).trans ?_
      rw [Cert.KernelIdeal.Hand.tail9, h7]
    · exact ((h.1 c).2 Cert.KernelIdeal.main_v7 (Pipeline.mem_restRefs_of Cert.KernelIdeal.main_v7 (by decide) (by decide))).trans h7
  · refine (θ_run _ _ _).mono (fun r h c => ?_) (θ_run_and (Cert.ReferenceIdeal.Gen.run_main m' g') (Cert.ReferenceIdeal.Gen.unchanged m' g'))
    have hg := good m hpre c
    obtain ⟨a0, a1, a2, a3, a4⟩ := hargs c
    have h24 : Pipeline.afterTail₀ Cert.ReferenceIdeal.cfgs (Cert.ReferenceIdeal.Gen.dats m') 0 (Cert.ReferenceIdeal.Gen.V0 m')
        [Cert.ReferenceIdeal.Gen.hostOps1, Cert.ReferenceIdeal.Gen.hostOps1_1, Cert.ReferenceIdeal.Gen.hostOps1_2] c
        Cert.ReferenceIdeal.main_v24 = Cert.KernelIdeal.Hand.bestOf m c := by
      refine (Cert.ReferenceIdeal.Hand.tail24 m' c _ (Cert.ReferenceIdeal.Hand.wide_eq m' c)).trans ?_
      rw [a0, a1, a2, a3, a4]
      exact Cert.ReferenceIdeal.Hand.refBest_eq _ _ _ _ _ hg.1
    refine ⟨?_, ?_, h.2 c⟩
    · refine ((h.1 c).2 Cert.ReferenceIdeal.main_v26 (Pipeline.mem_restRefs_of Cert.ReferenceIdeal.main_v26 (by decide) (by decide))).trans ?_
      rw [Cert.ReferenceIdeal.Hand.tail26, h24]
      rfl
    · exact ((h.1 c).2 Cert.ReferenceIdeal.main_v24 (Pipeline.mem_restRefs_of Cert.ReferenceIdeal.main_v24 (by decide) (by decide))).trans h24

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_well_formed
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- Every claim of the certificate. -/
theorem claim : Cert.Claim := ⟨Cert.Kernel.Gen.facts, Cert.KernelIdeal.Gen.facts, Cert.ReferenceIdeal.Gen.facts, Cert.Pre_well_formed.Gen.facts,
  frame_bits, frame_ideal, fun m g _ => Cert.ReferenceIdeal.Gen.frame m g,
  fun m g _ => Cert.ReferenceIdeal.Gen.frame m g, trivial, algebraic⟩

end Cert.Proof

end
